-- ==== Defs.lean ====
def Pre_Kernel [hPre_boxes_on_grid : Cert.Pre_boxes_on_grid.Facts] (m : (ℓ : Loc Cert.Kernel.nD Cert.Kernel.τ Cert.Kernel.sig) → Buf (Elt Bits) ℓ) : Prop :=
  ∀ c : Dev Cert.Kernel.nD,
    (Cert.Pre_boxes_on_grid.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_boxes_on_grid : Cert.Pre_boxes_on_grid.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_on_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_on_grid [hPre_boxes_on_grid : Cert.Pre_boxes_on_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_on_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_boxes_on_grid : Cert.Pre_boxes_on_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_boxes_on_grid : Cert.Pre_boxes_on_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_on_grid [hReferenceIdeal : Cert.ReferenceIdeal.Facts] [hPre_boxes_on_grid : Cert.Pre_boxes_on_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_on_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_boxes_on_grid : Cert.Pre_boxes_on_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_on_grid : Cert.Pre_boxes_on_grid.Facts),
    quiescent_Kernel (hKernel := hKernel) (hPre_boxes_on_grid := hPre_boxes_on_grid)
    ∧ quiescent_KernelIdeal (hKernelIdeal := hKernelIdeal) (hPre_boxes_on_grid := hPre_boxes_on_grid)
    ∧ quiescent_ReferenceIdeal (hReferenceIdeal := hReferenceIdeal)
    ∧ quiescent_ReferenceIdeal_pre_boxes_on_grid (hReferenceIdeal := hReferenceIdeal) (hPre_boxes_on_grid := hPre_boxes_on_grid)
    ∧ preserves_Kernel_KernelIdeal
    ∧ algebraic_KernelIdeal_ReferenceIdeal (hKernelIdeal := hKernelIdeal) (hReferenceIdeal := hReferenceIdeal) (hPre_boxes_on_grid := hPre_boxes_on_grid)
-- ==== Pre_boxes_on_grid.lean ====
abbrev S4x256x200x200 : Shape := ⟨4, ![4, 256, 200, 200]⟩
abbrev S512x5 : Shape := ⟨2, ![512, 5]⟩
abbrev S512x1 : Shape := ⟨2, ![512, 1]⟩
abbrev S512 : Shape := ⟨1, ![512]⟩
abbrev S_ : Shape := ⟨0, ![]⟩

class Facts : Prop where
  slices_S512x5_S512x1_0_0 : S512x5.Slices ![0, 0] S512x1
  shapeCasts_S512x1_S512 : S512x1.ShapeCasts S512
  slices_S512x5_S512x1_0_1 : S512x5.Slices ![0, 1] S512x1
  slices_S512x5_S512x1_0_3 : S512x5.Slices ![0, 3] S512x1
  bcast_S_S512 : S_.BroadcastsInDim S512 (![] : Fin 0 → Fin S512.rank)

variable [Facts]

def fn_part1 {F : FTy → Type} [FloatOps F] (main_v18 : IVec S512 1) (main_v19 : IVec S512 32) : IVec S512 1 :=
  let main_c_3 : IVec S_ 32 := constantI S_ 32 63#32
  let main_v20 : IVec S512 32 := broadcastInDim S512 ![] bcast_S_S512 main_c_3
  let main_v21 : IVec S512 1 := cmpi .sle main_v19 main_v20
  let main_v22 : IVec S512 1 := andi main_v18 main_v21
  main_v22

def fn {F : FTy → Type} [FloatOps F] (main_arg0 : FVec F S4x256x200x200 .f32) (main_arg1 : IVec S512x5 32) : IVec S512 1 :=
  let main_v0 : IVec S512x1 32 := (extractStridedSlice S512x1 ![0, 0] · slices_S512x5_S512x1_0_0) main_arg1
  let main_v1 : IVec S512 32 := shapeCast S512 main_v0 shapeCasts_S512x1_S512
  let main_v2 : IVec S512x1 32 := (extractStridedSlice S512x1 ![0, 1] · slices_S512x5_S512x1_0_1) main_arg1
  let main_v3 : IVec S512 32 := shapeCast S512 main_v2 shapeCasts_S512x1_S512
  let main_v4 : IVec S512x1 32 := (extractStridedSlice S512x1 ![0, 3] · slices_S512x5_S512x1_0_3) main_arg1
  let main_v5 : IVec S512 32 := shapeCast S512 main_v4 shapeCasts_S512x1_S512
  let main_c : IVec S_ 32 := constantI S_ 32 0#32
  let main_v6 : IVec S512 32 := broadcastInDim S512 ![] bcast_S_S512 main_c
  let main_v7 : IVec S512 1 := cmpi .sge main_v1 main_v6
  let main_c_0 : IVec S_ 32 := constantI S_ 32 3#32
  let main_v8 : IVec S512 32 := broadcastInDim S512 ![] bcast_S_S512 main_c_0
  let main_v9 : IVec S512 1 := cmpi .sle main_v1 main_v8
  let main_v10 : IVec S512 1 := andi main_v7 main_v9
  let main_c_1 : IVec S_ 32 := constantI S_ 32 0#32
  let main_v11 : IVec S512 32 := broadcastInDim S512 ![] bcast_S_S512 main_c_1
  let main_v12 : IVec S512 1 := cmpi .sge main_v3 main_v11
  let main_v13 : IVec S512 1 := andi main_v10 main_v12
  let main_v14 : IVec S512 1 := cmpi .sle main_v3 main_v5
  let main_v15 : IVec S512 1 := andi main_v13 main_v14
  let main_c_2 : IVec S_ 32 := constantI S_ 32 199#32
  let main_v16 : IVec S512 32 := broadcastInDim S512 ![] bcast_S_S512 main_c_2
  let main_v17 : IVec S512 1 := cmpi .sle main_v5 main_v16
  let main_v18 : IVec S512 1 := andi main_v15 main_v17
  let main_v19 : IVec S512 32 := subi main_v5 main_v3
  fn_part1 (F := F) main_v18 main_v19
-- ==== Kernel.lean ====
abbrev S4x256x200x200 : Shape := ⟨4, ![4, 256, 200, 200]⟩
abbrev S512x5 : Shape := ⟨2, ![512, 5]⟩
abbrev S512x1 : Shape := ⟨2, ![512, 1]⟩
abbrev S512 : Shape := ⟨1, ![512]⟩
abbrev S512x4 : Shape := ⟨2, ![512, 4]⟩
abbrev S_ : Shape := ⟨0, ![]⟩
abbrev S7 : Shape := ⟨1, ![7]⟩
abbrev S1x7 : Shape := ⟨2, ![1, 7]⟩
abbrev S512x7 : Shape := ⟨2, ![512, 7]⟩
abbrev S49 : Shape := ⟨1, ![49]⟩
abbrev S512x49 : Shape := ⟨2, ![512, 49]⟩
abbrev S49x1 : Shape := ⟨2, ![49, 1]⟩
abbrev S512x49x1 : Shape := ⟨3, ![512, 49, 1]⟩
abbrev S512x49x8 : Shape := ⟨3, ![512, 49, 8]⟩
abbrev S512x7x8 : Shape := ⟨3, ![512, 7, 8]⟩
abbrev S512x56x8 : Shape := ⟨3, ![512, 56, 8]⟩
abbrev S1120 : Shape := ⟨1, ![1120]⟩
abbrev S1x1120 : Shape := ⟨2, ![1, 1120]⟩
abbrev S4x200x200x256 : Shape := ⟨4, ![4, 200, 200, 256]⟩
abbrev S512x8 : Shape := ⟨2, ![512, 8]⟩
abbrev S512x49x256 : Shape := ⟨3, ![512, 49, 256]⟩
abbrev S1x56x8 : Shape := ⟨3, ![1, 56, 8]⟩
abbrev S1x49x256 : Shape := ⟨3, ![1, 49, 256]⟩
abbrev S6x14x80x256 : Shape := ⟨4, ![6, 14, 80, 256]⟩
abbrev S6x7 : Shape := ⟨2, ![6, 7]⟩
abbrev S1 : Shape := ⟨1, ![1]⟩
abbrev S1x1 : Shape := ⟨2, ![1, 1]⟩
abbrev S1x2x80x256 : Shape := ⟨4, ![1, 2, 80, 256]⟩
abbrev S2x80x256 : Shape := ⟨3, ![2, 80, 256]⟩
abbrev S56x8 : Shape := ⟨2, ![56, 8]⟩
abbrev S56x1 : Shape := ⟨2, ![56, 1]⟩
abbrev S56x1120 : Shape := ⟨2, ![56, 1120]⟩
abbrev S1x14x80x256 : Shape := ⟨4, ![1, 14, 80, 256]⟩
abbrev S14x80x256 : Shape := ⟨3, ![14, 80, 256]⟩
abbrev S1120x256 : Shape := ⟨2, ![1120, 256]⟩
abbrev S56x256 : Shape := ⟨2, ![56, 256]⟩
abbrev S49x256 : Shape := ⟨2, ![49, 256]⟩
abbrev S512x256x49 : Shape := ⟨3, ![512, 256, 49]⟩
abbrev S512x256x7x7 : Shape := ⟨4, ![512, 256, 7, 7]⟩

abbrev nBuf : Space → Nat
  | .hbm => 323
  | .vmem => 7
  | .smem => 3
  | _ => 0

abbrev hbmTy0_0 (i : Nat) : BufTy := match i % 128 with
  | 0 => ⟨S4x256x200x200, .f32⟩
  | 1 => ⟨S512x5, .i32⟩
  | 2 => ⟨S512x1, .i32⟩
  | 3 => ⟨S512x4, .i32⟩
  | 4 => ⟨S512x4, .f32⟩
  | 5 => ⟨S_, .f32⟩
  | 6 => ⟨S512x4, .f32⟩
  | 7 => ⟨S512x4, .f32⟩
  | 8 => ⟨S512x1, .f32⟩
  | 9 => ⟨S512, .f32⟩
  | 10 => ⟨S512x1, .f32⟩
  | 11 => ⟨S512, .f32⟩
  | 12 => ⟨S512x1, .f32⟩
  | 13 => ⟨S512, .f32⟩
  | 14 => ⟨S512x1, .f32⟩
  | 15 => ⟨S512, .f32⟩
  | 16 => ⟨S7, .f32⟩
  | 17 => ⟨S7, .f32⟩
  | 18 => ⟨S512x1, .f32⟩
  | 19 => ⟨S1x7, .f32⟩
  | 20 => ⟨S512, .f32⟩
  | 21 => ⟨S512x1, .f32⟩
  | 22 => ⟨S512x7, .f32⟩
  | 23 => ⟨S512x7, .f32⟩
  | 24 => ⟨S512x7, .f32⟩
  | 25 => ⟨S_, .f32⟩
  | 26 => ⟨S512x7, .f32⟩
  | 27 => ⟨S512x7, .f32⟩
  | 28 => ⟨S512x7, .f32⟩
  | 29 => ⟨S512x7, .f32⟩
  | 30 => ⟨S512x1, .f32⟩
  | 31 => ⟨S1x7, .f32⟩
  | 32 => ⟨S512, .f32⟩
  | 33 => ⟨S512x1, .f32⟩
  | 34 => ⟨S512x7, .f32⟩
  | 35 => ⟨S512x7, .f32⟩
  | 36 => ⟨S512x7, .f32⟩
  | 37 => ⟨S_, .f32⟩
  | 38 => ⟨S512x7, .f32⟩
  | 39 => ⟨S512x7, .f32⟩
  | 40 => ⟨S512x7, .f32⟩
  | 41 => ⟨S512x7, .f32⟩
  | 42 => ⟨S512x7, .f32⟩
  | 43 => ⟨S512x7, .f32⟩
  | 44 => ⟨S512x7, .f32⟩
  | 45 => ⟨S512x7, .f32⟩
  | 46 => ⟨S512x7, .i32⟩
  | 47 => ⟨S_, .i32⟩
  | 48 => ⟨S_, .i32⟩
  | 49 => ⟨S_, .i32⟩
  | 50 => ⟨S512x7, .i32⟩
  | 51 => ⟨S512x7, .i32⟩
  | 52 => ⟨S_, .i32⟩
  | 53 => ⟨S512x7, .i32⟩
  | 54 => ⟨S512x7, .i32⟩
  | 55 => ⟨S_, .i32⟩
  | 56 => ⟨S512x7, .i32⟩
  | 57 => ⟨S512x7, .i32⟩
  | 58 => ⟨S_, .i32⟩
  | 59 => ⟨S_, .i32⟩
  | 60 => ⟨S_, .i32⟩
  | 61 => ⟨S512x7, .i32⟩
  | 62 => ⟨S512x7, .i32⟩
  | 63 => ⟨S_, .i32⟩
  | 64 => ⟨S512x7, .i32⟩
  | 65 => ⟨S512x7, .i32⟩
  | 66 => ⟨S512x7, .i32⟩
  | 67 => ⟨S_, .i32⟩
  | 68 => ⟨S_, .i32⟩
  | 69 => ⟨S_, .i32⟩
  | 70 => ⟨S512x7, .i32⟩
  | 71 => ⟨S512x7, .i32⟩
  | 72 => ⟨S_, .i32⟩
  | 73 => ⟨S512x7, .i32⟩
  | 74 => ⟨S512x7, .i32⟩
  | 75 => ⟨S_, .i32⟩
  | 76 => ⟨S512x7, .i32⟩
  | 77 => ⟨S512x7, .i32⟩
  | 78 => ⟨S_, .i32⟩
  | 79 => ⟨S_, .i32⟩
  | 80 => ⟨S_, .i32⟩
  | 81 => ⟨S512x7, .i32⟩
  | 82 => ⟨S512x7, .i32⟩
  | 83 => ⟨S_, .i32⟩
  | 84 => ⟨S512x7, .i32⟩
  | 85 => ⟨S512x7, .i32⟩
  | 86 => ⟨S_, .i32⟩
  | 87 => ⟨S512x7, .i32⟩
  | 88 => ⟨S512x7, .i32⟩
  | 89 => ⟨S512x7, .i32⟩
  | 90 => ⟨S512x7, .f32⟩
  | 91 => ⟨S512x7, .i32⟩
  | 92 => ⟨S512x7, .f32⟩
  | 93 => ⟨S_, .f32⟩
  | 94 => ⟨S512x7, .f32⟩
  | 95 => ⟨S512x7, .f32⟩
  | 96 => ⟨S_, .f32⟩
  | 97 => ⟨S512x7, .f32⟩
  | 98 => ⟨S512x7, .i1⟩
  | 99 => ⟨S512x7, .f32⟩
  | 100 => ⟨S512x7, .f32⟩
  | 101 => ⟨S_, .f32⟩
  | 102 => ⟨S512x7, .f32⟩
  | 103 => ⟨S512x7, .i1⟩
  | 104 => ⟨S512x7, .f32⟩
  | 105 => ⟨S512x7, .f32⟩
  | 106 => ⟨S512x7, .f32⟩
  | 107 => ⟨S_, .f32⟩
  | 108 => ⟨S512x7, .f32⟩
  | 109 => ⟨S512x7, .f32⟩
  | 110 => ⟨S_, .f32⟩
  | 111 => ⟨S512x7, .f32⟩
  | 112 => ⟨S512x7, .i1⟩
  | 113 => ⟨S512x7, .f32⟩
  | 114 => ⟨S512x7, .f32⟩
  | 115 => ⟨S_, .f32⟩
  | 116 => ⟨S512x7, .f32⟩
  | 117 => ⟨S512x7, .i1⟩
  | 118 => ⟨S512x7, .f32⟩
  | 119 => ⟨S512x7, .f32⟩
  | 120 => ⟨S512x7, .f32⟩
  | 121 => ⟨S512x1, .i32⟩
  | 122 => ⟨S512, .i32⟩
  | 123 => ⟨S_, .i32⟩
  | 124 => ⟨S_, .i32⟩
  | 125 => ⟨S512, .i32⟩
  | 126 => ⟨S512, .i32⟩
  | 127 => ⟨S512, .i32⟩
  | _ => ⟨S4x256x200x200, .f32⟩

abbrev hbmTy0_1 (i : Nat) : BufTy := match i % 128 with
  | 0 => ⟨S_, .i32⟩
  | 1 => ⟨S512, .i32⟩
  | 2 => ⟨S512, .i1⟩
  | 3 => ⟨S512, .i32⟩
  | 4 => ⟨S512, .i32⟩
  | 5 => ⟨S_, .i32⟩
  | 6 => ⟨S512, .i32⟩
  | 7 => ⟨S512, .i1⟩
  | 8 => ⟨S512, .i1⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i32⟩
  | 16 => ⟨S_, .i32⟩
  | 17 => ⟨S512, .i32⟩
  | 18 => ⟨S512x1, .i32⟩
  | 19 => ⟨S512x7, .i32⟩
  | 20 => ⟨S512x7, .i32⟩
  | 21 => ⟨S512x7, .f32⟩
  | 22 => ⟨S512x1, .i32⟩
  | 23 => ⟨S512x7, .i32⟩
  | 24 => ⟨S512x7, .i32⟩
  | 25 => ⟨S512x7, .f32⟩
  | 26 => ⟨S_, .f32⟩
  | 27 => ⟨S512x7, .f32⟩
  | 28 => ⟨S512x7, .f32⟩
  | 29 => ⟨S49, .i32⟩
  | 30 => ⟨S_, .i32⟩
  | 31 => ⟨S_, .i32⟩
  | 32 => ⟨S49, .i32⟩
  | 33 => ⟨S49, .i32⟩
  | 34 => ⟨S49, .i32⟩
  | 35 => ⟨S_, .i32⟩
  | 36 => ⟨S49, .i32⟩
  | 37 => ⟨S49, .i1⟩
  | 38 => ⟨S49, .i32⟩
  | 39 => ⟨S49, .i32⟩
  | 40 => ⟨S_, .i32⟩
  | 41 => ⟨S49, .i32⟩
  | 42 => ⟨S49, .i1⟩
  | 43 => ⟨S49, .i1⟩
  | 44 => ⟨S_, .i32⟩
  | 45 => ⟨S49, .i32⟩
  | 46 => ⟨S49, .i32⟩
  | 47 => ⟨S49, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S49, .i32⟩
  | 55 => ⟨S49, .i32⟩
  | 56 => ⟨S_, .i32⟩
  | 57 => ⟨S49, .i32⟩
  | 58 => ⟨S49, .i1⟩
  | 59 => ⟨S_, .i32⟩
  | 60 => ⟨S49, .i32⟩
  | 61 => ⟨S49, .i1⟩
  | 62 => ⟨S_, .i32⟩
  | 63 => ⟨S_, .i1⟩
  | 64 => ⟨S49, .i1⟩
  | 65 => ⟨S49, .i1⟩
  | 66 => ⟨S49, .i1⟩
  | 67 => ⟨S49, .i32⟩
  | 68 => ⟨S49, .i32⟩
  | 69 => ⟨S49, .i32⟩
  | 70 => ⟨S_, .i32⟩
  | 71 => ⟨S49, .i32⟩
  | 72 => ⟨S49, .i32⟩
  | 73 => ⟨S49, .f32⟩
  | 74 => ⟨S512x49, .f32⟩
  | 75 => ⟨S_, .f32⟩
  | 76 => ⟨S512x49, .f32⟩
  | 77 => ⟨S512x49, .f32⟩
  | 78 => ⟨S_, .i32⟩
  | 79 => ⟨S49, .i32⟩
  | 80 => ⟨S49, .i1⟩
  | 81 => ⟨S_, .i32⟩
  | 82 => ⟨S49, .i32⟩
  | 83 => ⟨S49, .i32⟩
  | 84 => ⟨S49, .i32⟩
  | 85 => ⟨S49x1, .i32⟩
  | 86 => ⟨S512x49, .f32⟩
  | 87 => ⟨S_, .i32⟩
  | 88 => ⟨S49, .i32⟩
  | 89 => ⟨S49, .i1⟩
  | 90 => ⟨S_, .i32⟩
  | 91 => ⟨S49, .i32⟩
  | 92 => ⟨S49, .i32⟩
  | 93 => ⟨S49, .i32⟩
  | 94 => ⟨S49x1, .i32⟩
  | 95 => ⟨S512x49, .f32⟩
  | 96 => ⟨S_, .i32⟩
  | 97 => ⟨S49, .i32⟩
  | 98 => ⟨S49, .i1⟩
  | 99 => ⟨S_, .i32⟩
  | 100 => ⟨S49, .i32⟩
  | 101 => ⟨S49, .i32⟩
  | 102 => ⟨S49, .i32⟩
  | 103 => ⟨S49x1, .i32⟩
  | 104 => ⟨S512x49, .f32⟩
  | 105 => ⟨S_, .i32⟩
  | 106 => ⟨S49, .i32⟩
  | 107 => ⟨S49, .i1⟩
  | 108 => ⟨S_, .i32⟩
  | 109 => ⟨S49, .i32⟩
  | 110 => ⟨S49, .i32⟩
  | 111 => ⟨S49, .i32⟩
  | 112 => ⟨S49x1, .i32⟩
  | 113 => ⟨S512x49, .f32⟩
  | 114 => ⟨S_, .i32⟩
  | 115 => ⟨S49, .i32⟩
  | 116 => ⟨S49, .i1⟩
  | 117 => ⟨S_, .i32⟩
  | 118 => ⟨S49, .i32⟩
  | 119 => ⟨S49, .i32⟩
  | 120 => ⟨S49, .i32⟩
  | 121 => ⟨S49x1, .i32⟩
  | 122 => ⟨S512x49, .f32⟩
  | 123 => ⟨S_, .i32⟩
  | 124 => ⟨S49, .i32⟩
  | 125 => ⟨S49, .i1⟩
  | 126 => ⟨S_, .i32⟩
  | 127 => ⟨S49, .i32⟩
  | _ => ⟨S4x256x200x200, .f32⟩

abbrev hbmTy0_2 (i : Nat) : BufTy := match i % 128 with
  | 0 => ⟨S49, .i32⟩
  | 1 => ⟨S49, .i32⟩
  | 2 => ⟨S49x1, .i32⟩
  | 3 => ⟨S512x49, .f32⟩
  | 4 => ⟨S512x49x1, .f32⟩
  | 5 => ⟨S512x49x1, .f32⟩
  | 6 => ⟨S512x49x1, .f32⟩
  | 7 => ⟨S512x49x1, .f32⟩
  | 8 => ⟨S512x49x1, .f32⟩
  | 9 => ⟨S512x49x1, .f32⟩
  | 10 => ⟨S512x49x1, .f32⟩
  | 11 => ⟨S512x49x1, .f32⟩
  | 12 => ⟨S512x49x8, .f32⟩
  | 13 => ⟨S_, .f32⟩
  | 14 => ⟨S512x7x8, .f32⟩
  | 15 => ⟨S512x56x8, .f32⟩
  | 16 => ⟨S1120, .i32⟩
  | 17 => ⟨S_, .i32⟩
  | 18 => ⟨S_, .i32⟩
  | 19 => ⟨S1120, .i32⟩
  | 20 => ⟨S1120, .i32⟩
  | 21 => ⟨S1120, .i32⟩
  | 22 => ⟨S_, .i32⟩
  | 23 => ⟨S1120, .i32⟩
  | 24 => ⟨S1120, .i1⟩
  | 25 => ⟨S1120, .i32⟩
  | 26 => ⟨S1120, .i32⟩
  | 27 => ⟨S_, .i32⟩
  | 28 => ⟨S1120, .i32⟩
  | 29 => ⟨S1120, .i1⟩
  | 30 => ⟨S1120, .i1⟩
  | 31 => ⟨S_, .i32⟩
  | 32 => ⟨S1120, .i32⟩
  | 33 => ⟨S1120, .i32⟩
  | 34 => ⟨S1120, .i32⟩
  | 35 => ⟨S1120, .f32⟩
  | 36 => ⟨S1x1120, .f32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S1120, .i32⟩
  | 44 => ⟨S1120, .i32⟩
  | 45 => ⟨S_, .i32⟩
  | 46 => ⟨S1120, .i32⟩
  | 47 => ⟨S1120, .i1⟩
  | 48 => ⟨S_, .i32⟩
  | 49 => ⟨S1120, .i32⟩
  | 50 => ⟨S1120, .i1⟩
  | 51 => ⟨S_, .i32⟩
  | 52 => ⟨S_, .i1⟩
  | 53 => ⟨S1120, .i1⟩
  | 54 => ⟨S1120, .i1⟩
  | 55 => ⟨S1120, .i1⟩
  | 56 => ⟨S1120, .i32⟩
  | 57 => ⟨S1120, .i32⟩
  | 58 => ⟨S1120, .i32⟩
  | 59 => ⟨S1120, .f32⟩
  | 60 => ⟨S1x1120, .f32⟩
  | 61 => ⟨S4x200x200x256, .f32⟩
  | 62 => ⟨S_, .i32⟩
  | 63 => ⟨S512x1, .i32⟩
  | 64 => ⟨S512x49x256, .f32⟩
  | 65 => ⟨S512x256x49, .f32⟩
  | 66 => ⟨S512x256x7x7, .f32⟩
  | _ => ⟨S4x256x200x200, .f32⟩

abbrev hbmTy (i : Nat) : BufTy := match i / 128 with
  | 0 => hbmTy0_0 i
  | 1 => hbmTy0_1 i
  | 2 => hbmTy0_2 i
  | _ => ⟨S4x256x200x200, .f32⟩

abbrev bufTy : (tb : Table) → Fin (tcTables nBuf tb) → BufTy
  | .hbm, ⟨i, _⟩ => hbmTy i
  | .local _ .vmem, ⟨0, _⟩ => ⟨S1x56x8, .f32⟩
  | .local _ .vmem, ⟨1, _⟩ => ⟨S1x56x8, .f32⟩
  | .local _ .vmem, ⟨2, _⟩ => ⟨S1x1120, .f32⟩
  | .local _ .vmem, ⟨3, _⟩ => ⟨S1x1120, .f32⟩
  | .local _ .vmem, ⟨4, _⟩ => ⟨S1x49x256, .f32⟩
  | .local _ .vmem, ⟨5, _⟩ => ⟨S1x49x256, .f32⟩
  | .local _ .vmem, ⟨6, _⟩ => ⟨S6x14x80x256, .f32⟩
  | .local _ .smem, ⟨0, _⟩ => ⟨S512, .i32⟩
  | .local _ .smem, ⟨1, _⟩ => ⟨S512, .i32⟩
  | .local _ .smem, ⟨2, _⟩ => ⟨S512x8, .i32⟩
  | _, _ => ⟨S4x256x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst_0 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst_1 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_c : Ref sig .tc := ⟨.hbm, 47, rfl⟩
abbrev main_c_2 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v43 : Ref sig .tc := ⟨.hbm, 54, rfl⟩
abbrev main_c_3 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_c_5 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_c_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_c_10 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v51 : Ref sig .tc := ⟨.hbm, 85, rfl⟩
abbrev main_c_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_v59 : Ref sig .tc := ⟨.hbm, 95, rfl⟩
abbrev main_cst_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_cst_16 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_17 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_18 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_c : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_0 : Ref sig .tc := ⟨.hbm, 137, rfl⟩
abbrev main_call4_v12 : Ref sig .tc := ⟨.hbm, 138, rfl⟩
abbrev main_call4_v13 : Ref sig .tc := ⟨.hbm, 139, rfl⟩
abbrev main_v82 : Ref sig .tc := ⟨.hbm, 140, rfl⟩
abbrev main_c_19 : Ref sig .tc := ⟨.hbm, 141, rfl⟩
abbrev main_v83 : Ref sig .tc := ⟨.hbm, 142, rfl⟩
abbrev main_v84 : Ref sig .tc := ⟨.hbm, 143, rfl⟩
abbrev main_c_20 : Ref sig .tc := ⟨.hbm, 144, rfl⟩
abbrev main_v85 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_21 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_c_22 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_c : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_0 : Ref sig .tc := ⟨.hbm, 172, rfl⟩
abbrev main_call5_v12 : Ref sig .tc := ⟨.hbm, 173, rfl⟩
abbrev main_call5_v13 : Ref sig .tc := ⟨.hbm, 174, rfl⟩
abbrev main_v98 : Ref sig .tc := ⟨.hbm, 175, rfl⟩
abbrev main_c_23 : Ref sig .tc := ⟨.hbm, 176, rfl⟩
abbrev main_call6_v0 : Ref sig .tc := ⟨.hbm, 177, rfl⟩
abbrev main_call6_c : Ref sig .tc := ⟨.hbm, 178, rfl⟩
abbrev main_call6_v1 : Ref sig .tc := ⟨.hbm, 179, rfl⟩
abbrev main_call6_c_0 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_call6_c_1 : Ref sig .tc := ⟨.hbm, 184, rfl⟩
abbrev main_call6_v5 : Ref sig .tc := ⟨.hbm, 185, rfl⟩
abbrev main_call6_v6 : Ref sig .tc := ⟨.hbm, 186, rfl⟩
abbrev main_call6_c_2 : Ref sig .tc := ⟨.hbm, 187, rfl⟩
abbrev main_call6_v7 : Ref sig .tc := ⟨.hbm, 188, rfl⟩
abbrev main_call6_v8 : Ref sig .tc := ⟨.hbm, 189, rfl⟩
abbrev main_call6_c_3 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_v12 : Ref sig .tc := ⟨.hbm, 194, rfl⟩
abbrev main_call6_v13 : Ref sig .tc := ⟨.hbm, 195, rfl⟩
abbrev main_call6_v14 : Ref sig .tc := ⟨.hbm, 196, rfl⟩
abbrev main_v99 : Ref sig .tc := ⟨.hbm, 197, rfl⟩
abbrev main_c_24 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_25 : Ref sig .tc := ⟨.hbm, 203, rfl⟩
abbrev main_v104 : Ref sig .tc := ⟨.hbm, 204, rfl⟩
abbrev main_v105 : Ref sig .tc := ⟨.hbm, 205, rfl⟩
abbrev main_c_26 : Ref sig .tc := ⟨.hbm, 206, rfl⟩
abbrev main_v106 : Ref sig .tc := ⟨.hbm, 207, rfl⟩
abbrev main_v107 : Ref sig .tc := ⟨.hbm, 208, rfl⟩
abbrev main_c_27 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_c_28 : Ref sig .tc := ⟨.hbm, 215, rfl⟩
abbrev main_v113 : Ref sig .tc := ⟨.hbm, 216, rfl⟩
abbrev main_v114 : Ref sig .tc := ⟨.hbm, 217, rfl⟩
abbrev main_c_29 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_c_30 : Ref sig .tc := ⟨.hbm, 224, rfl⟩
abbrev main_v120 : Ref sig .tc := ⟨.hbm, 225, rfl⟩
abbrev main_v121 : Ref sig .tc := ⟨.hbm, 226, rfl⟩
abbrev main_c_31 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_c_32 : Ref sig .tc := ⟨.hbm, 233, rfl⟩
abbrev main_v127 : Ref sig .tc := ⟨.hbm, 234, rfl⟩
abbrev main_v128 : Ref sig .tc := ⟨.hbm, 235, rfl⟩
abbrev main_c_33 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_c_34 : Ref sig .tc := ⟨.hbm, 242, rfl⟩
abbrev main_v134 : Ref sig .tc := ⟨.hbm, 243, rfl⟩
abbrev main_v135 : Ref sig .tc := ⟨.hbm, 244, rfl⟩
abbrev main_c_35 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_c_36 : Ref sig .tc := ⟨.hbm, 251, rfl⟩
abbrev main_v141 : Ref sig .tc := ⟨.hbm, 252, rfl⟩
abbrev main_v142 : Ref sig .tc := ⟨.hbm, 253, rfl⟩
abbrev main_c_37 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_cst_38 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_c_39 : Ref sig .tc := ⟨.hbm, 273, rfl⟩
abbrev main_call7_v0 : Ref sig .tc := ⟨.hbm, 274, rfl⟩
abbrev main_call7_v1 : Ref sig .tc := ⟨.hbm, 275, rfl⟩
abbrev main_call7_v2 : Ref sig .tc := ⟨.hbm, 276, rfl⟩
abbrev main_call7_v3 : Ref sig .tc := ⟨.hbm, 277, rfl⟩
abbrev main_call7_v4 : Ref sig .tc := ⟨.hbm, 278, rfl⟩
abbrev main_call7_v5 : Ref sig .tc := ⟨.hbm, 279, rfl⟩
abbrev main_call7_v6 : Ref sig .tc := ⟨.hbm, 280, rfl⟩
abbrev main_call7_v7 : Ref sig .tc := ⟨.hbm, 281, rfl⟩
abbrev main_call7_v8 : Ref sig .tc := ⟨.hbm, 282, rfl⟩
abbrev main_call7_c : Ref sig .tc := ⟨.hbm, 283, rfl⟩
abbrev main_call7_v9 : Ref sig .tc := ⟨.hbm, 284, rfl⟩
abbrev main_call7_v10 : Ref sig .tc := ⟨.hbm, 285, rfl⟩
abbrev main_call7_v11 : Ref sig .tc := ⟨.hbm, 286, rfl⟩
abbrev main_call7_c_0 : Ref sig .tc := ⟨.hbm, 287, rfl⟩
abbrev main_call7_v12 : Ref sig .tc := ⟨.hbm, 288, rfl⟩
abbrev main_call7_v13 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_c_40 : Ref sig .tc := ⟨.hbm, 293, rfl⟩
abbrev main_call8_v0 : Ref sig .tc := ⟨.hbm, 294, rfl⟩
abbrev main_call8_c : Ref sig .tc := ⟨.hbm, 295, rfl⟩
abbrev main_call8_v1 : Ref sig .tc := ⟨.hbm, 296, rfl⟩
abbrev main_call8_c_0 : Ref sig .tc := ⟨.hbm, 297, rfl⟩
abbrev main_call8_v2 : Ref sig .tc := ⟨.hbm, 298, rfl⟩
abbrev main_call8_v3 : Ref sig .tc := ⟨.hbm, 299, rfl⟩
abbrev main_call8_v4 : Ref sig .tc := ⟨.hbm, 300, rfl⟩
abbrev main_call8_c_1 : Ref sig .tc := ⟨.hbm, 301, rfl⟩
abbrev main_call8_v5 : Ref sig .tc := ⟨.hbm, 302, rfl⟩
abbrev main_call8_v6 : Ref sig .tc := ⟨.hbm, 303, rfl⟩
abbrev main_call8_c_2 : Ref sig .tc := ⟨.hbm, 304, rfl⟩
abbrev main_call8_v7 : Ref sig .tc := ⟨.hbm, 305, rfl⟩
abbrev main_call8_v8 : Ref sig .tc := ⟨.hbm, 306, rfl⟩
abbrev main_call8_c_3 : Ref sig .tc := ⟨.hbm, 307, rfl⟩
abbrev main_call8_v9 : Ref sig .tc := ⟨.hbm, 308, rfl⟩
abbrev main_call8_v10 : Ref sig .tc := ⟨.hbm, 309, rfl⟩
abbrev main_call8_v11 : Ref sig .tc := ⟨.hbm, 310, rfl⟩
abbrev main_call8_v12 : Ref sig .tc := ⟨.hbm, 311, rfl⟩
abbrev main_call8_v13 : Ref sig .tc := ⟨.hbm, 312, rfl⟩
abbrev main_call8_v14 : Ref sig .tc := ⟨.hbm, 313, rfl⟩
abbrev main_v163 : Ref sig .tc := ⟨.hbm, 314, rfl⟩
abbrev main_v164 : Ref sig .tc := ⟨.hbm, 315, rfl⟩
abbrev main_v165 : Ref sig .tc := ⟨.hbm, 316, rfl⟩
abbrev main_v166 : Ref sig .tc := ⟨.hbm, 317, rfl⟩
abbrev main_c_41 : Ref sig .tc := ⟨.hbm, 318, rfl⟩
abbrev main_v167 : Ref sig .tc := ⟨.hbm, 319, rfl⟩
abbrev main_v169 : Ref sig .tc := ⟨.hbm, 320, rfl⟩
abbrev main_v170 : Ref sig .tc := ⟨.hbm, 321, rfl⟩
abbrev main_v171 : Ref sig .tc := ⟨.hbm, 322, rfl⟩
abbrev main_v1 : Ref sig .tc := ⟨.smem, 0, rfl⟩
abbrev main_v86 : Ref sig .tc := ⟨.smem, 1, rfl⟩
abbrev main_v168 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 256], ![false, false]⟩

abbrev pre0 : Pipeline.Prefetch sig := ⟨3, ![main_v1.idx, main_v86.idx, main_v168.idx], fun | 0 => main_v1.names | 1 => main_v86.names | 2 => main_v168.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v109 : Index := Scalar.indexCast v107
  ![v109.toNat]
def k0_mult1 (v112 : BitVec 32) : BitVec 32 :=
  v112

def k0_chk1 (i : grid0.Coords) (v112 : BitVec 32) : Prop :=
  (∀ (k0_h1 : k0_cond1 i = 1#1), 8 ∣ (k0_mult1 v112).toNat)
theorem k0_mult1_dvd : ∀ (i : grid0.Coords) (v112 : BitVec 32) (k0_hw1 : k0_chk1 i v112), ∀ (k0_h1 : k0_cond1 i = 1#1), 8 ∣ (k0_mult1 v112).toNat := fun i v112 k0_hw1 k0_h1 => k0_hw1 k0_h1

def k0_off2 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v114 : Index := Scalar.indexCast v107
  let c0_64 : Index := 0#32
  ![v114.toNat, 0]
def k0_off3 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c0_i32_65 : BitVec 32 := 0#32
  ![v108.toNat, 0]
def k0_off4 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c0_i32_66 : BitVec 32 := 0#32
  let c0_i32_67 : BitVec 32 := 0#32
  let c0_i32_68 : BitVec 32 := 0#32
  ![v108.toNat, 0, 0, 0]
def k0_off5 (v110 : BitVec 32) (v112 : BitVec 32) (v115 : BitVec 32) : Fin 4 → Nat :=
  let v113 : BitVec 32 := v112
  let c0_i32_69 : BitVec 32 := 0#32
  ![v110.toNat, v115.toNat, v113.toNat, 0]

def k0_chk2 (i : grid0.Coords) (v110 : BitVec 32) (v112 : BitVec 32) (v115 : BitVec 32) : Prop :=
  (∀ (k0_h1 : k0_cond1 i = 1#1), ∀ a, (k0_off5 v110 v112 v115) a + S1x2x80x256.size a ≤ S4x200x200x256.size a)
theorem k0_off5_inb : ∀ (i : grid0.Coords) (v110 : BitVec 32) (v112 : BitVec 32) (v115 : BitVec 32) (k0_hw2 : k0_chk2 i v110 v112 v115), ∀ (k0_h1 : k0_cond1 i = 1#1), ∀ a, (k0_off5 v110 v112 v115) a + S1x2x80x256.size a ≤ S4x200x200x256.size a := fun i v110 v112 v115 k0_hw2 k0_h1 => k0_hw2 k0_h1

def k0_off6 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v122 : Index := Scalar.indexCast v107
  let c1 : Index := 1#32
  ![v122.toNat, 1]
def k0_off7 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c1_i32_70 : BitVec 32 := 1#32
  ![v108.toNat, 1]
def k0_off8 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c2_i32_71 : BitVec 32 := 2#32
  let c0_i32_72 : BitVec 32 := 0#32
  let c0_i32_73 : BitVec 32 := 0#32
  ![v108.toNat, 2, 0, 0]
def k0_off9 (v110 : BitVec 32) (v112 : BitVec 32) (v123 : BitVec 32) : Fin 4 → Nat :=
  let v113 : BitVec 32 := v112
  let c0_i32_74 : BitVec 32 := 0#32
  ![v110.toNat, v123.toNat, v113.toNat, 0]

def k0_chk3 (i : grid0.Coords) (v110 : BitVec 32) (v112 : BitVec 32) (v123 : BitVec 32) : Prop :=
  (∀ (k0_h1 : k0_cond1 i = 1#1), ∀ a, (k0_off9 v110 v112 v123) a + S1x2x80x256.size a ≤ S4x200x200x256.size a)
theorem k0_off9_inb : ∀ (i : grid0.Coords) (v110 : BitVec 32) (v112 : BitVec 32) (v123 : BitVec 32) (k0_hw3 : k0_chk3 i v110 v112 v123), ∀ (k0_h1 : k0_cond1 i = 1#1), ∀ a, (k0_off9 v110 v112 v123) a + S1x2x80x256.size a ≤ S4x200x200x256.size a := fun i v110 v112 v123 k0_hw3 k0_h1 => k0_hw3 k0_h1

def k0_off10 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v130 : Index := Scalar.indexCast v107
  let c2 : Index := 2#32
  ![v130.toNat, 2]
def k0_off11 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c2_i32_75 : BitVec 32 := 2#32
  ![v108.toNat, 2]
def k0_off12 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c4_i32_76 : BitVec 32 := 4#32
  let c0_i32_77 : BitVec 32 := 0#32
  let c0_i32_78 : BitVec 32 := 0#32
  ![v108.toNat, 4, 0, 0]
def k0_off13 (v110 : BitVec 32) (v112 : BitVec 32) (v131 : BitVec 32) : Fin 4 → Nat :=
  let v113 : BitVec 32 := v112
  let c0_i32_79 : BitVec 32 := 0#32
  ![v110.toNat, v131.toNat, v113.toNat, 0]

def k0_chk4 (i : grid0.Coords) (v110 : BitVec 32) (v112 : BitVec 32) (v131 : BitVec 32) : Prop :=
  (∀ (k0_h1 : k0_cond1 i = 1#1), ∀ a, (k0_off13 v110 v112 v131) a + S1x2x80x256.size a ≤ S4x200x200x256.size a)
theorem k0_off13_inb : ∀ (i : grid0.Coords) (v110 : BitVec 32) (v112 : BitVec 32) (v131 : BitVec 32) (k0_hw4 : k0_chk4 i v110 v112 v131), ∀ (k0_h1 : k0_cond1 i = 1#1), ∀ a, (k0_off13 v110 v112 v131) a + S1x2x80x256.size a ≤ S4x200x200x256.size a := fun i v110 v112 v131 k0_hw4 k0_h1 => k0_hw4 k0_h1

def k0_off14 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v138 : Index := Scalar.indexCast v107
  let c3 : Index := 3#32
  ![v138.toNat, 3]
def k0_off15 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c3_i32_80 : BitVec 32 := 3#32
  ![v108.toNat, 3]
def k0_off16 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c6_i32_81 : BitVec 32 := 6#32
  let c0_i32_82 : BitVec 32 := 0#32
  let c0_i32_83 : BitVec 32 := 0#32
  ![v108.toNat, 6, 0, 0]
def k0_off17 (v110 : BitVec 32) (v112 : BitVec 32) (v139 : BitVec 32) : Fin 4 → Nat :=
  let v113 : BitVec 32 := v112
  let c0_i32_84 : BitVec 32 := 0#32
  ![v110.toNat, v139.toNat, v113.toNat, 0]

def k0_chk5 (i : grid0.Coords) (v110 : BitVec 32) (v112 : BitVec 32) (v139 : BitVec 32) : Prop :=
  (∀ (k0_h1 : k0_cond1 i = 1#1), ∀ a, (k0_off17 v110 v112 v139) a + S1x2x80x256.size a ≤ S4x200x200x256.size a)
theorem k0_off17_inb : ∀ (i : grid0.Coords) (v110 : BitVec 32) (v112 : BitVec 32) (v139 : BitVec 32) (k0_hw5 : k0_chk5 i v110 v112 v139), ∀ (k0_h1 : k0_cond1 i = 1#1), ∀ a, (k0_off17 v110 v112 v139) a + S1x2x80x256.size a ≤ S4x200x200x256.size a := fun i v110 v112 v139 k0_hw5 k0_h1 => k0_hw5 k0_h1

def k0_off18 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v146 : Index := Scalar.indexCast v107
  let c4 : Index := 4#32
  ![v146.toNat, 4]
def k0_off19 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c4_i32_85 : BitVec 32 := 4#32
  ![v108.toNat, 4]
def k0_off20 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c8_i32_86 : BitVec 32 := 8#32
  let c0_i32_87 : BitVec 32 := 0#32
  let c0_i32_88 : BitVec 32 := 0#32
  ![v108.toNat, 8, 0, 0]
def k0_off21 (v110 : BitVec 32) (v112 : BitVec 32) (v147 : BitVec 32) : Fin 4 → Nat :=
  let v113 : BitVec 32 := v112
  let c0_i32_89 : BitVec 32 := 0#32
  ![v110.toNat, v147.toNat, v113.toNat, 0]

def k0_chk6 (i : grid0.Coords) (v110 : BitVec 32) (v112 : BitVec 32) (v147 : BitVec 32) : Prop :=
  (∀ (k0_h1 : k0_cond1 i = 1#1), ∀ a, (k0_off21 v110 v112 v147) a + S1x2x80x256.size a ≤ S4x200x200x256.size a)
theorem k0_off21_inb : ∀ (i : grid0.Coords) (v110 : BitVec 32) (v112 : BitVec 32) (v147 : BitVec 32) (k0_hw6 : k0_chk6 i v110 v112 v147), ∀ (k0_h1 : k0_cond1 i = 1#1), ∀ a, (k0_off21 v110 v112 v147) a + S1x2x80x256.size a ≤ S4x200x200x256.size a := fun i v110 v112 v147 k0_hw6 k0_h1 => k0_hw6 k0_h1

def k0_off22 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v154 : Index := Scalar.indexCast v107
  let c5 : Index := 5#32
  ![v154.toNat, 5]
def k0_off23 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c5_i32_90 : BitVec 32 := 5#32
  ![v108.toNat, 5]
def k0_off24 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c10_i32_91 : BitVec 32 := 10#32
  let c0_i32_92 : BitVec 32 := 0#32
  let c0_i32_93 : BitVec 32 := 0#32
  ![v108.toNat, 10, 0, 0]
def k0_off25 (v110 : BitVec 32) (v112 : BitVec 32) (v155 : BitVec 32) : Fin 4 → Nat :=
  let v113 : BitVec 32 := v112
  let c0_i32_94 : BitVec 32 := 0#32
  ![v110.toNat, v155.toNat, v113.toNat, 0]

def k0_chk7 (i : grid0.Coords) (v110 : BitVec 32) (v112 : BitVec 32) (v155 : BitVec 32) : Prop :=
  (∀ (k0_h1 : k0_cond1 i = 1#1), ∀ a, (k0_off25 v110 v112 v155) a + S1x2x80x256.size a ≤ S4x200x200x256.size a)
theorem k0_off25_inb : ∀ (i : grid0.Coords) (v110 : BitVec 32) (v112 : BitVec 32) (v155 : BitVec 32) (k0_hw7 : k0_chk7 i v110 v112 v155), ∀ (k0_h1 : k0_cond1 i = 1#1), ∀ a, (k0_off25 v110 v112 v155) a + S1x2x80x256.size a ≤ S4x200x200x256.size a := fun i v110 v112 v155 k0_hw7 k0_h1 => k0_hw7 k0_h1

def k0_off26 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let v162 : Index := Scalar.indexCast v107
  let c6 : Index := 6#32
  ![v162.toNat, 6]
def k0_off27 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c6_i32_95 : BitVec 32 := 6#32
  ![v108.toNat, 6]
def k0_off28 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c0_i32_62 : BitVec 32 := 0#32
  let v107 : BitVec 32 := Scalar.addi v1 c0_i32_62
  let c6_i32_63 : BitVec 32 := 6#32
  let v108 : BitVec 32 := Scalar.remsi v107 c6_i32_63
  let c12_i32_96 : BitVec 32 := 12#32
  let c0_i32_97 : BitVec 32 := 0#32
  let c0_i32_98 : BitVec 32 := 0#32
  ![v108.toNat, 12, 0, 0]
def k0_off29 (v110 : BitVec 32) (v112 : BitVec 32) (v163 : BitVec 32) : Fin 4 → Nat :=
  let v113 : BitVec 32 := v112
  let c0_i32_99 : BitVec 32 := 0#32
  ![v110.toNat, v163.toNat, v113.toNat, 0]

def k0_chk8 (i : grid0.Coords) (v110 : BitVec 32) (v112 : BitVec 32) (v163 : BitVec 32) : Prop :=
  (∀ (k0_h1 : k0_cond1 i = 1#1), ∀ a, (k0_off29 v110 v112 v163) a + S1x2x80x256.size a ≤ S4x200x200x256.size a)
theorem k0_off29_inb : ∀ (i : grid0.Coords) (v110 : BitVec 32) (v112 : BitVec 32) (v163 : BitVec 32) (k0_hw8 : k0_chk8 i v110 v112 v163), ∀ (k0_h1 : k0_cond1 i = 1#1), ∀ a, (k0_off29 v110 v112 v163) a + S1x2x80x256.size a ≤ S4x200x200x256.size a := fun i v110 v112 v163 k0_hw8 k0_h1 => k0_hw8 k0_h1

def k0_off30 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v172 : Index := Scalar.indexCast v170
  ![v172.toNat]
def k0_mult2 (v175 : BitVec 32) : BitVec 32 :=
  v175

def k0_chk9 (i : grid0.Coords) (v175 : BitVec 32) : Prop :=
  (∀ (k0_h1 : k0_cond1 i = 1#1), 8 ∣ (k0_mult2 v175).toNat)
theorem k0_mult2_dvd : ∀ (i : grid0.Coords) (v175 : BitVec 32) (k0_hw9 : k0_chk9 i v175), ∀ (k0_h1 : k0_cond1 i = 1#1), 8 ∣ (k0_mult2 v175).toNat := fun i v175 k0_hw9 k0_h1 => k0_hw9 k0_h1

def k0_off31 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v177 : Index := Scalar.indexCast v170
  let c0_102 : Index := 0#32
  ![v177.toNat, 0]
def k0_off32 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c0_i32_103 : BitVec 32 := 0#32
  ![v171.toNat, 0]
def k0_off33 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c0_i32_104 : BitVec 32 := 0#32
  let c0_i32_105 : BitVec 32 := 0#32
  let c0_i32_106 : BitVec 32 := 0#32
  ![v171.toNat, 0, 0, 0]
def k0_off34 (v173 : BitVec 32) (v175 : BitVec 32) (v178 : BitVec 32) : Fin 4 → Nat :=
  let v176 : BitVec 32 := v175
  let c0_i32_107 : BitVec 32 := 0#32
  ![v173.toNat, v178.toNat, v176.toNat, 0]

def k0_chk10 (i : grid0.Coords) (v173 : BitVec 32) (v175 : BitVec 32) (v178 : BitVec 32) : Prop :=
  (∀ (k0_h1 : k0_cond1 i = 1#1), ∀ a, (k0_off34 v173 v175 v178) a + S1x2x80x256.size a ≤ S4x200x200x256.size a)
theorem k0_off34_inb : ∀ (i : grid0.Coords) (v173 : BitVec 32) (v175 : BitVec 32) (v178 : BitVec 32) (k0_hw10 : k0_chk10 i v173 v175 v178), ∀ (k0_h1 : k0_cond1 i = 1#1), ∀ a, (k0_off34 v173 v175 v178) a + S1x2x80x256.size a ≤ S4x200x200x256.size a := fun i v173 v175 v178 k0_hw10 k0_h1 => k0_hw10 k0_h1

def k0_off35 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v185 : Index := Scalar.indexCast v170
  let c1_108 : Index := 1#32
  ![v185.toNat, 1]
def k0_off36 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c1_i32_109 : BitVec 32 := 1#32
  ![v171.toNat, 1]
def k0_off37 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c2_i32_110 : BitVec 32 := 2#32
  let c0_i32_111 : BitVec 32 := 0#32
  let c0_i32_112 : BitVec 32 := 0#32
  ![v171.toNat, 2, 0, 0]
def k0_off38 (v173 : BitVec 32) (v175 : BitVec 32) (v186 : BitVec 32) : Fin 4 → Nat :=
  let v176 : BitVec 32 := v175
  let c0_i32_113 : BitVec 32 := 0#32
  ![v173.toNat, v186.toNat, v176.toNat, 0]

def k0_chk11 (i : grid0.Coords) (v173 : BitVec 32) (v175 : BitVec 32) (v186 : BitVec 32) : Prop :=
  (∀ (k0_h1 : k0_cond1 i = 1#1), ∀ a, (k0_off38 v173 v175 v186) a + S1x2x80x256.size a ≤ S4x200x200x256.size a)
theorem k0_off38_inb : ∀ (i : grid0.Coords) (v173 : BitVec 32) (v175 : BitVec 32) (v186 : BitVec 32) (k0_hw11 : k0_chk11 i v173 v175 v186), ∀ (k0_h1 : k0_cond1 i = 1#1), ∀ a, (k0_off38 v173 v175 v186) a + S1x2x80x256.size a ≤ S4x200x200x256.size a := fun i v173 v175 v186 k0_hw11 k0_h1 => k0_hw11 k0_h1

def k0_off39 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v193 : Index := Scalar.indexCast v170
  let c2_114 : Index := 2#32
  ![v193.toNat, 2]
def k0_off40 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c2_i32_115 : BitVec 32 := 2#32
  ![v171.toNat, 2]
def k0_off41 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c4_i32_116 : BitVec 32 := 4#32
  let c0_i32_117 : BitVec 32 := 0#32
  let c0_i32_118 : BitVec 32 := 0#32
  ![v171.toNat, 4, 0, 0]
def k0_off42 (v173 : BitVec 32) (v175 : BitVec 32) (v194 : BitVec 32) : Fin 4 → Nat :=
  let v176 : BitVec 32 := v175
  let c0_i32_119 : BitVec 32 := 0#32
  ![v173.toNat, v194.toNat, v176.toNat, 0]

def k0_chk12 (i : grid0.Coords) (v173 : BitVec 32) (v175 : BitVec 32) (v194 : BitVec 32) : Prop :=
  (∀ (k0_h1 : k0_cond1 i = 1#1), ∀ a, (k0_off42 v173 v175 v194) a + S1x2x80x256.size a ≤ S4x200x200x256.size a)
theorem k0_off42_inb : ∀ (i : grid0.Coords) (v173 : BitVec 32) (v175 : BitVec 32) (v194 : BitVec 32) (k0_hw12 : k0_chk12 i v173 v175 v194), ∀ (k0_h1 : k0_cond1 i = 1#1), ∀ a, (k0_off42 v173 v175 v194) a + S1x2x80x256.size a ≤ S4x200x200x256.size a := fun i v173 v175 v194 k0_hw12 k0_h1 => k0_hw12 k0_h1

def k0_off43 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v201 : Index := Scalar.indexCast v170
  let c3_120 : Index := 3#32
  ![v201.toNat, 3]
def k0_off44 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c3_i32_121 : BitVec 32 := 3#32
  ![v171.toNat, 3]
def k0_off45 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c6_i32_122 : BitVec 32 := 6#32
  let c0_i32_123 : BitVec 32 := 0#32
  let c0_i32_124 : BitVec 32 := 0#32
  ![v171.toNat, 6, 0, 0]
def k0_off46 (v173 : BitVec 32) (v175 : BitVec 32) (v202 : BitVec 32) : Fin 4 → Nat :=
  let v176 : BitVec 32 := v175
  let c0_i32_125 : BitVec 32 := 0#32
  ![v173.toNat, v202.toNat, v176.toNat, 0]

def k0_chk13 (i : grid0.Coords) (v173 : BitVec 32) (v175 : BitVec 32) (v202 : BitVec 32) : Prop :=
  (∀ (k0_h1 : k0_cond1 i = 1#1), ∀ a, (k0_off46 v173 v175 v202) a + S1x2x80x256.size a ≤ S4x200x200x256.size a)
theorem k0_off46_inb : ∀ (i : grid0.Coords) (v173 : BitVec 32) (v175 : BitVec 32) (v202 : BitVec 32) (k0_hw13 : k0_chk13 i v173 v175 v202), ∀ (k0_h1 : k0_cond1 i = 1#1), ∀ a, (k0_off46 v173 v175 v202) a + S1x2x80x256.size a ≤ S4x200x200x256.size a := fun i v173 v175 v202 k0_hw13 k0_h1 => k0_hw13 k0_h1

def k0_off47 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v209 : Index := Scalar.indexCast v170
  let c4_126 : Index := 4#32
  ![v209.toNat, 4]
def k0_off48 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c4_i32_127 : BitVec 32 := 4#32
  ![v171.toNat, 4]
def k0_off49 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c8_i32_128 : BitVec 32 := 8#32
  let c0_i32_129 : BitVec 32 := 0#32
  let c0_i32_130 : BitVec 32 := 0#32
  ![v171.toNat, 8, 0, 0]
def k0_off50 (v173 : BitVec 32) (v175 : BitVec 32) (v210 : BitVec 32) : Fin 4 → Nat :=
  let v176 : BitVec 32 := v175
  let c0_i32_131 : BitVec 32 := 0#32
  ![v173.toNat, v210.toNat, v176.toNat, 0]

def k0_chk14 (i : grid0.Coords) (v173 : BitVec 32) (v175 : BitVec 32) (v210 : BitVec 32) : Prop :=
  (∀ (k0_h1 : k0_cond1 i = 1#1), ∀ a, (k0_off50 v173 v175 v210) a + S1x2x80x256.size a ≤ S4x200x200x256.size a)
theorem k0_off50_inb : ∀ (i : grid0.Coords) (v173 : BitVec 32) (v175 : BitVec 32) (v210 : BitVec 32) (k0_hw14 : k0_chk14 i v173 v175 v210), ∀ (k0_h1 : k0_cond1 i = 1#1), ∀ a, (k0_off50 v173 v175 v210) a + S1x2x80x256.size a ≤ S4x200x200x256.size a := fun i v173 v175 v210 k0_hw14 k0_h1 => k0_hw14 k0_h1

def k0_off51 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v217 : Index := Scalar.indexCast v170
  let c5_132 : Index := 5#32
  ![v217.toNat, 5]
def k0_off52 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c5_i32_133 : BitVec 32 := 5#32
  ![v171.toNat, 5]
def k0_off53 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c10_i32_134 : BitVec 32 := 10#32
  let c0_i32_135 : BitVec 32 := 0#32
  let c0_i32_136 : BitVec 32 := 0#32
  ![v171.toNat, 10, 0, 0]
def k0_off54 (v173 : BitVec 32) (v175 : BitVec 32) (v218 : BitVec 32) : Fin 4 → Nat :=
  let v176 : BitVec 32 := v175
  let c0_i32_137 : BitVec 32 := 0#32
  ![v173.toNat, v218.toNat, v176.toNat, 0]

def k0_chk15 (i : grid0.Coords) (v173 : BitVec 32) (v175 : BitVec 32) (v218 : BitVec 32) : Prop :=
  (∀ (k0_h1 : k0_cond1 i = 1#1), ∀ a, (k0_off54 v173 v175 v218) a + S1x2x80x256.size a ≤ S4x200x200x256.size a)
theorem k0_off54_inb : ∀ (i : grid0.Coords) (v173 : BitVec 32) (v175 : BitVec 32) (v218 : BitVec 32) (k0_hw15 : k0_chk15 i v173 v175 v218), ∀ (k0_h1 : k0_cond1 i = 1#1), ∀ a, (k0_off54 v173 v175 v218) a + S1x2x80x256.size a ≤ S4x200x200x256.size a := fun i v173 v175 v218 k0_hw15 k0_h1 => k0_hw15 k0_h1

def k0_off55 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let v225 : Index := Scalar.indexCast v170
  let c6_138 : Index := 6#32
  ![v225.toNat, 6]
def k0_off56 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c6_i32_139 : BitVec 32 := 6#32
  ![v171.toNat, 6]
def k0_off57 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_100 : BitVec 32 := 1#32
  let v170 : BitVec 32 := Scalar.addi v1 c1_i32_100
  let c6_i32_101 : BitVec 32 := 6#32
  let v171 : BitVec 32 := Scalar.remsi v170 c6_i32_101
  let c12_i32_140 : BitVec 32 := 12#32
  let c0_i32_141 : BitVec 32 := 0#32
  let c0_i32_142 : BitVec 32 := 0#32
  ![v171.toNat, 12, 0, 0]
def k0_off58 (v173 : BitVec 32) (v175 : BitVec 32) (v226 : BitVec 32) : Fin 4 → Nat :=
  let v176 : BitVec 32 := v175
  let c0_i32_143 : BitVec 32 := 0#32
  ![v173.toNat, v226.toNat, v176.toNat, 0]

def k0_chk16 (i : grid0.Coords) (v173 : BitVec 32) (v175 : BitVec 32) (v226 : BitVec 32) : Prop :=
  (∀ (k0_h1 : k0_cond1 i = 1#1), ∀ a, (k0_off58 v173 v175 v226) a + S1x2x80x256.size a ≤ S4x200x200x256.size a)
theorem k0_off58_inb : ∀ (i : grid0.Coords) (v173 : BitVec 32) (v175 : BitVec 32) (v226 : BitVec 32) (k0_hw16 : k0_chk16 i v173 v175 v226), ∀ (k0_h1 : k0_cond1 i = 1#1), ∀ a, (k0_off58 v173 v175 v226) a + S1x2x80x256.size a ≤ S4x200x200x256.size a := fun i v173 v175 v226 k0_hw16 k0_h1 => k0_hw16 k0_h1

def k0_off59 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v235 : Index := Scalar.indexCast v233
  ![v235.toNat]
def k0_mult3 (v238 : BitVec 32) : BitVec 32 :=
  v238

def k0_chk17 (i : grid0.Coords) (v238 : BitVec 32) : Prop :=
  (∀ (k0_h1 : k0_cond1 i = 1#1), 8 ∣ (k0_mult3 v238).toNat)
theorem k0_mult3_dvd : ∀ (i : grid0.Coords) (v238 : BitVec 32) (k0_hw17 : k0_chk17 i v238), ∀ (k0_h1 : k0_cond1 i = 1#1), 8 ∣ (k0_mult3 v238).toNat := fun i v238 k0_hw17 k0_h1 => k0_hw17 k0_h1

def k0_off60 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v240 : Index := Scalar.indexCast v233
  let c0_146 : Index := 0#32
  ![v240.toNat, 0]
def k0_off61 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c0_i32_147 : BitVec 32 := 0#32
  ![v234.toNat, 0]
def k0_off62 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c0_i32_148 : BitVec 32 := 0#32
  let c0_i32_149 : BitVec 32 := 0#32
  let c0_i32_150 : BitVec 32 := 0#32
  ![v234.toNat, 0, 0, 0]
def k0_off63 (v236 : BitVec 32) (v238 : BitVec 32) (v241 : BitVec 32) : Fin 4 → Nat :=
  let v239 : BitVec 32 := v238
  let c0_i32_151 : BitVec 32 := 0#32
  ![v236.toNat, v241.toNat, v239.toNat, 0]

def k0_chk18 (i : grid0.Coords) (v236 : BitVec 32) (v238 : BitVec 32) (v241 : BitVec 32) : Prop :=
  (∀ (k0_h1 : k0_cond1 i = 1#1), ∀ a, (k0_off63 v236 v238 v241) a + S1x2x80x256.size a ≤ S4x200x200x256.size a)
theorem k0_off63_inb : ∀ (i : grid0.Coords) (v236 : BitVec 32) (v238 : BitVec 32) (v241 : BitVec 32) (k0_hw18 : k0_chk18 i v236 v238 v241), ∀ (k0_h1 : k0_cond1 i = 1#1), ∀ a, (k0_off63 v236 v238 v241) a + S1x2x80x256.size a ≤ S4x200x200x256.size a := fun i v236 v238 v241 k0_hw18 k0_h1 => k0_hw18 k0_h1

def k0_off64 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v248 : Index := Scalar.indexCast v233
  let c1_152 : Index := 1#32
  ![v248.toNat, 1]
def k0_off65 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c1_i32_153 : BitVec 32 := 1#32
  ![v234.toNat, 1]
def k0_off66 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c2_i32_154 : BitVec 32 := 2#32
  let c0_i32_155 : BitVec 32 := 0#32
  let c0_i32_156 : BitVec 32 := 0#32
  ![v234.toNat, 2, 0, 0]
def k0_off67 (v236 : BitVec 32) (v238 : BitVec 32) (v249 : BitVec 32) : Fin 4 → Nat :=
  let v239 : BitVec 32 := v238
  let c0_i32_157 : BitVec 32 := 0#32
  ![v236.toNat, v249.toNat, v239.toNat, 0]

def k0_chk19 (i : grid0.Coords) (v236 : BitVec 32) (v238 : BitVec 32) (v249 : BitVec 32) : Prop :=
  (∀ (k0_h1 : k0_cond1 i = 1#1), ∀ a, (k0_off67 v236 v238 v249) a + S1x2x80x256.size a ≤ S4x200x200x256.size a)
theorem k0_off67_inb : ∀ (i : grid0.Coords) (v236 : BitVec 32) (v238 : BitVec 32) (v249 : BitVec 32) (k0_hw19 : k0_chk19 i v236 v238 v249), ∀ (k0_h1 : k0_cond1 i = 1#1), ∀ a, (k0_off67 v236 v238 v249) a + S1x2x80x256.size a ≤ S4x200x200x256.size a := fun i v236 v238 v249 k0_hw19 k0_h1 => k0_hw19 k0_h1

def k0_off68 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v256 : Index := Scalar.indexCast v233
  let c2_158 : Index := 2#32
  ![v256.toNat, 2]
def k0_off69 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c2_i32_159 : BitVec 32 := 2#32
  ![v234.toNat, 2]
def k0_off70 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c4_i32_160 : BitVec 32 := 4#32
  let c0_i32_161 : BitVec 32 := 0#32
  let c0_i32_162 : BitVec 32 := 0#32
  ![v234.toNat, 4, 0, 0]
def k0_off71 (v236 : BitVec 32) (v238 : BitVec 32) (v257 : BitVec 32) : Fin 4 → Nat :=
  let v239 : BitVec 32 := v238
  let c0_i32_163 : BitVec 32 := 0#32
  ![v236.toNat, v257.toNat, v239.toNat, 0]

def k0_chk20 (i : grid0.Coords) (v236 : BitVec 32) (v238 : BitVec 32) (v257 : BitVec 32) : Prop :=
  (∀ (k0_h1 : k0_cond1 i = 1#1), ∀ a, (k0_off71 v236 v238 v257) a + S1x2x80x256.size a ≤ S4x200x200x256.size a)
theorem k0_off71_inb : ∀ (i : grid0.Coords) (v236 : BitVec 32) (v238 : BitVec 32) (v257 : BitVec 32) (k0_hw20 : k0_chk20 i v236 v238 v257), ∀ (k0_h1 : k0_cond1 i = 1#1), ∀ a, (k0_off71 v236 v238 v257) a + S1x2x80x256.size a ≤ S4x200x200x256.size a := fun i v236 v238 v257 k0_hw20 k0_h1 => k0_hw20 k0_h1

def k0_off72 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v264 : Index := Scalar.indexCast v233
  let c3_164 : Index := 3#32
  ![v264.toNat, 3]
def k0_off73 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c3_i32_165 : BitVec 32 := 3#32
  ![v234.toNat, 3]
def k0_off74 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c6_i32_166 : BitVec 32 := 6#32
  let c0_i32_167 : BitVec 32 := 0#32
  let c0_i32_168 : BitVec 32 := 0#32
  ![v234.toNat, 6, 0, 0]
def k0_off75 (v236 : BitVec 32) (v238 : BitVec 32) (v265 : BitVec 32) : Fin 4 → Nat :=
  let v239 : BitVec 32 := v238
  let c0_i32_169 : BitVec 32 := 0#32
  ![v236.toNat, v265.toNat, v239.toNat, 0]

def k0_chk21 (i : grid0.Coords) (v236 : BitVec 32) (v238 : BitVec 32) (v265 : BitVec 32) : Prop :=
  (∀ (k0_h1 : k0_cond1 i = 1#1), ∀ a, (k0_off75 v236 v238 v265) a + S1x2x80x256.size a ≤ S4x200x200x256.size a)
theorem k0_off75_inb : ∀ (i : grid0.Coords) (v236 : BitVec 32) (v238 : BitVec 32) (v265 : BitVec 32) (k0_hw21 : k0_chk21 i v236 v238 v265), ∀ (k0_h1 : k0_cond1 i = 1#1), ∀ a, (k0_off75 v236 v238 v265) a + S1x2x80x256.size a ≤ S4x200x200x256.size a := fun i v236 v238 v265 k0_hw21 k0_h1 => k0_hw21 k0_h1

def k0_off76 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v272 : Index := Scalar.indexCast v233
  let c4_170 : Index := 4#32
  ![v272.toNat, 4]
def k0_off77 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c4_i32_171 : BitVec 32 := 4#32
  ![v234.toNat, 4]
def k0_off78 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c8_i32_172 : BitVec 32 := 8#32
  let c0_i32_173 : BitVec 32 := 0#32
  let c0_i32_174 : BitVec 32 := 0#32
  ![v234.toNat, 8, 0, 0]
def k0_off79 (v236 : BitVec 32) (v238 : BitVec 32) (v273 : BitVec 32) : Fin 4 → Nat :=
  let v239 : BitVec 32 := v238
  let c0_i32_175 : BitVec 32 := 0#32
  ![v236.toNat, v273.toNat, v239.toNat, 0]

def k0_chk22 (i : grid0.Coords) (v236 : BitVec 32) (v238 : BitVec 32) (v273 : BitVec 32) : Prop :=
  (∀ (k0_h1 : k0_cond1 i = 1#1), ∀ a, (k0_off79 v236 v238 v273) a + S1x2x80x256.size a ≤ S4x200x200x256.size a)
theorem k0_off79_inb : ∀ (i : grid0.Coords) (v236 : BitVec 32) (v238 : BitVec 32) (v273 : BitVec 32) (k0_hw22 : k0_chk22 i v236 v238 v273), ∀ (k0_h1 : k0_cond1 i = 1#1), ∀ a, (k0_off79 v236 v238 v273) a + S1x2x80x256.size a ≤ S4x200x200x256.size a := fun i v236 v238 v273 k0_hw22 k0_h1 => k0_hw22 k0_h1

def k0_off80 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v280 : Index := Scalar.indexCast v233
  let c5_176 : Index := 5#32
  ![v280.toNat, 5]
def k0_off81 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c5_i32_177 : BitVec 32 := 5#32
  ![v234.toNat, 5]
def k0_off82 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c10_i32_178 : BitVec 32 := 10#32
  let c0_i32_179 : BitVec 32 := 0#32
  let c0_i32_180 : BitVec 32 := 0#32
  ![v234.toNat, 10, 0, 0]
def k0_off83 (v236 : BitVec 32) (v238 : BitVec 32) (v281 : BitVec 32) : Fin 4 → Nat :=
  let v239 : BitVec 32 := v238
  let c0_i32_181 : BitVec 32 := 0#32
  ![v236.toNat, v281.toNat, v239.toNat, 0]

def k0_chk23 (i : grid0.Coords) (v236 : BitVec 32) (v238 : BitVec 32) (v281 : BitVec 32) : Prop :=
  (∀ (k0_h1 : k0_cond1 i = 1#1), ∀ a, (k0_off83 v236 v238 v281) a + S1x2x80x256.size a ≤ S4x200x200x256.size a)
theorem k0_off83_inb : ∀ (i : grid0.Coords) (v236 : BitVec 32) (v238 : BitVec 32) (v281 : BitVec 32) (k0_hw23 : k0_chk23 i v236 v238 v281), ∀ (k0_h1 : k0_cond1 i = 1#1), ∀ a, (k0_off83 v236 v238 v281) a + S1x2x80x256.size a ≤ S4x200x200x256.size a := fun i v236 v238 v281 k0_hw23 k0_h1 => k0_hw23 k0_h1

def k0_off84 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let v288 : Index := Scalar.indexCast v233
  let c6_182 : Index := 6#32
  ![v288.toNat, 6]
def k0_off85 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c6_i32_183 : BitVec 32 := 6#32
  ![v234.toNat, 6]
def k0_off86 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c2_i32_144 : BitVec 32 := 2#32
  let v233 : BitVec 32 := Scalar.addi v1 c2_i32_144
  let c6_i32_145 : BitVec 32 := 6#32
  let v234 : BitVec 32 := Scalar.remsi v233 c6_i32_145
  let c12_i32_184 : BitVec 32 := 12#32
  let c0_i32_185 : BitVec 32 := 0#32
  let c0_i32_186 : BitVec 32 := 0#32
  ![v234.toNat, 12, 0, 0]
def k0_off87 (v236 : BitVec 32) (v238 : BitVec 32) (v289 : BitVec 32) : Fin 4 → Nat :=
  let v239 : BitVec 32 := v238
  let c0_i32_187 : BitVec 32 := 0#32
  ![v236.toNat, v289.toNat, v239.toNat, 0]

def k0_chk24 (i : grid0.Coords) (v236 : BitVec 32) (v238 : BitVec 32) (v289 : BitVec 32) : Prop :=
  (∀ (k0_h1 : k0_cond1 i = 1#1), ∀ a, (k0_off87 v236 v238 v289) a + S1x2x80x256.size a ≤ S4x200x200x256.size a)
theorem k0_off87_inb : ∀ (i : grid0.Coords) (v236 : BitVec 32) (v238 : BitVec 32) (v289 : BitVec 32) (k0_hw24 : k0_chk24 i v236 v238 v289), ∀ (k0_h1 : k0_cond1 i = 1#1), ∀ a, (k0_off87 v236 v238 v289) a + S1x2x80x256.size a ≤ S4x200x200x256.size a := fun i v236 v238 v289 k0_hw24 k0_h1 => k0_hw24 k0_h1

def k0_off88 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v298 : Index := Scalar.indexCast v296
  ![v298.toNat]
def k0_mult4 (v301 : BitVec 32) : BitVec 32 :=
  v301

def k0_chk25 (i : grid0.Coords) (v301 : BitVec 32) : Prop :=
  (∀ (k0_h1 : k0_cond1 i = 1#1), 8 ∣ (k0_mult4 v301).toNat)
theorem k0_mult4_dvd : ∀ (i : grid0.Coords) (v301 : BitVec 32) (k0_hw25 : k0_chk25 i v301), ∀ (k0_h1 : k0_cond1 i = 1#1), 8 ∣ (k0_mult4 v301).toNat := fun i v301 k0_hw25 k0_h1 => k0_hw25 k0_h1

def k0_off89 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v303 : Index := Scalar.indexCast v296
  let c0_190 : Index := 0#32
  ![v303.toNat, 0]
def k0_off90 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c0_i32_191 : BitVec 32 := 0#32
  ![v297.toNat, 0]
def k0_off91 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c0_i32_192 : BitVec 32 := 0#32
  let c0_i32_193 : BitVec 32 := 0#32
  let c0_i32_194 : BitVec 32 := 0#32
  ![v297.toNat, 0, 0, 0]
def k0_off92 (v299 : BitVec 32) (v301 : BitVec 32) (v304 : BitVec 32) : Fin 4 → Nat :=
  let v302 : BitVec 32 := v301
  let c0_i32_195 : BitVec 32 := 0#32
  ![v299.toNat, v304.toNat, v302.toNat, 0]

def k0_chk26 (i : grid0.Coords) (v299 : BitVec 32) (v301 : BitVec 32) (v304 : BitVec 32) : Prop :=
  (∀ (k0_h1 : k0_cond1 i = 1#1), ∀ a, (k0_off92 v299 v301 v304) a + S1x2x80x256.size a ≤ S4x200x200x256.size a)
theorem k0_off92_inb : ∀ (i : grid0.Coords) (v299 : BitVec 32) (v301 : BitVec 32) (v304 : BitVec 32) (k0_hw26 : k0_chk26 i v299 v301 v304), ∀ (k0_h1 : k0_cond1 i = 1#1), ∀ a, (k0_off92 v299 v301 v304) a + S1x2x80x256.size a ≤ S4x200x200x256.size a := fun i v299 v301 v304 k0_hw26 k0_h1 => k0_hw26 k0_h1

def k0_off93 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v311 : Index := Scalar.indexCast v296
  let c1_196 : Index := 1#32
  ![v311.toNat, 1]
def k0_off94 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c1_i32_197 : BitVec 32 := 1#32
  ![v297.toNat, 1]
def k0_off95 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c2_i32_198 : BitVec 32 := 2#32
  let c0_i32_199 : BitVec 32 := 0#32
  let c0_i32_200 : BitVec 32 := 0#32
  ![v297.toNat, 2, 0, 0]
def k0_off96 (v299 : BitVec 32) (v301 : BitVec 32) (v312 : BitVec 32) : Fin 4 → Nat :=
  let v302 : BitVec 32 := v301
  let c0_i32_201 : BitVec 32 := 0#32
  ![v299.toNat, v312.toNat, v302.toNat, 0]

def k0_chk27 (i : grid0.Coords) (v299 : BitVec 32) (v301 : BitVec 32) (v312 : BitVec 32) : Prop :=
  (∀ (k0_h1 : k0_cond1 i = 1#1), ∀ a, (k0_off96 v299 v301 v312) a + S1x2x80x256.size a ≤ S4x200x200x256.size a)
theorem k0_off96_inb : ∀ (i : grid0.Coords) (v299 : BitVec 32) (v301 : BitVec 32) (v312 : BitVec 32) (k0_hw27 : k0_chk27 i v299 v301 v312), ∀ (k0_h1 : k0_cond1 i = 1#1), ∀ a, (k0_off96 v299 v301 v312) a + S1x2x80x256.size a ≤ S4x200x200x256.size a := fun i v299 v301 v312 k0_hw27 k0_h1 => k0_hw27 k0_h1

def k0_off97 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v319 : Index := Scalar.indexCast v296
  let c2_202 : Index := 2#32
  ![v319.toNat, 2]
def k0_off98 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c2_i32_203 : BitVec 32 := 2#32
  ![v297.toNat, 2]
def k0_off99 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c4_i32_204 : BitVec 32 := 4#32
  let c0_i32_205 : BitVec 32 := 0#32
  let c0_i32_206 : BitVec 32 := 0#32
  ![v297.toNat, 4, 0, 0]
def k0_off100 (v299 : BitVec 32) (v301 : BitVec 32) (v320 : BitVec 32) : Fin 4 → Nat :=
  let v302 : BitVec 32 := v301
  let c0_i32_207 : BitVec 32 := 0#32
  ![v299.toNat, v320.toNat, v302.toNat, 0]

def k0_chk28 (i : grid0.Coords) (v299 : BitVec 32) (v301 : BitVec 32) (v320 : BitVec 32) : Prop :=
  (∀ (k0_h1 : k0_cond1 i = 1#1), ∀ a, (k0_off100 v299 v301 v320) a + S1x2x80x256.size a ≤ S4x200x200x256.size a)
theorem k0_off100_inb : ∀ (i : grid0.Coords) (v299 : BitVec 32) (v301 : BitVec 32) (v320 : BitVec 32) (k0_hw28 : k0_chk28 i v299 v301 v320), ∀ (k0_h1 : k0_cond1 i = 1#1), ∀ a, (k0_off100 v299 v301 v320) a + S1x2x80x256.size a ≤ S4x200x200x256.size a := fun i v299 v301 v320 k0_hw28 k0_h1 => k0_hw28 k0_h1

def k0_off101 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v327 : Index := Scalar.indexCast v296
  let c3_208 : Index := 3#32
  ![v327.toNat, 3]
def k0_off102 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c3_i32_209 : BitVec 32 := 3#32
  ![v297.toNat, 3]
def k0_off103 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c6_i32_210 : BitVec 32 := 6#32
  let c0_i32_211 : BitVec 32 := 0#32
  let c0_i32_212 : BitVec 32 := 0#32
  ![v297.toNat, 6, 0, 0]
def k0_off104 (v299 : BitVec 32) (v301 : BitVec 32) (v328 : BitVec 32) : Fin 4 → Nat :=
  let v302 : BitVec 32 := v301
  let c0_i32_213 : BitVec 32 := 0#32
  ![v299.toNat, v328.toNat, v302.toNat, 0]

def k0_chk29 (i : grid0.Coords) (v299 : BitVec 32) (v301 : BitVec 32) (v328 : BitVec 32) : Prop :=
  (∀ (k0_h1 : k0_cond1 i = 1#1), ∀ a, (k0_off104 v299 v301 v328) a + S1x2x80x256.size a ≤ S4x200x200x256.size a)
theorem k0_off104_inb : ∀ (i : grid0.Coords) (v299 : BitVec 32) (v301 : BitVec 32) (v328 : BitVec 32) (k0_hw29 : k0_chk29 i v299 v301 v328), ∀ (k0_h1 : k0_cond1 i = 1#1), ∀ a, (k0_off104 v299 v301 v328) a + S1x2x80x256.size a ≤ S4x200x200x256.size a := fun i v299 v301 v328 k0_hw29 k0_h1 => k0_hw29 k0_h1

def k0_off105 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v335 : Index := Scalar.indexCast v296
  let c4_214 : Index := 4#32
  ![v335.toNat, 4]
def k0_off106 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c4_i32_215 : BitVec 32 := 4#32
  ![v297.toNat, 4]
def k0_off107 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c8_i32_216 : BitVec 32 := 8#32
  let c0_i32_217 : BitVec 32 := 0#32
  let c0_i32_218 : BitVec 32 := 0#32
  ![v297.toNat, 8, 0, 0]
def k0_off108 (v299 : BitVec 32) (v301 : BitVec 32) (v336 : BitVec 32) : Fin 4 → Nat :=
  let v302 : BitVec 32 := v301
  let c0_i32_219 : BitVec 32 := 0#32
  ![v299.toNat, v336.toNat, v302.toNat, 0]

def k0_chk30 (i : grid0.Coords) (v299 : BitVec 32) (v301 : BitVec 32) (v336 : BitVec 32) : Prop :=
  (∀ (k0_h1 : k0_cond1 i = 1#1), ∀ a, (k0_off108 v299 v301 v336) a + S1x2x80x256.size a ≤ S4x200x200x256.size a)
theorem k0_off108_inb : ∀ (i : grid0.Coords) (v299 : BitVec 32) (v301 : BitVec 32) (v336 : BitVec 32) (k0_hw30 : k0_chk30 i v299 v301 v336), ∀ (k0_h1 : k0_cond1 i = 1#1), ∀ a, (k0_off108 v299 v301 v336) a + S1x2x80x256.size a ≤ S4x200x200x256.size a := fun i v299 v301 v336 k0_hw30 k0_h1 => k0_hw30 k0_h1

def k0_off109 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v343 : Index := Scalar.indexCast v296
  let c5_220 : Index := 5#32
  ![v343.toNat, 5]
def k0_off110 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c5_i32_221 : BitVec 32 := 5#32
  ![v297.toNat, 5]
def k0_off111 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c10_i32_222 : BitVec 32 := 10#32
  let c0_i32_223 : BitVec 32 := 0#32
  let c0_i32_224 : BitVec 32 := 0#32
  ![v297.toNat, 10, 0, 0]
def k0_off112 (v299 : BitVec 32) (v301 : BitVec 32) (v344 : BitVec 32) : Fin 4 → Nat :=
  let v302 : BitVec 32 := v301
  let c0_i32_225 : BitVec 32 := 0#32
  ![v299.toNat, v344.toNat, v302.toNat, 0]

def k0_chk31 (i : grid0.Coords) (v299 : BitVec 32) (v301 : BitVec 32) (v344 : BitVec 32) : Prop :=
  (∀ (k0_h1 : k0_cond1 i = 1#1), ∀ a, (k0_off112 v299 v301 v344) a + S1x2x80x256.size a ≤ S4x200x200x256.size a)
theorem k0_off112_inb : ∀ (i : grid0.Coords) (v299 : BitVec 32) (v301 : BitVec 32) (v344 : BitVec 32) (k0_hw31 : k0_chk31 i v299 v301 v344), ∀ (k0_h1 : k0_cond1 i = 1#1), ∀ a, (k0_off112 v299 v301 v344) a + S1x2x80x256.size a ≤ S4x200x200x256.size a := fun i v299 v301 v344 k0_hw31 k0_h1 => k0_hw31 k0_h1

def k0_off113 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let v351 : Index := Scalar.indexCast v296
  let c6_226 : Index := 6#32
  ![v351.toNat, 6]
def k0_off114 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c6_i32_227 : BitVec 32 := 6#32
  ![v297.toNat, 6]
def k0_off115 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c3_i32_188 : BitVec 32 := 3#32
  let v296 : BitVec 32 := Scalar.addi v1 c3_i32_188
  let c6_i32_189 : BitVec 32 := 6#32
  let v297 : BitVec 32 := Scalar.remsi v296 c6_i32_189
  let c12_i32_228 : BitVec 32 := 12#32
  let c0_i32_229 : BitVec 32 := 0#32
  let c0_i32_230 : BitVec 32 := 0#32
  ![v297.toNat, 12, 0, 0]
def k0_off116 (v299 : BitVec 32) (v301 : BitVec 32) (v352 : BitVec 32) : Fin 4 → Nat :=
  let v302 : BitVec 32 := v301
  let c0_i32_231 : BitVec 32 := 0#32
  ![v299.toNat, v352.toNat, v302.toNat, 0]

def k0_chk32 (i : grid0.Coords) (v299 : BitVec 32) (v301 : BitVec 32) (v352 : BitVec 32) : Prop :=
  (∀ (k0_h1 : k0_cond1 i = 1#1), ∀ a, (k0_off116 v299 v301 v352) a + S1x2x80x256.size a ≤ S4x200x200x256.size a)
theorem k0_off116_inb : ∀ (i : grid0.Coords) (v299 : BitVec 32) (v301 : BitVec 32) (v352 : BitVec 32) (k0_hw32 : k0_chk32 i v299 v301 v352), ∀ (k0_h1 : k0_cond1 i = 1#1), ∀ a, (k0_off116 v299 v301 v352) a + S1x2x80x256.size a ≤ S4x200x200x256.size a := fun i v299 v301 v352 k0_hw32 k0_h1 => k0_hw32 k0_h1

def k0_off117 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v361 : Index := Scalar.indexCast v359
  ![v361.toNat]
def k0_mult5 (v364 : BitVec 32) : BitVec 32 :=
  v364

def k0_chk33 (i : grid0.Coords) (v364 : BitVec 32) : Prop :=
  (∀ (k0_h1 : k0_cond1 i = 1#1), 8 ∣ (k0_mult5 v364).toNat)
theorem k0_mult5_dvd : ∀ (i : grid0.Coords) (v364 : BitVec 32) (k0_hw33 : k0_chk33 i v364), ∀ (k0_h1 : k0_cond1 i = 1#1), 8 ∣ (k0_mult5 v364).toNat := fun i v364 k0_hw33 k0_h1 => k0_hw33 k0_h1

def k0_off118 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v366 : Index := Scalar.indexCast v359
  let c0_234 : Index := 0#32
  ![v366.toNat, 0]
def k0_off119 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c0_i32_235 : BitVec 32 := 0#32
  ![v360.toNat, 0]
def k0_off120 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c0_i32_236 : BitVec 32 := 0#32
  let c0_i32_237 : BitVec 32 := 0#32
  let c0_i32_238 : BitVec 32 := 0#32
  ![v360.toNat, 0, 0, 0]
def k0_off121 (v362 : BitVec 32) (v364 : BitVec 32) (v367 : BitVec 32) : Fin 4 → Nat :=
  let v365 : BitVec 32 := v364
  let c0_i32_239 : BitVec 32 := 0#32
  ![v362.toNat, v367.toNat, v365.toNat, 0]

def k0_chk34 (i : grid0.Coords) (v362 : BitVec 32) (v364 : BitVec 32) (v367 : BitVec 32) : Prop :=
  (∀ (k0_h1 : k0_cond1 i = 1#1), ∀ a, (k0_off121 v362 v364 v367) a + S1x2x80x256.size a ≤ S4x200x200x256.size a)
theorem k0_off121_inb : ∀ (i : grid0.Coords) (v362 : BitVec 32) (v364 : BitVec 32) (v367 : BitVec 32) (k0_hw34 : k0_chk34 i v362 v364 v367), ∀ (k0_h1 : k0_cond1 i = 1#1), ∀ a, (k0_off121 v362 v364 v367) a + S1x2x80x256.size a ≤ S4x200x200x256.size a := fun i v362 v364 v367 k0_hw34 k0_h1 => k0_hw34 k0_h1

def k0_off122 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v374 : Index := Scalar.indexCast v359
  let c1_240 : Index := 1#32
  ![v374.toNat, 1]
def k0_off123 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c1_i32_241 : BitVec 32 := 1#32
  ![v360.toNat, 1]
def k0_off124 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c2_i32_242 : BitVec 32 := 2#32
  let c0_i32_243 : BitVec 32 := 0#32
  let c0_i32_244 : BitVec 32 := 0#32
  ![v360.toNat, 2, 0, 0]
def k0_off125 (v362 : BitVec 32) (v364 : BitVec 32) (v375 : BitVec 32) : Fin 4 → Nat :=
  let v365 : BitVec 32 := v364
  let c0_i32_245 : BitVec 32 := 0#32
  ![v362.toNat, v375.toNat, v365.toNat, 0]

def k0_chk35 (i : grid0.Coords) (v362 : BitVec 32) (v364 : BitVec 32) (v375 : BitVec 32) : Prop :=
  (∀ (k0_h1 : k0_cond1 i = 1#1), ∀ a, (k0_off125 v362 v364 v375) a + S1x2x80x256.size a ≤ S4x200x200x256.size a)
theorem k0_off125_inb : ∀ (i : grid0.Coords) (v362 : BitVec 32) (v364 : BitVec 32) (v375 : BitVec 32) (k0_hw35 : k0_chk35 i v362 v364 v375), ∀ (k0_h1 : k0_cond1 i = 1#1), ∀ a, (k0_off125 v362 v364 v375) a + S1x2x80x256.size a ≤ S4x200x200x256.size a := fun i v362 v364 v375 k0_hw35 k0_h1 => k0_hw35 k0_h1

def k0_off126 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v382 : Index := Scalar.indexCast v359
  let c2_246 : Index := 2#32
  ![v382.toNat, 2]
def k0_off127 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c2_i32_247 : BitVec 32 := 2#32
  ![v360.toNat, 2]
def k0_off128 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c4_i32_248 : BitVec 32 := 4#32
  let c0_i32_249 : BitVec 32 := 0#32
  let c0_i32_250 : BitVec 32 := 0#32
  ![v360.toNat, 4, 0, 0]
def k0_off129 (v362 : BitVec 32) (v364 : BitVec 32) (v383 : BitVec 32) : Fin 4 → Nat :=
  let v365 : BitVec 32 := v364
  let c0_i32_251 : BitVec 32 := 0#32
  ![v362.toNat, v383.toNat, v365.toNat, 0]

def k0_chk36 (i : grid0.Coords) (v362 : BitVec 32) (v364 : BitVec 32) (v383 : BitVec 32) : Prop :=
  (∀ (k0_h1 : k0_cond1 i = 1#1), ∀ a, (k0_off129 v362 v364 v383) a + S1x2x80x256.size a ≤ S4x200x200x256.size a)
theorem k0_off129_inb : ∀ (i : grid0.Coords) (v362 : BitVec 32) (v364 : BitVec 32) (v383 : BitVec 32) (k0_hw36 : k0_chk36 i v362 v364 v383), ∀ (k0_h1 : k0_cond1 i = 1#1), ∀ a, (k0_off129 v362 v364 v383) a + S1x2x80x256.size a ≤ S4x200x200x256.size a := fun i v362 v364 v383 k0_hw36 k0_h1 => k0_hw36 k0_h1

def k0_off130 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v390 : Index := Scalar.indexCast v359
  let c3_252 : Index := 3#32
  ![v390.toNat, 3]
def k0_off131 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c3_i32_253 : BitVec 32 := 3#32
  ![v360.toNat, 3]
def k0_off132 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c6_i32_254 : BitVec 32 := 6#32
  let c0_i32_255 : BitVec 32 := 0#32
  let c0_i32_256 : BitVec 32 := 0#32
  ![v360.toNat, 6, 0, 0]
def k0_off133 (v362 : BitVec 32) (v364 : BitVec 32) (v391 : BitVec 32) : Fin 4 → Nat :=
  let v365 : BitVec 32 := v364
  let c0_i32_257 : BitVec 32 := 0#32
  ![v362.toNat, v391.toNat, v365.toNat, 0]

def k0_chk37 (i : grid0.Coords) (v362 : BitVec 32) (v364 : BitVec 32) (v391 : BitVec 32) : Prop :=
  (∀ (k0_h1 : k0_cond1 i = 1#1), ∀ a, (k0_off133 v362 v364 v391) a + S1x2x80x256.size a ≤ S4x200x200x256.size a)
theorem k0_off133_inb : ∀ (i : grid0.Coords) (v362 : BitVec 32) (v364 : BitVec 32) (v391 : BitVec 32) (k0_hw37 : k0_chk37 i v362 v364 v391), ∀ (k0_h1 : k0_cond1 i = 1#1), ∀ a, (k0_off133 v362 v364 v391) a + S1x2x80x256.size a ≤ S4x200x200x256.size a := fun i v362 v364 v391 k0_hw37 k0_h1 => k0_hw37 k0_h1

def k0_off134 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v398 : Index := Scalar.indexCast v359
  let c4_258 : Index := 4#32
  ![v398.toNat, 4]
def k0_off135 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c4_i32_259 : BitVec 32 := 4#32
  ![v360.toNat, 4]
def k0_off136 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c8_i32_260 : BitVec 32 := 8#32
  let c0_i32_261 : BitVec 32 := 0#32
  let c0_i32_262 : BitVec 32 := 0#32
  ![v360.toNat, 8, 0, 0]
def k0_off137 (v362 : BitVec 32) (v364 : BitVec 32) (v399 : BitVec 32) : Fin 4 → Nat :=
  let v365 : BitVec 32 := v364
  let c0_i32_263 : BitVec 32 := 0#32
  ![v362.toNat, v399.toNat, v365.toNat, 0]

def k0_chk38 (i : grid0.Coords) (v362 : BitVec 32) (v364 : BitVec 32) (v399 : BitVec 32) : Prop :=
  (∀ (k0_h1 : k0_cond1 i = 1#1), ∀ a, (k0_off137 v362 v364 v399) a + S1x2x80x256.size a ≤ S4x200x200x256.size a)
theorem k0_off137_inb : ∀ (i : grid0.Coords) (v362 : BitVec 32) (v364 : BitVec 32) (v399 : BitVec 32) (k0_hw38 : k0_chk38 i v362 v364 v399), ∀ (k0_h1 : k0_cond1 i = 1#1), ∀ a, (k0_off137 v362 v364 v399) a + S1x2x80x256.size a ≤ S4x200x200x256.size a := fun i v362 v364 v399 k0_hw38 k0_h1 => k0_hw38 k0_h1

def k0_off138 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v406 : Index := Scalar.indexCast v359
  let c5_264 : Index := 5#32
  ![v406.toNat, 5]
def k0_off139 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c5_i32_265 : BitVec 32 := 5#32
  ![v360.toNat, 5]
def k0_off140 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c10_i32_266 : BitVec 32 := 10#32
  let c0_i32_267 : BitVec 32 := 0#32
  let c0_i32_268 : BitVec 32 := 0#32
  ![v360.toNat, 10, 0, 0]
def k0_off141 (v362 : BitVec 32) (v364 : BitVec 32) (v407 : BitVec 32) : Fin 4 → Nat :=
  let v365 : BitVec 32 := v364
  let c0_i32_269 : BitVec 32 := 0#32
  ![v362.toNat, v407.toNat, v365.toNat, 0]

def k0_chk39 (i : grid0.Coords) (v362 : BitVec 32) (v364 : BitVec 32) (v407 : BitVec 32) : Prop :=
  (∀ (k0_h1 : k0_cond1 i = 1#1), ∀ a, (k0_off141 v362 v364 v407) a + S1x2x80x256.size a ≤ S4x200x200x256.size a)
theorem k0_off141_inb : ∀ (i : grid0.Coords) (v362 : BitVec 32) (v364 : BitVec 32) (v407 : BitVec 32) (k0_hw39 : k0_chk39 i v362 v364 v407), ∀ (k0_h1 : k0_cond1 i = 1#1), ∀ a, (k0_off141 v362 v364 v407) a + S1x2x80x256.size a ≤ S4x200x200x256.size a := fun i v362 v364 v407 k0_hw39 k0_h1 => k0_hw39 k0_h1

def k0_off142 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let v414 : Index := Scalar.indexCast v359
  let c6_270 : Index := 6#32
  ![v414.toNat, 6]
def k0_off143 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c6_i32_271 : BitVec 32 := 6#32
  ![v360.toNat, 6]
def k0_off144 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c4_i32_232 : BitVec 32 := 4#32
  let v359 : BitVec 32 := Scalar.addi v1 c4_i32_232
  let c6_i32_233 : BitVec 32 := 6#32
  let v360 : BitVec 32 := Scalar.remsi v359 c6_i32_233
  let c12_i32_272 : BitVec 32 := 12#32
  let c0_i32_273 : BitVec 32 := 0#32
  let c0_i32_274 : BitVec 32 := 0#32
  ![v360.toNat, 12, 0, 0]
def k0_off145 (v362 : BitVec 32) (v364 : BitVec 32) (v415 : BitVec 32) : Fin 4 → Nat :=
  let v365 : BitVec 32 := v364
  let c0_i32_275 : BitVec 32 := 0#32
  ![v362.toNat, v415.toNat, v365.toNat, 0]

def k0_chk40 (i : grid0.Coords) (v362 : BitVec 32) (v364 : BitVec 32) (v415 : BitVec 32) : Prop :=
  (∀ (k0_h1 : k0_cond1 i = 1#1), ∀ a, (k0_off145 v362 v364 v415) a + S1x2x80x256.size a ≤ S4x200x200x256.size a)
theorem k0_off145_inb : ∀ (i : grid0.Coords) (v362 : BitVec 32) (v364 : BitVec 32) (v415 : BitVec 32) (k0_hw40 : k0_chk40 i v362 v364 v415), ∀ (k0_h1 : k0_cond1 i = 1#1), ∀ a, (k0_off145 v362 v364 v415) a + S1x2x80x256.size a ≤ S4x200x200x256.size a := fun i v362 v364 v415 k0_hw40 k0_h1 => k0_hw40 k0_h1

def k0_cond2 (i : grid0.Coords) : BitVec 1 :=
  let arg1 : BitVec 32 := BitVec.ofNat 32 (i 1).val
  let c6_i32 : BitVec 32 := 6#32
  let v5 : BitVec 32 := Scalar.addi arg1 c6_i32
  let c1_i32 : BitVec 32 := 1#32
  let v6 : BitVec 32 := Scalar.subi v5 c1_i32
  let c256_i32_1 : BitVec 32 := 256#32
  let v7 : BitVec 1 := Scalar.cmpi .slt v6 c256_i32_1
  let v8 : BitVec 32 := Scalar.extui v7
  let c0_i32_2 : BitVec 32 := 0#32
  let v9 : BitVec 1 := Scalar.cmpi .ne v8 c0_i32_2
  v9

def k0_off146 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v110 : Index := Scalar.indexCast v108
  ![v110.toNat]
def k0_mult6 (v113 : BitVec 32) : BitVec 32 :=
  v113

def k0_chk41 (i : grid0.Coords) (v113 : BitVec 32) : Prop :=
  (∀ (k0_h2 : k0_cond2 i = 1#1), 8 ∣ (k0_mult6 v113).toNat)
theorem k0_mult6_dvd : ∀ (i : grid0.Coords) (v113 : BitVec 32) (k0_hw41 : k0_chk41 i v113), ∀ (k0_h2 : k0_cond2 i = 1#1), 8 ∣ (k0_mult6 v113).toNat := fun i v113 k0_hw41 k0_h2 => k0_hw41 k0_h2

def k0_off147 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v115 : Index := Scalar.indexCast v108
  let c0_65 : Index := 0#32
  ![v115.toNat, 0]
def k0_off148 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c0_i32_66 : BitVec 32 := 0#32
  ![v109.toNat, 0]
def k0_off149 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c0_i32_67 : BitVec 32 := 0#32
  let c0_i32_68 : BitVec 32 := 0#32
  let c0_i32_69 : BitVec 32 := 0#32
  ![v109.toNat, 0, 0, 0]
def k0_off150 (v111 : BitVec 32) (v113 : BitVec 32) (v116 : BitVec 32) : Fin 4 → Nat :=
  let v114 : BitVec 32 := v113
  let c0_i32_70 : BitVec 32 := 0#32
  ![v111.toNat, v116.toNat, v114.toNat, 0]

def k0_chk42 (i : grid0.Coords) (v111 : BitVec 32) (v113 : BitVec 32) (v116 : BitVec 32) : Prop :=
  (∀ (k0_h2 : k0_cond2 i = 1#1), ∀ a, (k0_off150 v111 v113 v116) a + S1x2x80x256.size a ≤ S4x200x200x256.size a)
theorem k0_off150_inb : ∀ (i : grid0.Coords) (v111 : BitVec 32) (v113 : BitVec 32) (v116 : BitVec 32) (k0_hw42 : k0_chk42 i v111 v113 v116), ∀ (k0_h2 : k0_cond2 i = 1#1), ∀ a, (k0_off150 v111 v113 v116) a + S1x2x80x256.size a ≤ S4x200x200x256.size a := fun i v111 v113 v116 k0_hw42 k0_h2 => k0_hw42 k0_h2

def k0_off151 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v123 : Index := Scalar.indexCast v108
  let c1 : Index := 1#32
  ![v123.toNat, 1]
def k0_off152 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c1_i32_71 : BitVec 32 := 1#32
  ![v109.toNat, 1]
def k0_off153 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c2_i32_72 : BitVec 32 := 2#32
  let c0_i32_73 : BitVec 32 := 0#32
  let c0_i32_74 : BitVec 32 := 0#32
  ![v109.toNat, 2, 0, 0]
def k0_off154 (v111 : BitVec 32) (v113 : BitVec 32) (v124 : BitVec 32) : Fin 4 → Nat :=
  let v114 : BitVec 32 := v113
  let c0_i32_75 : BitVec 32 := 0#32
  ![v111.toNat, v124.toNat, v114.toNat, 0]

def k0_chk43 (i : grid0.Coords) (v111 : BitVec 32) (v113 : BitVec 32) (v124 : BitVec 32) : Prop :=
  (∀ (k0_h2 : k0_cond2 i = 1#1), ∀ a, (k0_off154 v111 v113 v124) a + S1x2x80x256.size a ≤ S4x200x200x256.size a)
theorem k0_off154_inb : ∀ (i : grid0.Coords) (v111 : BitVec 32) (v113 : BitVec 32) (v124 : BitVec 32) (k0_hw43 : k0_chk43 i v111 v113 v124), ∀ (k0_h2 : k0_cond2 i = 1#1), ∀ a, (k0_off154 v111 v113 v124) a + S1x2x80x256.size a ≤ S4x200x200x256.size a := fun i v111 v113 v124 k0_hw43 k0_h2 => k0_hw43 k0_h2

def k0_off155 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v131 : Index := Scalar.indexCast v108
  let c2 : Index := 2#32
  ![v131.toNat, 2]
def k0_off156 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c2_i32_76 : BitVec 32 := 2#32
  ![v109.toNat, 2]
def k0_off157 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c4_i32_77 : BitVec 32 := 4#32
  let c0_i32_78 : BitVec 32 := 0#32
  let c0_i32_79 : BitVec 32 := 0#32
  ![v109.toNat, 4, 0, 0]
def k0_off158 (v111 : BitVec 32) (v113 : BitVec 32) (v132 : BitVec 32) : Fin 4 → Nat :=
  let v114 : BitVec 32 := v113
  let c0_i32_80 : BitVec 32 := 0#32
  ![v111.toNat, v132.toNat, v114.toNat, 0]

def k0_chk44 (i : grid0.Coords) (v111 : BitVec 32) (v113 : BitVec 32) (v132 : BitVec 32) : Prop :=
  (∀ (k0_h2 : k0_cond2 i = 1#1), ∀ a, (k0_off158 v111 v113 v132) a + S1x2x80x256.size a ≤ S4x200x200x256.size a)
theorem k0_off158_inb : ∀ (i : grid0.Coords) (v111 : BitVec 32) (v113 : BitVec 32) (v132 : BitVec 32) (k0_hw44 : k0_chk44 i v111 v113 v132), ∀ (k0_h2 : k0_cond2 i = 1#1), ∀ a, (k0_off158 v111 v113 v132) a + S1x2x80x256.size a ≤ S4x200x200x256.size a := fun i v111 v113 v132 k0_hw44 k0_h2 => k0_hw44 k0_h2

def k0_off159 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v139 : Index := Scalar.indexCast v108
  let c3 : Index := 3#32
  ![v139.toNat, 3]
def k0_off160 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c3_i32_81 : BitVec 32 := 3#32
  ![v109.toNat, 3]
def k0_off161 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c6_i32_82 : BitVec 32 := 6#32
  let c0_i32_83 : BitVec 32 := 0#32
  let c0_i32_84 : BitVec 32 := 0#32
  ![v109.toNat, 6, 0, 0]
def k0_off162 (v111 : BitVec 32) (v113 : BitVec 32) (v140 : BitVec 32) : Fin 4 → Nat :=
  let v114 : BitVec 32 := v113
  let c0_i32_85 : BitVec 32 := 0#32
  ![v111.toNat, v140.toNat, v114.toNat, 0]

def k0_chk45 (i : grid0.Coords) (v111 : BitVec 32) (v113 : BitVec 32) (v140 : BitVec 32) : Prop :=
  (∀ (k0_h2 : k0_cond2 i = 1#1), ∀ a, (k0_off162 v111 v113 v140) a + S1x2x80x256.size a ≤ S4x200x200x256.size a)
theorem k0_off162_inb : ∀ (i : grid0.Coords) (v111 : BitVec 32) (v113 : BitVec 32) (v140 : BitVec 32) (k0_hw45 : k0_chk45 i v111 v113 v140), ∀ (k0_h2 : k0_cond2 i = 1#1), ∀ a, (k0_off162 v111 v113 v140) a + S1x2x80x256.size a ≤ S4x200x200x256.size a := fun i v111 v113 v140 k0_hw45 k0_h2 => k0_hw45 k0_h2

def k0_off163 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v147 : Index := Scalar.indexCast v108
  let c4 : Index := 4#32
  ![v147.toNat, 4]
def k0_off164 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c4_i32_86 : BitVec 32 := 4#32
  ![v109.toNat, 4]
def k0_off165 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c8_i32_87 : BitVec 32 := 8#32
  let c0_i32_88 : BitVec 32 := 0#32
  let c0_i32_89 : BitVec 32 := 0#32
  ![v109.toNat, 8, 0, 0]
def k0_off166 (v111 : BitVec 32) (v113 : BitVec 32) (v148 : BitVec 32) : Fin 4 → Nat :=
  let v114 : BitVec 32 := v113
  let c0_i32_90 : BitVec 32 := 0#32
  ![v111.toNat, v148.toNat, v114.toNat, 0]

def k0_chk46 (i : grid0.Coords) (v111 : BitVec 32) (v113 : BitVec 32) (v148 : BitVec 32) : Prop :=
  (∀ (k0_h2 : k0_cond2 i = 1#1), ∀ a, (k0_off166 v111 v113 v148) a + S1x2x80x256.size a ≤ S4x200x200x256.size a)
theorem k0_off166_inb : ∀ (i : grid0.Coords) (v111 : BitVec 32) (v113 : BitVec 32) (v148 : BitVec 32) (k0_hw46 : k0_chk46 i v111 v113 v148), ∀ (k0_h2 : k0_cond2 i = 1#1), ∀ a, (k0_off166 v111 v113 v148) a + S1x2x80x256.size a ≤ S4x200x200x256.size a := fun i v111 v113 v148 k0_hw46 k0_h2 => k0_hw46 k0_h2

def k0_off167 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v155 : Index := Scalar.indexCast v108
  let c5 : Index := 5#32
  ![v155.toNat, 5]
def k0_off168 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c5_i32_91 : BitVec 32 := 5#32
  ![v109.toNat, 5]
def k0_off169 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c10_i32_92 : BitVec 32 := 10#32
  let c0_i32_93 : BitVec 32 := 0#32
  let c0_i32_94 : BitVec 32 := 0#32
  ![v109.toNat, 10, 0, 0]
def k0_off170 (v111 : BitVec 32) (v113 : BitVec 32) (v156 : BitVec 32) : Fin 4 → Nat :=
  let v114 : BitVec 32 := v113
  let c0_i32_95 : BitVec 32 := 0#32
  ![v111.toNat, v156.toNat, v114.toNat, 0]

def k0_chk47 (i : grid0.Coords) (v111 : BitVec 32) (v113 : BitVec 32) (v156 : BitVec 32) : Prop :=
  (∀ (k0_h2 : k0_cond2 i = 1#1), ∀ a, (k0_off170 v111 v113 v156) a + S1x2x80x256.size a ≤ S4x200x200x256.size a)
theorem k0_off170_inb : ∀ (i : grid0.Coords) (v111 : BitVec 32) (v113 : BitVec 32) (v156 : BitVec 32) (k0_hw47 : k0_chk47 i v111 v113 v156), ∀ (k0_h2 : k0_cond2 i = 1#1), ∀ a, (k0_off170 v111 v113 v156) a + S1x2x80x256.size a ≤ S4x200x200x256.size a := fun i v111 v113 v156 k0_hw47 k0_h2 => k0_hw47 k0_h2

def k0_off171 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let v163 : Index := Scalar.indexCast v108
  let c6 : Index := 6#32
  ![v163.toNat, 6]
def k0_off172 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c6_i32_96 : BitVec 32 := 6#32
  ![v109.toNat, 6]
def k0_off173 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_62 : BitVec 32 := 6#32
  let v107 : BitVec 32 := Scalar.addi v1 c6_i32_62
  let c1_i32_63 : BitVec 32 := 1#32
  let v108 : BitVec 32 := Scalar.subi v107 c1_i32_63
  let c6_i32_64 : BitVec 32 := 6#32
  let v109 : BitVec 32 := Scalar.remsi v108 c6_i32_64
  let c12_i32_97 : BitVec 32 := 12#32
  let c0_i32_98 : BitVec 32 := 0#32
  let c0_i32_99 : BitVec 32 := 0#32
  ![v109.toNat, 12, 0, 0]
def k0_off174 (v111 : BitVec 32) (v113 : BitVec 32) (v164 : BitVec 32) : Fin 4 → Nat :=
  let v114 : BitVec 32 := v113
  let c0_i32_100 : BitVec 32 := 0#32
  ![v111.toNat, v164.toNat, v114.toNat, 0]

def k0_chk48 (i : grid0.Coords) (v111 : BitVec 32) (v113 : BitVec 32) (v164 : BitVec 32) : Prop :=
  (∀ (k0_h2 : k0_cond2 i = 1#1), ∀ a, (k0_off174 v111 v113 v164) a + S1x2x80x256.size a ≤ S4x200x200x256.size a)
theorem k0_off174_inb : ∀ (i : grid0.Coords) (v111 : BitVec 32) (v113 : BitVec 32) (v164 : BitVec 32) (k0_hw48 : k0_chk48 i v111 v113 v164), ∀ (k0_h2 : k0_cond2 i = 1#1), ∀ a, (k0_off174 v111 v113 v164) a + S1x2x80x256.size a ≤ S4x200x200x256.size a := fun i v111 v113 v164 k0_hw48 k0_h2 => k0_hw48 k0_h2

def k0_off175 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c0_i32_4 : BitVec 32 := 0#32
  ![v10.toNat, 0]
def k0_off176 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c0_i32_5 : BitVec 32 := 0#32
  let c0_i32_6 : BitVec 32 := 0#32
  let c0_i32_7 : BitVec 32 := 0#32
  ![v10.toNat, 0, 0, 0]
def k0_off177 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c1_i32_11 : BitVec 32 := 1#32
  ![v10.toNat, 1]
def k0_off178 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c2_i32 : BitVec 32 := 2#32
  let c0_i32_12 : BitVec 32 := 0#32
  let c0_i32_13 : BitVec 32 := 0#32
  ![v10.toNat, 2, 0, 0]
def k0_off179 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c2_i32_17 : BitVec 32 := 2#32
  ![v10.toNat, 2]
def k0_off180 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c4_i32 : BitVec 32 := 4#32
  let c0_i32_18 : BitVec 32 := 0#32
  let c0_i32_19 : BitVec 32 := 0#32
  ![v10.toNat, 4, 0, 0]
def k0_off181 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c3_i32 : BitVec 32 := 3#32
  ![v10.toNat, 3]
def k0_off182 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c6_i32_23 : BitVec 32 := 6#32
  let c0_i32_24 : BitVec 32 := 0#32
  let c0_i32_25 : BitVec 32 := 0#32
  ![v10.toNat, 6, 0, 0]
def k0_off183 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c4_i32_29 : BitVec 32 := 4#32
  ![v10.toNat, 4]
def k0_off184 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c8_i32 : BitVec 32 := 8#32
  let c0_i32_30 : BitVec 32 := 0#32
  let c0_i32_31 : BitVec 32 := 0#32
  ![v10.toNat, 8, 0, 0]
def k0_off185 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c5_i32 : BitVec 32 := 5#32
  ![v10.toNat, 5]
def k0_off186 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c10_i32 : BitVec 32 := 10#32
  let c0_i32_35 : BitVec 32 := 0#32
  let c0_i32_36 : BitVec 32 := 0#32
  ![v10.toNat, 10, 0, 0]
def k0_off187 (i : grid0.Coords) : Fin 2 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c6_i32_40 : BitVec 32 := 6#32
  ![v10.toNat, 6]
def k0_off188 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let c12_i32 : BitVec 32 := 12#32
  let c0_i32_41 : BitVec 32 := 0#32
  let c0_i32_42 : BitVec 32 := 0#32
  ![v10.toNat, 12, 0, 0]
def k0_off189 (i : grid0.Coords) : Fin 4 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c6_i32_3 : BitVec 32 := 6#32
  let v10 : BitVec 32 := Scalar.remsi v1 c6_i32_3
  let v98 : Index := Scalar.indexCast v10
  let c0_55 : Index := 0#32
  let c0_56 : Index := 0#32
  let c0_57 : Index := 0#32
  ![v98.toNat, 0, 0, 0]
def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x56x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x49x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x256x200x200 : Shape := ⟨4, ![4, 256, 200, 200]⟩
abbrev S512x5 : Shape := ⟨2, ![512, 5]⟩
abbrev S512x1 : Shape := ⟨2, ![512, 1]⟩
abbrev S512 : Shape := ⟨1, ![512]⟩
abbrev S512x4 : Shape := ⟨2, ![512, 4]⟩
abbrev S_ : Shape := ⟨0, ![]⟩
abbrev S7 : Shape := ⟨1, ![7]⟩
abbrev S1x7 : Shape := ⟨2, ![1, 7]⟩
abbrev S512x7 : Shape := ⟨2, ![512, 7]⟩
abbrev S512x1x1 : Shape := ⟨3, ![512, 1, 1]⟩
abbrev S512x7x1 : Shape := ⟨3, ![512, 7, 1]⟩
abbrev S512x1x7 : Shape := ⟨3, ![512, 1, 7]⟩
abbrev S512x7x7 : Shape := ⟨3, ![512, 7, 7]⟩
abbrev S512x7x7x1 : Shape := ⟨4, ![512, 7, 7, 1]⟩
abbrev S512x7x7x3 : Shape := ⟨4, ![512, 7, 7, 3]⟩
abbrev S512x7x7x256 : Shape := ⟨4, ![512, 7, 7, 256]⟩
abbrev S512x7x1x1 : Shape := ⟨4, ![512, 7, 1, 1]⟩
abbrev S512x1x7x1 : Shape := ⟨4, ![512, 1, 7, 1]⟩
abbrev S512x256x7x7 : Shape := ⟨4, ![512, 256, 7, 7]⟩

abbrev nBuf : Space → Nat
  | .hbm => 246
  | .vmem => 0
  | .smem => 0
  | _ => 0

abbrev hbmTy0_0 (i : Nat) : BufTy := match i % 128 with
  | 0 => ⟨S4x256x200x200, .f32⟩
  | 1 => ⟨S512x5, .i32⟩
  | 2 => ⟨S512x1, .i32⟩
  | 3 => ⟨S512, .i32⟩
  | 4 => ⟨S512x4, .i32⟩
  | 5 => ⟨S512x4, .f32⟩
  | 6 => ⟨S_, .f32⟩
  | 7 => ⟨S512x4, .f32⟩
  | 8 => ⟨S512x4, .f32⟩
  | 9 => ⟨S512x1, .f32⟩
  | 10 => ⟨S512, .f32⟩
  | 11 => ⟨S512x1, .f32⟩
  | 12 => ⟨S512, .f32⟩
  | 13 => ⟨S512x1, .f32⟩
  | 14 => ⟨S512, .f32⟩
  | 15 => ⟨S512x1, .f32⟩
  | 16 => ⟨S512, .f32⟩
  | 17 => ⟨S7, .f32⟩
  | 18 => ⟨S7, .f32⟩
  | 19 => ⟨S512x1, .f32⟩
  | 20 => ⟨S1x7, .f32⟩
  | 21 => ⟨S512, .f32⟩
  | 22 => ⟨S512x1, .f32⟩
  | 23 => ⟨S512x7, .f32⟩
  | 24 => ⟨S512x7, .f32⟩
  | 25 => ⟨S512x7, .f32⟩
  | 26 => ⟨S_, .f32⟩
  | 27 => ⟨S512x7, .f32⟩
  | 28 => ⟨S512x7, .f32⟩
  | 29 => ⟨S512x7, .f32⟩
  | 30 => ⟨S512x7, .f32⟩
  | 31 => ⟨S512x1, .f32⟩
  | 32 => ⟨S1x7, .f32⟩
  | 33 => ⟨S512, .f32⟩
  | 34 => ⟨S512x1, .f32⟩
  | 35 => ⟨S512x7, .f32⟩
  | 36 => ⟨S512x7, .f32⟩
  | 37 => ⟨S512x7, .f32⟩
  | 38 => ⟨S_, .f32⟩
  | 39 => ⟨S512x7, .f32⟩
  | 40 => ⟨S512x7, .f32⟩
  | 41 => ⟨S512x7, .f32⟩
  | 42 => ⟨S512x7, .f32⟩
  | 43 => ⟨S512x7, .f32⟩
  | 44 => ⟨S512x7, .f32⟩
  | 45 => ⟨S512x7, .f32⟩
  | 46 => ⟨S512x7, .f32⟩
  | 47 => ⟨S512x7, .i32⟩
  | 48 => ⟨S_, .i32⟩
  | 49 => ⟨S_, .i32⟩
  | 50 => ⟨S_, .i32⟩
  | 51 => ⟨S512x7, .i32⟩
  | 52 => ⟨S512x7, .i32⟩
  | 53 => ⟨S_, .i32⟩
  | 54 => ⟨S512x7, .i32⟩
  | 55 => ⟨S512x7, .i32⟩
  | 56 => ⟨S_, .i32⟩
  | 57 => ⟨S512x7, .i32⟩
  | 58 => ⟨S512x7, .i32⟩
  | 59 => ⟨S_, .i32⟩
  | 60 => ⟨S_, .i32⟩
  | 61 => ⟨S_, .i32⟩
  | 62 => ⟨S512x7, .i32⟩
  | 63 => ⟨S512x7, .i32⟩
  | 64 => ⟨S_, .i32⟩
  | 65 => ⟨S512x7, .i32⟩
  | 66 => ⟨S512x7, .i32⟩
  | 67 => ⟨S512x7, .i32⟩
  | 68 => ⟨S_, .i32⟩
  | 69 => ⟨S_, .i32⟩
  | 70 => ⟨S_, .i32⟩
  | 71 => ⟨S512x7, .i32⟩
  | 72 => ⟨S512x7, .i32⟩
  | 73 => ⟨S_, .i32⟩
  | 74 => ⟨S512x7, .i32⟩
  | 75 => ⟨S512x7, .i32⟩
  | 76 => ⟨S_, .i32⟩
  | 77 => ⟨S512x7, .i32⟩
  | 78 => ⟨S512x7, .i32⟩
  | 79 => ⟨S_, .i32⟩
  | 80 => ⟨S_, .i32⟩
  | 81 => ⟨S_, .i32⟩
  | 82 => ⟨S512x7, .i32⟩
  | 83 => ⟨S512x7, .i32⟩
  | 84 => ⟨S_, .i32⟩
  | 85 => ⟨S512x7, .i32⟩
  | 86 => ⟨S512x7, .i32⟩
  | 87 => ⟨S512x1x1, .i32⟩
  | 88 => ⟨S512x7x1, .i32⟩
  | 89 => ⟨S512x1x7, .i32⟩
  | 90 => ⟨S_, .i32⟩
  | 91 => ⟨S512x1x1, .i32⟩
  | 92 => ⟨S512x1x1, .i1⟩
  | 93 => ⟨S_, .i32⟩
  | 94 => ⟨S512x1x1, .i32⟩
  | 95 => ⟨S512x1x1, .i32⟩
  | 96 => ⟨S512x1x1, .i32⟩
  | 97 => ⟨S_, .i32⟩
  | 98 => ⟨S512x7x1, .i32⟩
  | 99 => ⟨S512x7x1, .i1⟩
  | 100 => ⟨S_, .i32⟩
  | 101 => ⟨S512x7x1, .i32⟩
  | 102 => ⟨S512x7x1, .i32⟩
  | 103 => ⟨S512x7x1, .i32⟩
  | 104 => ⟨S_, .i32⟩
  | 105 => ⟨S512x1x7, .i32⟩
  | 106 => ⟨S512x1x7, .i1⟩
  | 107 => ⟨S_, .i32⟩
  | 108 => ⟨S512x1x7, .i32⟩
  | 109 => ⟨S512x1x7, .i32⟩
  | 110 => ⟨S512x1x7, .i32⟩
  | 111 => ⟨S512x7x7, .i32⟩
  | 112 => ⟨S512x7x7, .i32⟩
  | 113 => ⟨S512x7x7, .i32⟩
  | 114 => ⟨S512x7x7x1, .i32⟩
  | 115 => ⟨S512x7x7x1, .i32⟩
  | 116 => ⟨S512x7x7x1, .i32⟩
  | 117 => ⟨S512x7x7x3, .i32⟩
  | 118 => ⟨S512x7x7x256, .f32⟩
  | 119 => ⟨S512x7x1, .i32⟩
  | 120 => ⟨S512x1x7, .i32⟩
  | 121 => ⟨S_, .i32⟩
  | 122 => ⟨S512x1x1, .i32⟩
  | 123 => ⟨S512x1x1, .i1⟩
  | 124 => ⟨S_, .i32⟩
  | 125 => ⟨S512x1x1, .i32⟩
  | 126 => ⟨S512x1x1, .i32⟩
  | 127 => ⟨S512x1x1, .i32⟩
  | _ => ⟨S4x256x200x200, .f32⟩

abbrev hbmTy0_1 (i : Nat) : BufTy := match i % 128 with
  | 0 => ⟨S_, .i32⟩
  | 1 => ⟨S512x7x1, .i32⟩
  | 2 => ⟨S512x7x1, .i1⟩
  | 3 => ⟨S_, .i32⟩
  | 4 => ⟨S512x7x1, .i32⟩
  | 5 => ⟨S512x7x1, .i32⟩
  | 6 => ⟨S512x7x1, .i32⟩
  | 7 => ⟨S_, .i32⟩
  | 8 => ⟨S512x1x7, .i32⟩
  | 9 => ⟨S512x1x7, .i1⟩
  | 10 => ⟨S_, .i32⟩
  | 11 => ⟨S512x1x7, .i32⟩
  | 12 => ⟨S512x1x7, .i32⟩
  | 13 => ⟨S512x1x7, .i32⟩
  | 14 => ⟨S512x7x7, .i32⟩
  | 15 => ⟨S512x7x7, .i32⟩
  | 16 => ⟨S512x7x7, .i32⟩
  | 17 => ⟨S512x7x7x1, .i32⟩
  | 18 => ⟨S512x7x7x1, .i32⟩
  | 19 => ⟨S512x7x7x1, .i32⟩
  | 20 => ⟨S512x7x7x3, .i32⟩
  | 21 => ⟨S512x7x7x256, .f32⟩
  | 22 => ⟨S512x7x1, .i32⟩
  | 23 => ⟨S512x1x7, .i32⟩
  | 24 => ⟨S_, .i32⟩
  | 25 => ⟨S512x1x1, .i32⟩
  | 26 => ⟨S512x1x1, .i1⟩
  | 27 => ⟨S_, .i32⟩
  | 28 => ⟨S512x1x1, .i32⟩
  | 29 => ⟨S512x1x1, .i32⟩
  | 30 => ⟨S512x1x1, .i32⟩
  | 31 => ⟨S_, .i32⟩
  | 32 => ⟨S512x7x1, .i32⟩
  | 33 => ⟨S512x7x1, .i1⟩
  | 34 => ⟨S_, .i32⟩
  | 35 => ⟨S512x7x1, .i32⟩
  | 36 => ⟨S512x7x1, .i32⟩
  | 37 => ⟨S512x7x1, .i32⟩
  | 38 => ⟨S_, .i32⟩
  | 39 => ⟨S512x1x7, .i32⟩
  | 40 => ⟨S512x1x7, .i1⟩
  | 41 => ⟨S_, .i32⟩
  | 42 => ⟨S512x1x7, .i32⟩
  | 43 => ⟨S512x1x7, .i32⟩
  | 44 => ⟨S512x1x7, .i32⟩
  | 45 => ⟨S512x7x7, .i32⟩
  | 46 => ⟨S512x7x7, .i32⟩
  | 47 => ⟨S512x7x7, .i32⟩
  | 48 => ⟨S512x7x7x1, .i32⟩
  | 49 => ⟨S512x7x7x1, .i32⟩
  | 50 => ⟨S512x7x7x1, .i32⟩
  | 51 => ⟨S512x7x7x3, .i32⟩
  | 52 => ⟨S512x7x7x256, .f32⟩
  | 53 => ⟨S512x7x1, .i32⟩
  | 54 => ⟨S512x1x7, .i32⟩
  | 55 => ⟨S_, .i32⟩
  | 56 => ⟨S512x1x1, .i32⟩
  | 57 => ⟨S512x1x1, .i1⟩
  | 58 => ⟨S_, .i32⟩
  | 59 => ⟨S512x1x1, .i32⟩
  | 60 => ⟨S512x1x1, .i32⟩
  | 61 => ⟨S512x1x1, .i32⟩
  | 62 => ⟨S_, .i32⟩
  | 63 => ⟨S512x7x1, .i32⟩
  | 64 => ⟨S512x7x1, .i1⟩
  | 65 => ⟨S_, .i32⟩
  | 66 => ⟨S512x7x1, .i32⟩
  | 67 => ⟨S512x7x1, .i32⟩
  | 68 => ⟨S512x7x1, .i32⟩
  | 69 => ⟨S_, .i32⟩
  | 70 => ⟨S512x1x7, .i32⟩
  | 71 => ⟨S512x1x7, .i1⟩
  | 72 => ⟨S_, .i32⟩
  | 73 => ⟨S512x1x7, .i32⟩
  | 74 => ⟨S512x1x7, .i32⟩
  | 75 => ⟨S512x1x7, .i32⟩
  | 76 => ⟨S512x7x7, .i32⟩
  | 77 => ⟨S512x7x7, .i32⟩
  | 78 => ⟨S512x7x7, .i32⟩
  | 79 => ⟨S512x7x7x1, .i32⟩
  | 80 => ⟨S512x7x7x1, .i32⟩
  | 81 => ⟨S512x7x7x1, .i32⟩
  | 82 => ⟨S512x7x7x3, .i32⟩
  | 83 => ⟨S512x7x7x256, .f32⟩
  | 84 => ⟨S512x7x1x1, .f32⟩
  | 85 => ⟨S512x1x7x1, .f32⟩
  | 86 => ⟨S_, .f32⟩
  | 87 => ⟨S512x7x1x1, .f32⟩
  | 88 => ⟨S512x7x1x1, .f32⟩
  | 89 => ⟨S512x7x7x256, .f32⟩
  | 90 => ⟨S512x7x7x256, .f32⟩
  | 91 => ⟨S_, .f32⟩
  | 92 => ⟨S512x1x7x1, .f32⟩
  | 93 => ⟨S512x1x7x1, .f32⟩
  | 94 => ⟨S512x7x7x256, .f32⟩
  | 95 => ⟨S512x7x7x256, .f32⟩
  | 96 => ⟨S_, .f32⟩
  | 97 => ⟨S512x7x1x1, .f32⟩
  | 98 => ⟨S512x7x1x1, .f32⟩
  | 99 => ⟨S512x7x7x256, .f32⟩
  | 100 => ⟨S512x7x7x256, .f32⟩
  | 101 => ⟨S512x7x7x256, .f32⟩
  | 102 => ⟨S512x7x7x256, .f32⟩
  | 103 => ⟨S512x7x7x256, .f32⟩
  | 104 => ⟨S512x7x7x256, .f32⟩
  | 105 => ⟨S512x7x7x256, .f32⟩
  | 106 => ⟨S_, .f32⟩
  | 107 => ⟨S512x1x7x1, .f32⟩
  | 108 => ⟨S512x1x7x1, .f32⟩
  | 109 => ⟨S512x7x7x256, .f32⟩
  | 110 => ⟨S512x7x7x256, .f32⟩
  | 111 => ⟨S512x7x7x256, .f32⟩
  | 112 => ⟨S512x7x7x256, .f32⟩
  | 113 => ⟨S512x7x7x256, .f32⟩
  | 114 => ⟨S512x7x7x256, .f32⟩
  | 115 => ⟨S512x7x7x256, .f32⟩
  | 116 => ⟨S512x7x7x256, .f32⟩
  | 117 => ⟨S512x256x7x7, .f32⟩
  | _ => ⟨S4x256x200x200, .f32⟩

abbrev hbmTy (i : Nat) : BufTy := match i / 128 with
  | 0 => hbmTy0_0 i
  | 1 => hbmTy0_1 i
  | _ => ⟨S4x256x200x200, .f32⟩

abbrev bufTy : (tb : Table) → Fin (tcTables nBuf tb) → BufTy
  | .hbm, ⟨i, _⟩ => hbmTy i
  | _, _ => ⟨S4x256x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c : Ref sig .tc := ⟨.hbm, 48, rfl⟩
abbrev main_c_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v43 : Ref sig .tc := ⟨.hbm, 55, rfl⟩
abbrev main_c_3 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_c_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v46 : Ref sig .tc := ⟨.hbm, 66, rfl⟩
abbrev main_v47 : Ref sig .tc := ⟨.hbm, 67, rfl⟩
abbrev main_c_6 : Ref sig .tc := ⟨.hbm, 68, rfl⟩
abbrev main_c_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_c_10 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_c_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_13 : Ref sig .tc := ⟨.hbm, 97, rfl⟩
abbrev main_v60 : Ref sig .tc := ⟨.hbm, 98, rfl⟩
abbrev main_v61 : Ref sig .tc := ⟨.hbm, 99, rfl⟩
abbrev main_c_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_15 : Ref sig .tc := ⟨.hbm, 104, rfl⟩
abbrev main_v65 : Ref sig .tc := ⟨.hbm, 105, rfl⟩
abbrev main_v66 : Ref sig .tc := ⟨.hbm, 106, rfl⟩
abbrev main_c_16 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_17 : Ref sig .tc := ⟨.hbm, 121, rfl⟩
abbrev main_v80 : Ref sig .tc := ⟨.hbm, 122, rfl⟩
abbrev main_v81 : Ref sig .tc := ⟨.hbm, 123, rfl⟩
abbrev main_c_18 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_19 : Ref sig .tc := ⟨.hbm, 128, rfl⟩
abbrev main_v85 : Ref sig .tc := ⟨.hbm, 129, rfl⟩
abbrev main_v86 : Ref sig .tc := ⟨.hbm, 130, rfl⟩
abbrev main_c_20 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_21 : Ref sig .tc := ⟨.hbm, 135, rfl⟩
abbrev main_v90 : Ref sig .tc := ⟨.hbm, 136, rfl⟩
abbrev main_v91 : Ref sig .tc := ⟨.hbm, 137, rfl⟩
abbrev main_c_22 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_c_23 : Ref sig .tc := ⟨.hbm, 152, rfl⟩
abbrev main_v105 : Ref sig .tc := ⟨.hbm, 153, rfl⟩
abbrev main_v106 : Ref sig .tc := ⟨.hbm, 154, rfl⟩
abbrev main_c_24 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_25 : Ref sig .tc := ⟨.hbm, 159, rfl⟩
abbrev main_v110 : Ref sig .tc := ⟨.hbm, 160, rfl⟩
abbrev main_v111 : Ref sig .tc := ⟨.hbm, 161, rfl⟩
abbrev main_c_26 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_c_27 : Ref sig .tc := ⟨.hbm, 166, rfl⟩
abbrev main_v115 : Ref sig .tc := ⟨.hbm, 167, rfl⟩
abbrev main_v116 : Ref sig .tc := ⟨.hbm, 168, rfl⟩
abbrev main_c_28 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_c_29 : Ref sig .tc := ⟨.hbm, 183, rfl⟩
abbrev main_v130 : Ref sig .tc := ⟨.hbm, 184, rfl⟩
abbrev main_v131 : Ref sig .tc := ⟨.hbm, 185, rfl⟩
abbrev main_c_30 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_c_31 : Ref sig .tc := ⟨.hbm, 190, rfl⟩
abbrev main_v135 : Ref sig .tc := ⟨.hbm, 191, rfl⟩
abbrev main_v136 : Ref sig .tc := ⟨.hbm, 192, rfl⟩
abbrev main_c_32 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_c_33 : Ref sig .tc := ⟨.hbm, 197, rfl⟩
abbrev main_v140 : Ref sig .tc := ⟨.hbm, 198, rfl⟩
abbrev main_v141 : Ref sig .tc := ⟨.hbm, 199, rfl⟩
abbrev main_c_34 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_35 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_36 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_37 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_38 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩

abbrev nD : Nat := 1
abbrev τ : Topo := Topo.v7x

variable {F : FTy → Type} [FloatOps F]
-- ==== Proof.Ring.lean ====
/-
  Hand-written, untrusted. The kernel's ring of six slabs: each slab is filled by seven copies out of the feature map,
  each copy on its own DMA semaphore. This module names the 42 (slot, strip) cells, states what each holds at a given
  moment (`CellSt`), and proves one lemma for each operation the body performs on a cell: reading a table word, starting
  a copy, waiting for one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Transfers
public import Idealize.ShloMosaic.Lib.Affine
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's resource algebra: the pipeline library's beside the transfers' counters. -/
local notation "𝕄" => MT nD τ sig Unit (Elt F) ℕ (Pipeline.UD sig nD τ) ℕ

/-- The transfers' counters inside that algebra. -/
abbrev EC : UEmb Counters (MT nD τ sig Unit (Elt F) ℕ (Pipeline.UD sig nD τ) ℕ) :=
  countersEmb (U := Pipeline.UD sig nD τ)

/-! ## Indices and table words -/

/-- The multi-index of a shape with no empty axis nearest to given coordinates: each taken modulo its axis. -/
def ixOf (s : Shape) (hs : ∀ a, 0 < s.size a) (v : Fin s.rank → ℕ) : s.Idx :=
  fun a => ⟨v a % s.size a, Nat.mod_lt _ (hs a)⟩

theorem ixOf_eq {s : Shape} (hs : ∀ a, 0 < s.size a) (v : Fin s.rank → ℕ) (y : s.Idx) (h : ∀ a, (y a : ℕ) = v a) :
    y = ixOf s hs v := funext fun a => Fin.ext (by
  show (y a : ℕ) = v a % s.size a
  rw [← h a, Nat.mod_eq_of_lt (y a).isLt])

/-- The `m`-th word of a table of 512. -/
def tab1 (t : S512.Idx → BitVec 32) (m : ℕ) : BitVec 32 := t (ixOf S512 (by decide) ![m])
/-- The word of row `m`, column `j` of a table of 512 rows of 8. -/
def tab2 (t : S512x8.Idx → BitVec 32) (m j : ℕ) : BitVec 32 := t (ixOf S512x8 (by decide) ![m, j])

/-- What the body asks of its tables: the image number is one of four, the first column is a multiple of 8 with 80
    columns after it, each of the seven first rows has a row after it. -/
structure TablesOK (tb tc : S512.Idx → BitVec 32) (ty : S512x8.Idx → BitVec 32) : Prop where
  img : ∀ m, m < 512 → (tab1 tb m).toNat ≤ 3
  col : ∀ m, m < 512 → (tab1 tc m).toNat ≤ 120
  col8 : ∀ m, m < 512 → 8 ∣ (tab1 tc m).toNat
  row : ∀ m j, m < 512 → j < 7 → (tab2 ty m j).toNat ≤ 198

/-- The number of a grid point. -/
def nOf (i : grid0.Coords) : ℕ := 256 * (i 0).val + (i 1).val

theorem nOf_lt (i : grid0.Coords) : nOf i < 512 := by
  have h0 : (i 0).val < 2 := (i 0).isLt
  have h1 : (i 1).val < 256 := (i 1).isLt
  unfold nOf; omega

/-- The word the kernel computes for a grid point's number. -/
abbrev word (i : grid0.Coords) : BitVec 32 :=
  Scalar.addi (Scalar.muli (BitVec.ofNat 32 (i 0).val) 256#32) (BitVec.ofNat 32 (i 1).val)

theorem word_toNat (i : grid0.Coords) : (word i).toNat = nOf i := by
  have h0 : (i 0).val < 2 := (i 0).isLt
  have h1 : (i 1).val < 256 := (i 1).isLt
  show (BitVec.ofNat 32 (i 0).val * 256#32 + BitVec.ofNat 32 (i 1).val).toNat = _
  rw [BitVec.toNat_add, BitVec.toNat_mul, BitVec.toNat_ofNat, BitVec.toNat_ofNat, BitVec.toNat_ofNat]
  unfold nOf; omega

/-- The word of the point `d` further on. -/
theorem word_add (i : grid0.Coords) (d : ℕ) (hd : d ≤ 6) : (Scalar.addi (word i) (BitVec.ofNat 32 d)).toNat = nOf i + d := by
  have h := nOf_lt i
  show (word i + BitVec.ofNat 32 d).toNat = _
  rw [BitVec.toNat_add, word_toNat, BitVec.toNat_ofNat]
  omega

/-- Its slot in the ring. -/
theorem word_rem (i : grid0.Coords) (d : ℕ) (hd : d ≤ 6) :
    (Scalar.remsi (Scalar.addi (word i) (BitVec.ofNat 32 d)) 6#32).toNat = (nOf i + d) % 6 := by
  have h := nOf_lt i
  have e := word_add i d hd
  show (IntOp.remsi .scalar _ (BitVec.ofNat 32 6)).toNat = _
  rw [IntOp.toNat_remsi _ (by rw [e]; omega) 6 (by omega) (by omega), e]

/-- The slot of the point itself. -/
theorem word_rem0 (i : grid0.Coords) : (Scalar.remsi (word i) 6#32).toNat = nOf i % 6 := by
  have h := nOf_lt i
  have e := word_toNat i
  show (IntOp.remsi .scalar _ (BitVec.ofNat 32 6)).toNat = _
  rw [IntOp.toNat_remsi _ (by rw [e]; omega) 6 (by omega) (by omega), e]

/-! ## The cells -/

/-- A cell: a slot of the ring and one of its seven strips. -/
abbrev Cell := Fin 6 × Fin 7

theorem dst_inb (k : Cell) (a : Fin 4) : (![k.1.val, 2 * k.2.val, 0, 0] : Fin 4 → ℕ) a + S1x2x80x256.size a ≤ S6x14x80x256.size a := by
  revert k a; decide
theorem sem_inb (k : Cell) (a : Fin 2) : (![k.1.val, k.2.val] : Fin 2 → ℕ) a + S1x1.size a ≤ S6x7.size a := by
  revert k a; decide

/-- The rectangle of the ring's buffer a cell's copy fills: two rows of 80 columns. -/
abbrev dstR (k : Cell) : Rect S6x14x80x256 := Rect.unit ![k.1.val, 2 * k.2.val, 0, 0] S1x2x80x256.size (dst_inb k)
/-- The same, as the memref the copy names. -/
abbrev dstM (k : Cell) : Memref sig .tc .vmem S2x80x256 .f32 :=
  ((Memref.whole cc0_scratch0 : Memref sig .tc .vmem S6x14x80x256 .f32).slice (dstR k) (fun _ => rfl)).squeeze S2x80x256 squeezes_S1x2x80x256_S2x80x256
/-- A cell's DMA semaphore. -/
abbrev semOf (k : Cell) : DmaSem sig :=
  ((cc0_scratch1.slice (Rect.unit (s := S6x7) ![k.1.val, k.2.val] S1x1.size (sem_inb k))).squeeze S_ squeezes_S1x1_S_).sem
/-- The same as a semaphore of either pool. -/
abbrev cellM (k : Cell) : SemLoc sig := .dma (semOf k)

/-- A cell's elements of the ring's buffer. -/
abbrev cellSet (k : Cell) : Finset S6x14x80x256.Idx := (dstR k).set

theorem dst_set (k : Cell) : (dstM k).view.set = cellSet k :=
  (View.set_reshape _ _).trans (View.set_slice_whole _ _)

theorem mem_cellSet (k : Cell) (y : S6x14x80x256.Idx) :
    y ∈ cellSet k ↔ (y 0).val = k.1.val ∧ (y 1).val / 2 = k.2.val := by
  have h2 : (y 2).val < 80 := (y 2).isLt
  have h3 : (y 3).val < 256 := (y 3).isLt
  rw [Rect.mem_set_unit]
  constructor
  · intro h
    have h0 : k.1.val ≤ (y 0).val ∧ (y 0).val < k.1.val + 1 := h 0
    have h1 : 2 * k.2.val ≤ (y 1).val ∧ (y 1).val < 2 * k.2.val + 2 := h 1
    omega
  · rintro ⟨h0, h1⟩ a
    match a with
    | ⟨0, _⟩ => exact (show k.1.val ≤ (y 0).val ∧ (y 0).val < k.1.val + 1 by omega)
    | ⟨1, _⟩ => exact (show 2 * k.2.val ≤ (y 1).val ∧ (y 1).val < 2 * k.2.val + 2 by omega)
    | ⟨2, _⟩ => exact (show 0 ≤ (y 2).val ∧ (y 2).val < 0 + 80 by omega)
    | ⟨3, _⟩ => exact (show 0 ≤ (y 3).val ∧ (y 3).val < 0 + 256 by omega)

theorem cellSet_disjoint (k k' : Cell) (h : k ≠ k') : Disjoint (cellSet k) (cellSet k') := by
  rw [Finset.disjoint_left]
  intro y hy hy'
  rw [mem_cellSet] at hy hy'
  exact h (Prod.ext (Fin.ext (hy.1.symm.trans hy'.1)) (Fin.ext (hy.2.symm.trans hy'.2)))

/-! ## What a cell holds -/

/-- The words of the three tables and the feature map. -/
structure Tabs (F : FTy → Type) where
  tb : S512.Idx → BitVec 32
  tc : S512.Idx → BitVec 32
  ty : S512x8.Idx → BitVec 32
  feat : S4x200x200x256.Idx → F .f32

/-- The tables' side condition, of such a bundle. -/
abbrev Tabs.OK (T : Tabs F) : Prop := TablesOK T.tb T.tc T.ty

theorem feat_pos : ∀ a, 0 < S4x200x200x256.size a := by decide

/-- The ring's buffer when every slot holds the box `m`: row `r` is row `r % 2` of strip `r / 2`. -/
def strip (T : Tabs F) (m : ℕ) : S6x14x80x256.Idx → F .f32 := fun y =>
  T.feat (ixOf S4x200x200x256 feat_pos
    ![(tab1 T.tb m).toNat, (tab2 T.ty m ((y 1).val / 2)).toNat + (y 1).val % 2, (tab1 T.tc m).toNat + (y 2).val, (y 3).val])

/-- A cell's state: empty; its copy of box `m` in flight; that copy landed. -/
inductive CellSt where
  | free
  | flying (m : ℕ)
  | landed (m : ℕ)

/-- The bytes one copy moves, as its semaphore counts them. -/
def credN : ℕ := (dstM (0, 0)).view.dmaCredit

theorem credN_pos : 0 < credN := View.dmaCredit_pos _ (by decide)

/-- The ring's buffer and the feature map on core `c`. -/
abbrev ringLoc (c : Dev nD) : Loc nD τ sig := (c : Thread nD τ).loc cc0_scratch0
abbrev featLoc (c : Dev nD) : Loc nD τ sig := (c : Thread nD τ).loc main_v166

/-- What a cell owns in a state: its elements of the ring, its semaphore, its share of the feature map; a flying cell
    owns its flight, which delivers the elements and the part of the share it reads. -/
def cellRes (c : Dev nD) (T : Tabs F) (sh : Cell → PosShare TreeShare) (k : Cell) : CellSt → sProp 𝕄
  | .free => iprop((∃ f : Buf (Elt F) (ringLoc c), ringLoc c ↦[cellSet k]{fullShare} f)
      ∗ semVal ((c : Thread nD τ), cellM k) 0 ∗ (featLoc c ↦{sh k} (T.feat : Buf (Elt F) (featLoc c))))
  | .flying m => iprop(∃ I : Finset (Idx (featLoc c)),
      Flight EC (c : Thread nD τ) (cellM k) () credN iprop((ringLoc c ↦[cellSet k]{fullShare} (strip T m : Buf (Elt F) (ringLoc c)))
        ∗ (featLoc c ↦[I]{sh k} (T.feat : Buf (Elt F) (featLoc c))))
      ∗ (featLoc c ↦[Finset.univ \ I]{sh k} (T.feat : Buf (Elt F) (featLoc c))))
  | .landed m => iprop((ringLoc c ↦[cellSet k]{fullShare} (strip T m : Buf (Elt F) (ringLoc c)))
      ∗ semVal ((c : Thread nD τ), cellM k) 0 ∗ (featLoc c ↦{sh k} (T.feat : Buf (Elt F) (featLoc c))))

/-- The whole ring, each cell in its state. -/
def ring (c : Dev nD) (T : Tabs F) (sh : Cell → PosShare TreeShare) (f : Cell → CellSt) : sProp 𝕄 :=
  bigSep Finset.univ fun k => cellRes c T sh k (f k)

/-- One cell taken out of the ring, to be put back in any state. -/
theorem ring_take (c : Dev nD) (T : Tabs F) (sh : Cell → PosShare TreeShare) (f : Cell → CellSt) (k : Cell) :
    ring c T sh f ⊢ iprop(cellRes c T sh k (f k) ∗ ∀ x, cellRes c T sh k x -∗ ring c T sh (Function.update f k x)) := by
  unfold ring
  rw [bigSep_univ_split k]
  refine sep_mono_right ?_
  iintro H %x Hx
  have e : bigSep Finset.univ (fun k' => cellRes c T sh k' (Function.update f k x k'))
      = iprop(cellRes c T sh k x ∗ bigSep (Finset.univ.erase k) fun k' => cellRes c T sh k' (f k')) := by
    rw [bigSep_univ_split k, Function.update_self,
      bigSep_congr (s := Finset.univ.erase k) (Φ := fun k' => cellRes c T sh k' (Function.update f k x k')) (Ψ := fun k' => cellRes c T sh k' (f k'))
        (fun k' hk' => by rw [Function.update_of_ne (Finset.ne_of_mem_erase hk')])]
    rfl
  rw [e]
  isplitl [Hx]; · iexact Hx
  iexact H

/-- The ring's states with the first `j` strips of slot `s` changed to `x`. -/
def setTo (f : Cell → CellSt) (s : ℕ) (x : CellSt) (j : ℕ) : Cell → CellSt :=
  fun k => if k.1.val = s ∧ k.2.val < j then x else f k

theorem setTo_zero (f : Cell → CellSt) (s : ℕ) (x : CellSt) : setTo f s x 0 = f := by
  funext k; unfold setTo; rw [if_neg (by omega)]

theorem setTo_succ (f : Cell → CellSt) (s : ℕ) (x : CellSt) (j : ℕ) (hs : s < 6) (hj : j < 7) :
    Function.update (setTo f s x j) (⟨s, hs⟩, ⟨j, hj⟩) x = setTo f s x (j + 1) := by
  funext k
  unfold setTo
  by_cases h : k = (⟨s, hs⟩, ⟨j, hj⟩)
  · subst h; rw [Function.update_self, if_pos ⟨rfl, Nat.lt_succ_self j⟩]
  · rw [Function.update_of_ne h]
    have hne : ¬(k.1.val = s ∧ k.2.val = j) := fun e => h (Prod.ext (Fin.ext e.1) (Fin.ext e.2))
    exact if_congr (by omega) rfl rfl

theorem setTo_at (f : Cell → CellSt) (s : ℕ) (x : CellSt) (j : ℕ) (hs : s < 6) (hj : j < 7) :
    setTo f s x j (⟨s, hs⟩, ⟨j, hj⟩) = f (⟨s, hs⟩, ⟨j, hj⟩) := by
  unfold setTo; exact if_neg (by simp)

/-! ## Reading a table, checking a word -/

section Steps

variable (c : Dev nD)

/-- A load of one word of an SMEM buffer, its value named. -/
theorem ld {s' : Shape} {α : Type} (M : Memref sig .tc .smem s' .i32) (t : Buf (Elt F) (M.view.loc (c : Thread nD τ)))
    {r : Rect s'} {h1 : r.shape.numel = 1} {hp : EltTy.packing .i32 = 1}
    {k : Elt F .i32 → Prog (TpuEff nD τ sig (Elt F) Λ₀ .tc) α} {Q : α → sProp 𝕄} {q : PosShare TreeShare} (w : Elt F .i32)
    (hw : ∀ x, (M.access r).read (Elt F) t x = w) :
    (M.view.loc (c : Thread nD τ) ↦{q} t)
      ⊢ iprop(((M.view.loc (c : Thread nD τ) ↦{q} t) -∗ wp frame (wpE (defs₀ (F := F)) Variants.none c none) Set.univ (k w) Q)
        -∗ wp frame (wpE (defs₀ (F := F)) Variants.none c none) Set.univ (smemLoad M r h1 hp >>= k) Q) := by
  have h := wp_smemLoadElt (defs := defs₀ (F := F)) Variants.none (c : Thread nD τ) none (Γ := .empty) Set.univ (Q := Q) (m := M) (r := r)
    (hw := View.loads_smem_one hp h1) (x := Shape.Idx.first (h1.symm ▸ Nat.one_pos)) (k := k) (q := q) (f := t) (Finset.subset_univ _)
  rw [hw] at h
  exact h

/-- The words a scalar load of the first table reads, of the second, of the third, the offsets known. -/
theorem read_tb (t : S512.Idx → BitVec 32) (m : ℕ) {off : Fin 1 → ℕ} {hin : ∀ a, off a + S1.size a ≤ S512.size a} (e : off = ![m]) (x) :
    ((Memref.whole main_v1 : Memref sig .tc .smem S512 .i32).access (Rect.unit (s := S512) off S1.size hin)).read (Elt F) t x = tab1 t m := by
  subst e
  refine congrArg t (ixOf_eq (s := S512) (by decide) _ _ fun a => ?_)
  match a with
  | ⟨0, _⟩ => exact (show m + 1 * (x 0).val = m by have : (x 0).val < 1 := (x 0).isLt; omega)
theorem read_tc (t : S512.Idx → BitVec 32) (m : ℕ) {off : Fin 1 → ℕ} {hin : ∀ a, off a + S1.size a ≤ S512.size a} (e : off = ![m]) (x) :
    ((Memref.whole main_v86 : Memref sig .tc .smem S512 .i32).access (Rect.unit (s := S512) off S1.size hin)).read (Elt F) t x = tab1 t m :=
  read_tb t m e x
theorem read_ty (t : S512x8.Idx → BitVec 32) (m j : ℕ) {off : Fin 2 → ℕ} {hin : ∀ a, off a + S1x1.size a ≤ S512x8.size a} (e : off = ![m, j]) (x) :
    ((Memref.whole main_v168 : Memref sig .tc .smem S512x8 .i32).access (Rect.unit (s := S512x8) off S1x1.size hin)).read (Elt F) t x = tab2 t m j := by
  subst e
  refine congrArg t (ixOf_eq (s := S512x8) (by decide) _ _ fun a => ?_)
  match a with
  | ⟨0, _⟩ => exact (show m + 1 * (x 0).val = m by have : (x 0).val < 1 := (x 0).isLt; omega)
  | ⟨1, _⟩ => exact (show j + 1 * (x 1).val = j by have : (x 1).val < 1 := (x 1).isLt; omega)

/-- A side condition the body assumes, proved. -/
theorem asm {P : Prop} {d : Decidable P} {α : Type} {k : PLift P → Prog (TpuEff nD τ sig (Elt F) Λ₀ .tc) α} {Q : α → sProp 𝕄} (h : P) :
    wp frame (wpE (defs₀ (F := F)) Variants.none c none) Set.univ (k ⟨h⟩) Q
      ⊢ wp frame (wpE (defs₀ (F := F)) Variants.none c none) Set.univ (Prog.lift (TpuEff.assume P d) >>= k) Q :=
  wp_assume Variants.none (c : Thread nD τ) none Set.univ h

/-! ## Starting a copy, waiting for one -/

variable (T : Tabs F) (sh : Cell → PosShare TreeShare)

/-- The part of the feature map the copy of strip `j` of box `m` reads starts here. -/
abbrev srcOff (m j : ℕ) : Fin 4 → ℕ := ![(tab1 T.tb m).toNat, (tab2 T.ty m j).toNat, (tab1 T.tc m).toNat, 0]

/-- A slice of the feature map as the body names it. -/
abbrev srcM (off : Fin 4 → ℕ) (hin : ∀ a, off a + S1x2x80x256.size a ≤ S4x200x200x256.size a) : Memref sig .tc .hbm S2x80x256 .f32 :=
  ((Memref.whole main_v166 : Memref sig .tc .hbm S4x200x200x256 .f32).slice (Rect.unit (s := S4x200x200x256) off S1x2x80x256.size hin) (fun _ => rfl)).squeeze
    S2x80x256 squeezes_S1x2x80x256_S2x80x256
/-- A slice of the ring as the body names it. -/
abbrev ringM (off : Fin 4 → ℕ) (hin : ∀ a, off a + S1x2x80x256.size a ≤ S6x14x80x256.size a) : Memref sig .tc .vmem S2x80x256 .f32 :=
  ((Memref.whole cc0_scratch0 : Memref sig .tc .vmem S6x14x80x256 .f32).slice (Rect.unit (s := S6x14x80x256) off S1x2x80x256.size hin) (fun _ => rfl)).squeeze
    S2x80x256 squeezes_S1x2x80x256_S2x80x256
/-- A semaphore of the ring as the body names it. -/
abbrev semM (off : Fin 2 → ℕ) (hin : ∀ a, off a + S1x1.size a ≤ S6x7.size a) : DmaSem sig :=
  ((cc0_scratch1.slice (Rect.unit (s := S6x7) off S1x1.size hin)).squeeze S_ squeezes_S1x1_S_).sem

/-- What the copy leaves in a cell's elements is the strip. -/
theorem copy_strip (k : Cell) (m : ℕ) (hin : ∀ a, srcOff T m k.2.val a + S1x2x80x256.size a ≤ S4x200x200x256.size a)
    (fd : Buf (Elt F) (ringLoc c)) (y : S6x14x80x256.Idx) (hy : y ∈ cellSet k) :
    (dstM k).view.write (Elt F) fd ((srcM (srcOff T m k.2.val) hin).view.read (Elt F) T.feat) Finset.univ y = strip T m y := by
  rw [← dst_set k] at hy
  obtain ⟨x, -, rfl⟩ := Finset.mem_map.mp hy
  refine (View.write_emb_of_mem _ _ (Finset.mem_univ x)).trans ?_
  refine congrArg T.feat (ixOf_eq feat_pos _ _ ?_)
  set z : S1x2x80x256.Idx := Shape.reshapeEquiv squeezes_S1x2x80x256_S2x80x256.numel_eq x with hz
  have hd : ∀ a, ((dstM k).view.emb x a).val = (![k.1.val, 2 * k.2.val, 0, 0] : Fin 4 → ℕ) a + 1 * (z a).val := fun a => rfl
  have hs : ∀ a, ((srcM (srcOff T m k.2.val) hin).view.emb x a).val = srcOff T m k.2.val a + 1 * (z a).val := fun a => rfl
  have z0 : (z 0).val < 1 := (z 0).isLt
  have z1 : (z 1).val < 2 := (z 1).isLt
  have d1 : ((dstM k).view.emb x 1).val = 2 * k.2.val + 1 * (z 1).val := hd 1
  have d2 : ((dstM k).view.emb x 2).val = 0 + 1 * (z 2).val := hd 2
  have d3 : ((dstM k).view.emb x 3).val = 0 + 1 * (z 3).val := hd 3
  intro a
  refine (hs a).trans ?_
  have e : ((dstM k).view.emb x 1).val / 2 = k.2.val := by omega
  match a with
  | ⟨0, _⟩ => exact (show (tab1 T.tb m).toNat + 1 * (z 0).val = (tab1 T.tb m).toNat by omega)
  | ⟨1, _⟩ =>
    show (tab2 T.ty m k.2.val).toNat + 1 * (z 1).val = (tab2 T.ty m (((dstM k).view.emb x 1).val / 2)).toNat + ((dstM k).view.emb x 1).val % 2
    rw [e]; omega
  | ⟨2, _⟩ => exact (show (tab1 T.tc m).toNat + 1 * (z 2).val = (tab1 T.tc m).toNat + ((dstM k).view.emb x 2).val by omega)
  | ⟨3, _⟩ => exact (show 0 + 1 * (z 3).val = ((dstM k).view.emb x 3).val by omega)

/-- Starting the copy of strip `j` of box `m` into a free cell of slot `s`. -/
theorem enq {α : Type} (f : Cell → CellSt) (s m j : ℕ) (hs : s < 6) (hj : j < 7) (hf : ∀ j, f (⟨s, hs⟩, j) = .free)
    {os : Fin 4 → ℕ} {od : Fin 4 → ℕ} {oc : Fin 2 → ℕ}
    {his : ∀ a, os a + S1x2x80x256.size a ≤ S4x200x200x256.size a} {hid : ∀ a, od a + S1x2x80x256.size a ≤ S6x14x80x256.size a}
    {hic : ∀ a, oc a + S1x1.size a ≤ S6x7.size a}
    (eos : os = srcOff T m j) (eod : od = ![s, 2 * j, 0, 0]) (eoc : oc = ![s, j])
    {hws : (srcM os his).view.WordExact} {hwd : (ringM od hid).view.WordExact}
    {hty : DmaTarget.Typed (nD := nD) (p := Proc.tc) .hbm (.dma (semM oc hic)) (.here (ringM od hid))}
    {k : PUnit → Prog (TpuEff nD τ sig (Elt F) Λ₀ .tc) α} {Q : α → sProp 𝕄} :
    ring c T sh (setTo f s (.flying m) j)
      ⊢ iprop((ring c T sh (setTo f s (.flying m) (j + 1)) -∗ wp frame (wpE (defs₀ (F := F)) Variants.none c none) Set.univ (k ⟨⟩) Q)
        -∗ wp frame (wpE (defs₀ (F := F)) Variants.none c none) Set.univ
            (Prog.lift (TpuEff.enqueueDma (srcM os his) (.here (ringM od hid)) (.dma (semM oc hic)) hws hwd hty) >>= k) Q) := by
  subst eos eod eoc
  refine (ring_take c T sh _ (⟨s, hs⟩, ⟨j, hj⟩)).trans ?_
  rw [setTo_at, hf]
  unfold cellRes
  iintro ⟨⟨⟨%fd, Hd⟩, Hv, Hf⟩, Hput⟩ Hk
  ihave Hf := (pointsTo_split_subset (Finset.subset_univ (srcM (srcOff T m j) his).view.set)).1 $$ Hf
  icases Hf with ⟨Hs, Hr⟩
  iapply (Transfers.wp_dmaLocal EC Variants.none (c : Thread nD τ) none (src := srcM (srcOff T m j) his)
    (dst := dstM (⟨s, hs⟩, ⟨j, hj⟩)) (q := sh (⟨s, hs⟩, ⟨j, hj⟩)) (fs := T.feat) (Sd := cellSet (⟨s, hs⟩, ⟨j, hj⟩)) (fd := fd)
    () credN rfl credN_pos (le_of_eq (dst_set _))) $$ [Hs Hd Hv]
  · isplitl [Hs]; · iexact Hs
    isplitl [Hd]; · iexact Hd
    iexact Hv
  iintro HF
  iapply Hk
  ihave H := Hput $$ %(CellSt.flying m)
  rw [setTo_succ]
  iapply H
  iexists _
  isplitl [HF]
  · iapply (Transfers.Flight_mono (D := _) ?_) $$ HF
    refine sep_mono_left (Entails.of_eq (pointsTo_congr fun y hy => ?_))
    exact copy_strip c T (⟨s, hs⟩, ⟨j, hj⟩) m his fd y hy
  iexact Hr

/-- Waiting for the copy in flight into a cell of slot `s`. -/
theorem wait {α : Type} (f : Cell → CellSt) (s m j : ℕ) (hs : s < 6) (hj : j < 7) (hf : ∀ j, f (⟨s, hs⟩, j) = .flying m)
    {od : Fin 4 → ℕ} {oc : Fin 2 → ℕ}
    {hid hid' : ∀ a, od a + S1x2x80x256.size a ≤ S6x14x80x256.size a} {hic : ∀ a, oc a + S1x1.size a ≤ S6x7.size a}
    (eod : od = ![s, 2 * j, 0, 0]) (eoc : oc = ![s, j])
    {hws : (ringM od hid).view.WordExact} {hwd : (ringM od hid').view.WordExact}
    {k : PUnit → Prog (TpuEff nD τ sig (Elt F) Λ₀ .tc) α} {Q : α → sProp 𝕄} :
    iprop(ring c T sh (setTo f s (.landed m) j) ∗ ∃ W, owes (c : Thread nD τ) 0 W)
      ⊢ iprop((iprop(ring c T sh (setTo f s (.landed m) (j + 1)) ∗ ∃ W, owes (c : Thread nD τ) 0 W)
          -∗ wp frame (wpE (defs₀ (F := F)) Variants.none c none) Set.univ (k ⟨⟩) Q)
        -∗ wp frame (wpE (defs₀ (F := F)) Variants.none c none) Set.univ
            (Prog.lift (TpuEff.waitDma2 (semM oc hic) (ringM od hid) (ringM od hid') hws hwd) >>= k) Q) := by
  subst eod eoc
  refine (sep_mono_left (ring_take c T sh _ (⟨s, hs⟩, ⟨j, hj⟩))).trans ?_
  rw [setTo_at, hf]
  unfold cellRes
  iintro ⟨⟨⟨%I, HF, Hr⟩, Hput⟩, ⟨%W, HW⟩⟩ Hk
  iapply (Transfers.wp_waitLocal EC Variants.none (c : Thread nD τ) none (sem := semOf (⟨s, hs⟩, ⟨j, hj⟩))
    (srcw := ringM _ hid) (dstw := ringM _ hid') (hsrc := hws) (hdst := hwd) () (N := credN) rfl) $$ [HF HW]
  · isplitl [HF]; · iexact HF
    iexact HW
  iintro ⟨⟨Hd, Hs⟩, Hv, HW⟩
  iapply Hk
  isplitr [HW]
  · ihave H := Hput $$ %(CellSt.landed m)
    rw [setTo_succ]
    iapply H
    isplitl [Hd]; · iexact Hd
    isplitl [Hv]; · iexact Hv
    iapply (pointsTo_split_subset (Finset.subset_univ I)).2
    isplitl [Hs]; · iexact Hs
    iexact Hr
  iexists _; iexact HW

end Steps

end Cert.KernelIdeal.Hand

end
-- ==== Proof.Parts.lean ====
/-
  Hand-written, untrusted. The kernel's body up to its arithmetic: the copies it starts at a grid point and the seven it
  waits for, part by part of the generated skeleton, as steps of the ring of cells.
-/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The words of a grid point -/

/-- A word that holds the number of box `m`. -/
structure WordIs (w : BitVec 32) (m : ℕ) : Prop where
  val : w.toNat = m
  rem : (Scalar.remsi w 6#32).toNat = m % 6
  lt : m < 512

theorem wordIs_add (i : grid0.Coords) (d : ℕ) (hd : d ≤ 6) (hm : nOf i + d < 512) :
    WordIs (Scalar.addi (word i) (BitVec.ofNat 32 d)) (nOf i + d) :=
  ⟨word_add i d hd, word_rem i d hd, hm⟩

theorem wordIs_next (i : grid0.Coords) (hm : nOf i + 5 < 512) :
    WordIs (Scalar.subi (Scalar.addi (word i) 6#32) 1#32) (nOf i + 5) := by
  have e : Scalar.subi (Scalar.addi (word i) 6#32) 1#32 = Scalar.addi (word i) (BitVec.ofNat 32 5) := by
    show word i + 6#32 - 1#32 = word i + 5#32
    generalize word i = w
    bv_omega
  rw [e]; exact wordIs_add i 5 (by omega) hm

/-- The body starts the first five boxes' copies at the first point of a half. -/
theorem cond1_iff (i : grid0.Coords) : k0_cond1 i = 1#1 ↔ (i 1).val = 0 := by
  have h : ∀ v : Fin 256, (Scalar.cmpi .ne (Scalar.extui (Scalar.cmpi .eq (BitVec.ofNat 32 v.val) 0#32)) 0#32 = 1#1) ↔ v.val = 0 := by
    decide +kernel
  exact h ⟨(i 1).val, (i 1).isLt⟩

/-- The body starts the copies of the box five ahead while that box lies in the same half. -/
theorem cond2_iff (i : grid0.Coords) : k0_cond2 i = 1#1 ↔ (i 1).val + 5 < 256 := by
  have h : ∀ v : Fin 256, (Scalar.cmpi .ne (Scalar.extui
      (Scalar.cmpi .slt (Scalar.subi (Scalar.addi (BitVec.ofNat 32 v.val) 6#32) 1#32) 256#32)) 0#32 = 1#1) ↔ v.val + 5 < 256 := by
    decide +kernel
  exact h ⟨(i 1).val, (i 1).isLt⟩

theorem cond1_lt (i : grid0.Coords) (h : k0_cond1 i = 1#1) : nOf i + 4 < 512 := by
  have h0 : (i 0).val < 2 := (i 0).isLt
  have := (cond1_iff i).1 h
  unfold nOf; omega

theorem cond2_lt (i : grid0.Coords) (h : k0_cond2 i = 1#1) : nOf i + 5 < 512 := by
  have h0 : (i 0).val < 2 := (i 0).isLt
  have := (cond2_iff i).1 h
  unfold nOf; omega

/-! ## The ring while the copies of consecutive boxes are being started -/

/-- The ring `f` after the first `q` strips, in order, of the boxes from `b` on have been started. -/
def fl (f : Cell → CellSt) (b q : ℕ) : Cell → CellSt := fun k =>
  if 7 * ((k.1.val + 6 - b % 6) % 6) + k.2.val < q then .flying (b + (k.1.val + 6 - b % 6) % 6) else f k

theorem fl_zero (f : Cell → CellSt) (b : ℕ) : fl f b 0 = f := by
  funext k; unfold fl; rw [if_neg (by omega)]

theorem slot_lt (m : ℕ) : m % 6 < 6 := Nat.mod_lt _ (by decide)

/-- Within one box the strips are set one after another. -/
theorem fl_setTo (f : Cell → CellSt) (b d j : ℕ) (hd : d < 6) (hj : j ≤ 7) :
    fl f b (7 * d + j) = setTo (fl f b (7 * d)) ((b + d) % 6) (.flying (b + d)) j := by
  funext ⟨⟨s, hs⟩, ⟨l, hl⟩⟩
  unfold setTo fl
  show (if 7 * ((s + 6 - b % 6) % 6) + l < 7 * d + j then CellSt.flying (b + (s + 6 - b % 6) % 6) else f _)
    = if s = (b + d) % 6 ∧ l < j then CellSt.flying (b + d) else
      if 7 * ((s + 6 - b % 6) % 6) + l < 7 * d then CellSt.flying (b + (s + 6 - b % 6) % 6) else f _
  by_cases h : s = (b + d) % 6
  · have e : (s + 6 - b % 6) % 6 = d := by omega
    rw [e]
    by_cases hlj : l < j
    · rw [if_pos (by omega), if_pos ⟨h, hlj⟩]
    · rw [if_neg (by omega), if_neg (by omega), if_neg (by omega)]
  · have e : (s + 6 - b % 6) % 6 ≠ d := by omega
    rw [if_neg (c := s = _ ∧ _) (by omega)]
    by_cases hlt : 7 * ((s + 6 - b % 6) % 6) + l < 7 * d
    · rw [if_pos (by omega), if_pos hlt]
    · rw [if_neg (by omega), if_neg hlt]

theorem fl_at (f : Cell → CellSt) (b d : ℕ) (hd : d < 6) (j : Fin 7) :
    fl f b (7 * d) (⟨(b + d) % 6, slot_lt _⟩, j) = f (⟨(b + d) % 6, slot_lt _⟩, j) := by
  unfold fl
  exact if_neg (by
    show ¬ 7 * (((b + d) % 6 + 6 - b % 6) % 6) + j.val < 7 * d
    have e : ((b + d) % 6 + 6 - b % 6) % 6 = d := by omega
    rw [e]; omega)

/-! ## One step, with everything the steps use in one place -/

section

variable (c : Dev nD) (T : Tabs F) (sh : Cell → PosShare TreeShare) (q : PosShare TreeShare)

/-- Where the tables lie. -/
abbrev tbLoc (c : Dev nD) : Loc nD τ sig := (Memref.whole main_v1 : Memref sig .tc .smem S512 .i32).view.loc (c : Thread nD τ)
abbrev tcLoc (c : Dev nD) : Loc nD τ sig := (Memref.whole main_v86 : Memref sig .tc .smem S512 .i32).view.loc (c : Thread nD τ)
abbrev tyLoc (c : Dev nD) : Loc nD τ sig := (Memref.whole main_v168 : Memref sig .tc .smem S512x8 .i32).view.loc (c : Thread nD τ)

/-- The three tables, as the body holds them. -/
def tabs : sProp 𝕄 :=
  iprop((tbLoc c ↦{q} (T.tb : Buf (Elt F) (tbLoc c))) ∗ (tcLoc c ↦{q} (T.tc : Buf (Elt F) (tcLoc c)))
    ∗ (tyLoc c ↦{q} (T.ty : Buf (Elt F) (tyLoc c))))

/-- What the body's memory steps use: the tables, the ring, the record of what is owed. -/
def st (f : Cell → CellSt) : sProp 𝕄 := iprop(tabs c T q ∗ ring c T sh f ∗ ∃ W, owes (c : Thread nD τ) 0 W)

/-- The weakest precondition of a piece of the body. -/
abbrev WP {α : Type} (p : Prog (TpuEff nD τ sig (Elt F) Λ₀ .tc) α) (Q : α → sProp 𝕄) : sProp 𝕄 :=
  wp frame (wpE (defs₀ (F := F)) Variants.none c none) Set.univ p Q

end

variable {c : Dev nD} {T : Tabs F} {sh : Cell → PosShare TreeShare} {q : PosShare TreeShare} {f : Cell → CellSt}

theorem ent_trans {P P' P'' : sProp 𝕄} (h : P ⊢ P') (h' : P' ⊢ P'') : P ⊢ P'' := h.trans h'

theorem sl_pure {α : Type} {R : sProp 𝕄} {Q : α → sProp 𝕄} (a : α) (h : iprop(R ∗ st c T sh q f) ⊢ Q a) : iprop(R ∗ st c T sh q f) ⊢ WP c (pure a) Q := by
  refine h.trans ?_
  unfold WP
  rw [wp_pure]
  exact fupd_intro

/-- Reading the box's word of the first table. -/
theorem sl_tb {α : Type} {R : sProp 𝕄} {Q : α → sProp 𝕄} {w : BitVec 32} {m : ℕ} (hw : WordIs w m) {off : Fin 1 → ℕ} {hin : ∀ a, off a + S1.size a ≤ S512.size a}
    {h1 : S1.numel = 1} {hp : EltTy.packing .i32 = 1} {k : Elt F .i32 → Prog (TpuEff nD τ sig (Elt F) Λ₀ .tc) α}
    (e : off = ![w.toNat]) (h : iprop(R ∗ st c T sh q f) ⊢ WP c (k (tab1 T.tb m)) Q) :
    iprop(R ∗ st c T sh q f) ⊢ WP c (smemLoad (Memref.whole main_v1) (Rect.unit (s := S512) off S1.size hin) h1 hp >>= k) Q := by
  have e' : off = ![m] := e.trans (congrArg (fun x : ℕ => ![x]) hw.val)
  refine ent_trans ?_ (BIClass.wand_elim (ld c (Memref.whole main_v1) (T.tb : Buf (Elt F) (tbLoc c)) (q := q) (tab1 T.tb m)
    (fun x => read_tb T.tb m e' x)))
  refine ent_trans ?_ (sep_mono_right (wand_mono .rfl h))
  unfold st tabs
  iintro ⟨HR, ⟨Hb, Hc, Hy⟩, Hr, HW⟩
  isplitl [Hb]; · iexact Hb
  iintro Hb
  isplitl [HR]; · iexact HR
  isplitl [Hb Hc Hy]
  · isplitl [Hb]; · iexact Hb
    isplitl [Hc]; · iexact Hc
    iexact Hy
  isplitl [Hr]; · iexact Hr
  iexact HW

/-- Reading the box's word of the second table. -/
theorem sl_tc {α : Type} {R : sProp 𝕄} {Q : α → sProp 𝕄} {w : BitVec 32} {m : ℕ} (hw : WordIs w m) {off : Fin 1 → ℕ} {hin : ∀ a, off a + S1.size a ≤ S512.size a}
    {h1 : S1.numel = 1} {hp : EltTy.packing .i32 = 1} {k : Elt F .i32 → Prog (TpuEff nD τ sig (Elt F) Λ₀ .tc) α}
    (e : off = ![w.toNat]) (h : iprop(R ∗ st c T sh q f) ⊢ WP c (k (tab1 T.tc m)) Q) :
    iprop(R ∗ st c T sh q f) ⊢ WP c (smemLoad (Memref.whole main_v86) (Rect.unit (s := S512) off S1.size hin) h1 hp >>= k) Q := by
  have e' : off = ![m] := e.trans (congrArg (fun x : ℕ => ![x]) hw.val)
  refine ent_trans ?_ (BIClass.wand_elim (ld c (Memref.whole main_v86) (T.tc : Buf (Elt F) (tcLoc c)) (q := q) (tab1 T.tc m)
    (fun x => read_tc T.tc m e' x)))
  refine ent_trans ?_ (sep_mono_right (wand_mono .rfl h))
  unfold st tabs
  iintro ⟨HR, ⟨Hb, Hc, Hy⟩, Hr, HW⟩
  isplitl [Hc]; · iexact Hc
  iintro Hc
  isplitl [HR]; · iexact HR
  isplitl [Hb Hc Hy]
  · isplitl [Hb]; · iexact Hb
    isplitl [Hc]; · iexact Hc
    iexact Hy
  isplitl [Hr]; · iexact Hr
  iexact HW

/-- Reading a word of the box's row of the third table, and the check that follows it. -/
theorem sl_ty {α : Type} {R : sProp 𝕄} {Q : α → sProp 𝕄} {w : BitVec 32} {m : ℕ} (hw : WordIs w m) (j : ℕ) {off : Fin 2 → ℕ} {hin : ∀ a, off a + S1x1.size a ≤ S512x8.size a}
    {h1 : S1x1.numel = 1} {hp : EltTy.packing .i32 = 1} {P : Elt F .i32 → Prop} {dP : ∀ x, Decidable (P x)}
    {k : (x : Elt F .i32) → PLift (P x) → Prog (TpuEff nD τ sig (Elt F) Λ₀ .tc) α}
    (e : off = ![w.toNat, j]) (hP : P (tab2 T.ty m j)) (h : iprop(R ∗ st c T sh q f) ⊢ WP c (k (tab2 T.ty m j) ⟨hP⟩) Q) :
    iprop(R ∗ st c T sh q f) ⊢ WP c (smemLoad (Memref.whole main_v168) (Rect.unit (s := S512x8) off S1x1.size hin) h1 hp >>= fun x =>
      Prog.lift (TpuEff.assume (P x) (dP x)) >>= k x) Q := by
  have e' : off = ![m, j] := e.trans (congrArg (fun x : ℕ => ![x, j]) hw.val)
  refine ent_trans ?_ (BIClass.wand_elim (ld c (Memref.whole main_v168) (T.ty : Buf (Elt F) (tyLoc c)) (q := q) (tab2 T.ty m j)
    (fun x => read_ty T.ty m j e' x)))
  refine ent_trans ?_ (sep_mono_right (wand_mono .rfl (h.trans (asm c hP))))
  unfold st tabs
  iintro ⟨HR, ⟨Hb, Hc, Hy⟩, Hr, HW⟩
  isplitl [Hy]; · iexact Hy
  iintro Hy
  isplitl [HR]; · iexact HR
  isplitl [Hb Hc Hy]
  · isplitl [Hb]; · iexact Hb
    isplitl [Hc]; · iexact Hc
    iexact Hy
  isplitl [Hr]; · iexact Hr
  iexact HW

theorem sl_asm {α : Type} {R : sProp 𝕄} {Q : α → sProp 𝕄} {P : Prop} {d : Decidable P} {k : PLift P → Prog (TpuEff nD τ sig (Elt F) Λ₀ .tc) α} (hP : P)
    (h : iprop(R ∗ st c T sh q f) ⊢ WP c (k ⟨hP⟩) Q) :
    iprop(R ∗ st c T sh q f) ⊢ WP c (Prog.lift (TpuEff.assume P d) >>= k) Q := h.trans (asm c hP)

/-- Starting the copy of strip `j` of the `d`-th box from `b`. -/
theorem sl_enq {α : Type} {R : sProp 𝕄} {Q : α → sProp 𝕄} {w : BitVec 32} {b d : ℕ} (hw : WordIs w (b + d)) (j : ℕ) (hd : d < 6) (hj : j < 7)
    (hf : ∀ j, f (⟨(b + d) % 6, slot_lt _⟩, j) = .free)
    {os : Fin 4 → ℕ} {od : Fin 4 → ℕ} {oc : Fin 2 → ℕ}
    {his : ∀ a, os a + S1x2x80x256.size a ≤ S4x200x200x256.size a} {hid : ∀ a, od a + S1x2x80x256.size a ≤ S6x14x80x256.size a}
    {hic : ∀ a, oc a + S1x1.size a ≤ S6x7.size a}
    (eos : os = srcOff T (b + d) j) (eod : od = ![(Scalar.remsi w 6#32).toNat, 2 * j, 0, 0]) (eoc : oc = ![(Scalar.remsi w 6#32).toNat, j])
    {hws : (srcM os his).view.WordExact} {hwd : (ringM od hid).view.WordExact}
    {hty : DmaTarget.Typed (nD := nD) (p := Proc.tc) .hbm (.dma (semM oc hic)) (.here (ringM od hid))}
    {k : PUnit → Prog (TpuEff nD τ sig (Elt F) Λ₀ .tc) α}
    (h : iprop(R ∗ st c T sh q (fl f b (7 * d + j + 1))) ⊢ WP c (k ⟨⟩) Q) :
    iprop(R ∗ st c T sh q (fl f b (7 * d + j)))
      ⊢ WP c (Prog.lift (TpuEff.enqueueDma (srcM os his) (.here (ringM od hid)) (.dma (semM oc hic)) hws hwd hty) >>= k) Q := by
  rw [show 7 * d + j + 1 = 7 * d + (j + 1) from rfl, fl_setTo f b d (j + 1) hd hj] at h
  rw [fl_setTo f b d j hd hj.le]
  refine ent_trans ?_ (BIClass.wand_elim (enq c T sh (fl f b (7 * d)) ((b + d) % 6) (b + d) j (slot_lt _) hj
    (fun j => (fl_at f b d hd j).trans (hf j)) eos (eod.trans (congrArg (fun x : ℕ => ![x, 2 * j, 0, 0]) hw.rem))
    (eoc.trans (congrArg (fun x : ℕ => ![x, j]) hw.rem))))
  refine ent_trans ?_ (sep_mono_right (wand_mono .rfl h))
  unfold st
  iintro ⟨HR, Ht, Hr, HW⟩
  isplitl [Hr]; · iexact Hr
  iintro Hr
  isplitl [HR]; · iexact HR
  isplitl [Ht]; · iexact Ht
  isplitl [Hr]; · iexact Hr
  iexact HW

/-- Waiting for strip `j` of box `m`. -/
theorem sl_wait {α : Type} {R : sProp 𝕄} {Q : α → sProp 𝕄} {w : BitVec 32} {m : ℕ} (hw : WordIs w m) (j : ℕ) (hj : j < 7)
    (hf : ∀ j, f (⟨m % 6, slot_lt _⟩, j) = .flying m)
    {od : Fin 4 → ℕ} {oc : Fin 2 → ℕ}
    {hid hid' : ∀ a, od a + S1x2x80x256.size a ≤ S6x14x80x256.size a} {hic : ∀ a, oc a + S1x1.size a ≤ S6x7.size a}
    (eod : od = ![(Scalar.remsi w 6#32).toNat, 2 * j, 0, 0]) (eoc : oc = ![(Scalar.remsi w 6#32).toNat, j])
    {hws : (ringM od hid).view.WordExact} {hwd : (ringM od hid').view.WordExact}
    {k : PUnit → Prog (TpuEff nD τ sig (Elt F) Λ₀ .tc) α}
    (h : iprop(R ∗ st c T sh q (setTo f (m % 6) (.landed m) (j + 1))) ⊢ WP c (k ⟨⟩) Q) :
    iprop(R ∗ st c T sh q (setTo f (m % 6) (.landed m) j))
      ⊢ WP c (Prog.lift (TpuEff.waitDma2 (semM oc hic) (ringM od hid) (ringM od hid') hws hwd) >>= k) Q := by
  refine ent_trans ?_ (BIClass.wand_elim (wait c T sh f (m % 6) m j (slot_lt _) hj hf
    (eod.trans (congrArg (fun x : ℕ => ![x, 2 * j, 0, 0]) hw.rem)) (eoc.trans (congrArg (fun x : ℕ => ![x, j]) hw.rem))))
  refine ent_trans ?_ (sep_mono_right (wand_mono .rfl h))
  unfold st
  iintro ⟨HR, Ht, Hr, HW⟩
  isplitl [Hr HW]
  · isplitl [Hr]; · iexact Hr
    iexact HW
  iintro ⟨Hr, HW⟩
  isplitl [HR]; · iexact HR
  isplitl [Ht]; · iexact Ht
  isplitl [Hr]; · iexact Hr
  iexact HW

/-- The part of the feature map a strip is copied from lies inside it. -/
theorem chk_in (hT : T.OK) {m : ℕ} (hm : m < 512) (j : ℕ) (hj : j < 7) :
    ∀ a, srcOff T m j a + S1x2x80x256.size a ≤ S4x200x200x256.size a
  | ⟨0, _⟩ => by have := hT.img m hm; exact (show (tab1 T.tb m).toNat + 1 ≤ 4 by omega)
  | ⟨1, _⟩ => by have := hT.row m j hm hj; exact (show (tab2 T.ty m j).toNat + 2 ≤ 200 by omega)
  | ⟨2, _⟩ => by have := hT.col m hm; exact (show (tab1 T.tc m).toNat + 80 ≤ 200 by omega)
  | ⟨3, _⟩ => (show 0 + 256 ≤ 256 by omega)

/-- Every slot free. -/
abbrev allFree : Cell → CellSt := fun _ => .free

variable (arg6 : Memref sig .tc .vmem S1x56x8 .f32) (harg6 : arg6.IsWhole) (arg7 : Memref sig .tc .vmem S1x1120 .f32)
  (harg7 : arg7.IsWhole) (arg8 : Memref sig .tc .vmem S1x1120 .f32) (harg8 : arg8.IsWhole)
  (arg9 : Memref sig .tc .vmem S1x49x256 .f32) (harg9 : arg9.IsWhole)

/-- Starting the copy of one strip, then reading and checking the word of the next. -/
theorem sl_row {α : Type} {R : sProp 𝕄} {Q : α → sProp 𝕄} {w : BitVec 32} {b d : ℕ} (hw : WordIs w (b + d)) (j : ℕ) (hd : d < 6) (hj : j < 7)
    (hf : ∀ j, f (⟨(b + d) % 6, slot_lt _⟩, j) = .free)
    {os : Fin 4 → ℕ} {od : Fin 4 → ℕ} {oc : Fin 2 → ℕ}
    {his : ∀ a, os a + S1x2x80x256.size a ≤ S4x200x200x256.size a} {hid : ∀ a, od a + S1x2x80x256.size a ≤ S6x14x80x256.size a}
    {hic : ∀ a, oc a + S1x1.size a ≤ S6x7.size a}
    (eos : os = srcOff T (b + d) j) (eod : od = ![(Scalar.remsi w 6#32).toNat, 2 * j, 0, 0]) (eoc : oc = ![(Scalar.remsi w 6#32).toNat, j])
    {hws : (srcM os his).view.WordExact} {hwd : (ringM od hid).view.WordExact}
    {hty : DmaTarget.Typed (nD := nD) (p := Proc.tc) .hbm (.dma (semM oc hic)) (.here (ringM od hid))}
    {off : Fin 2 → ℕ} {hin : ∀ a, off a + S1x1.size a ≤ S512x8.size a}
    {h1 : S1x1.numel = 1} {hp : EltTy.packing .i32 = 1} {P : Elt F .i32 → Prop} {dP : ∀ x, Decidable (P x)}
    {k : (x : Elt F .i32) → PLift (P x) → Prog (TpuEff nD τ sig (Elt F) Λ₀ .tc) α}
    (e : off = ![w.toNat, j + 1]) (hP : P (tab2 T.ty (b + d) (j + 1)))
    (h : iprop(R ∗ st c T sh q (fl f b (7 * d + j + 1))) ⊢ WP c (k (tab2 T.ty (b + d) (j + 1)) ⟨hP⟩) Q) :
    iprop(R ∗ st c T sh q (fl f b (7 * d + j)))
      ⊢ WP c (Prog.lift (TpuEff.enqueueDma (srcM os his) (.here (ringM od hid)) (.dma (semM oc hic)) hws hwd hty) >>= fun _ =>
          smemLoad (Memref.whole main_v168) (Rect.unit (s := S512x8) off S1x1.size hin) h1 hp >>= fun x =>
          Prog.lift (TpuEff.assume (P x) (dP x)) >>= k x) Q :=
  sl_enq hw j hd hj hf eos eod eoc (sl_ty hw (j + 1) e hP h)

/-- Reading a box's first two words, checking the column, reading and checking its first row. -/
theorem sl_box {α : Type} {R : sProp 𝕄} {Q : α → sProp 𝕄} {w : BitVec 32} {m : ℕ} (hw : WordIs w m)
    {o o' : Fin 1 → ℕ} {ho : ∀ a, o a + S1.size a ≤ S512.size a} {ho' : ∀ a, o' a + S1.size a ≤ S512.size a}
    {h1 h1' : S1.numel = 1} {hp hp' : EltTy.packing .i32 = 1}
    {off : Fin 2 → ℕ} {hin : ∀ a, off a + S1x1.size a ≤ S512x8.size a}
    {h1'' : S1x1.numel = 1} {hp'' : EltTy.packing .i32 = 1} {P : Elt F .i32 → Prop} {dP : ∀ x, Decidable (P x)}
    {P' : Elt F .i32 → Elt F .i32 → Elt F .i32 → Prop} {dP' : ∀ x y z, Decidable (P' x y z)}
    {k : (x y : Elt F .i32) → PLift (P y) → (z : Elt F .i32) → PLift (P' x y z) → Prog (TpuEff nD τ sig (Elt F) Λ₀ .tc) α}
    (e : o = ![w.toNat]) (e' : o' = ![w.toNat]) (hP : P (tab1 T.tc m)) (e'' : off = ![w.toNat, 0])
    (hP' : P' (tab1 T.tb m) (tab1 T.tc m) (tab2 T.ty m 0))
    (h : iprop(R ∗ st c T sh q f) ⊢ WP c (k (tab1 T.tb m) (tab1 T.tc m) ⟨hP⟩ (tab2 T.ty m 0) ⟨hP'⟩) Q) :
    iprop(R ∗ st c T sh q f)
      ⊢ WP c (smemLoad (Memref.whole main_v1) (Rect.unit (s := S512) o S1.size ho) h1 hp >>= fun x =>
          smemLoad (Memref.whole main_v86) (Rect.unit (s := S512) o' S1.size ho') h1' hp' >>= fun y =>
          Prog.lift (TpuEff.assume (P y) (dP y)) >>= fun hy =>
          smemLoad (Memref.whole main_v168) (Rect.unit (s := S512x8) off S1x1.size hin) h1'' hp'' >>= fun z =>
          Prog.lift (TpuEff.assume (P' x y z) (dP' x y z)) >>= k x y hy z) Q :=
  sl_tb hw e (sl_tc hw e' (sl_asm hP (sl_ty hw 0 e'' hP' h)))

/-- Parts 1 and 2: the first box of a half, up to its last strip. -/
theorem part1 {R : sProp 𝕄} (i : grid0.Coords) {Q : (Σ' (_ : BitVec 32) (_ : Elt F .i32), Elt F .i32) → sProp 𝕄} (h1 : k0_cond1 i = 1#1) (hT : T.OK)
    (h : iprop(R ∗ st c T sh q (fl allFree (nOf i) 3)) ⊢ Q ⟨Scalar.addi (word i) 0#32, tab1 T.tb (nOf i + 0), tab1 T.tc (nOf i + 0)⟩) :
    iprop(R ∗ st c T sh q (fl allFree (nOf i) 0)) ⊢ WP c (k0_part1 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1 (word i) h1) Q := by
  rw [k0_part1_eq_skeleton]; unfold k0_part1_skel
  have hw := wordIs_add i 0 (by omega) (by have := cond1_lt i h1; omega)
  have ck := fun j hj (_ : k0_cond1 i = 1#1) => chk_in hT hw.lt j hj
  refine sl_box hw rfl rfl (fun _ => hT.col8 _ hw.lt) rfl (ck 0 (by omega)) ?_
  refine sl_row hw 0 (by omega) (by omega) (fun _ => rfl) rfl rfl rfl rfl (ck 1 (by omega)) ?_
  refine sl_row hw 1 (by omega) (by omega) (fun _ => rfl) rfl rfl rfl rfl (ck 2 (by omega)) ?_
  exact sl_enq hw 2 (by omega) (by omega) (fun _ => rfl) rfl rfl rfl (sl_pure _ h)

theorem part2 {R : sProp 𝕄} (i : grid0.Coords) {Q : (Σ' (v : Elt F .i32), k0_chk8 i (tab1 T.tb (nOf i + 0)) (tab1 T.tc (nOf i + 0)) v) → sProp 𝕄} (h1 : k0_cond1 i = 1#1) (hT : T.OK) (v : BitVec 32)
    (h : ∀ hk, iprop(R ∗ st c T sh q (fl allFree (nOf i) 6)) ⊢ Q ⟨tab2 T.ty (nOf i + 0) 6, hk⟩) :
    iprop(R ∗ st c T sh q (fl allFree (nOf i) 3)) ⊢ WP c (k0_part2 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      h1 v (tab1 T.tb (nOf i + 0)) (tab1 T.tc (nOf i + 0))) Q := by
  rw [k0_part2_eq_skeleton]; unfold k0_part2_skel
  have hw := wordIs_add i 0 (by omega) (by have := cond1_lt i h1; omega)
  have ck := fun j hj (_ : k0_cond1 i = 1#1) => chk_in hT hw.lt j hj
  refine sl_ty hw 3 rfl (ck 3 (by omega)) ?_
  refine sl_row (b := (nOf i)) (d := 0) hw 3 (by omega) (by omega) (fun _ => rfl) rfl rfl rfl rfl (ck 4 (by omega)) ?_
  refine sl_row (b := (nOf i)) (d := 0) hw 4 (by omega) (by omega) (fun _ => rfl) rfl rfl rfl rfl (ck 5 (by omega)) ?_
  refine sl_row (b := (nOf i)) (d := 0) hw 5 (by omega) (by omega) (fun _ => rfl) rfl rfl rfl rfl (ck 6 (by omega)) ?_
  exact sl_pure _ (h _)

/-- Parts 3 and 4: the last strip of the first box, then the second up to its last strip. -/
theorem part3 {R : sProp 𝕄} (i : grid0.Coords) {Q : (Σ' (_ : BitVec 32) (_ : Elt F .i32), Elt F .i32) → sProp 𝕄} (h1 : k0_cond1 i = 1#1) (hT : T.OK) (hk)
    (h : iprop(R ∗ st c T sh q (fl allFree (nOf i) 10)) ⊢ Q ⟨Scalar.addi (word i) 1#32, tab1 T.tb (nOf i + 1), tab1 T.tc (nOf i + 1)⟩) :
    iprop(R ∗ st c T sh q (fl allFree (nOf i) 6)) ⊢ WP c (k0_part3 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      (word i) h1 (tab1 T.tb (nOf i + 0)) (tab1 T.tc (nOf i + 0)) (tab2 T.ty (nOf i + 0) 6) hk) Q := by
  rw [k0_part3_eq_skeleton]; unfold k0_part3_skel
  have hw := wordIs_add i 0 (by omega) (by have := cond1_lt i h1; omega)
  have ck := fun j hj (_ : k0_cond1 i = 1#1) => chk_in hT hw.lt j hj
  have hw' := wordIs_add i 1 (by omega) (by have := cond1_lt i h1; omega)
  have ck' := fun j hj (_ : k0_cond1 i = 1#1) => chk_in hT hw'.lt j hj
  refine sl_enq (b := (nOf i)) (d := 0) hw 6 (by omega) (by omega) (fun _ => rfl) rfl rfl rfl ?_
  refine sl_box hw' rfl rfl (fun _ => hT.col8 _ hw'.lt) rfl (ck' 0 (by omega)) ?_
  refine sl_row (b := (nOf i)) (d := 1) hw' 0 (by omega) (by omega) (fun _ => rfl) rfl rfl rfl rfl (ck' 1 (by omega)) ?_
  refine sl_row (b := (nOf i)) (d := 1) hw' 1 (by omega) (by omega) (fun _ => rfl) rfl rfl rfl rfl (ck' 2 (by omega)) ?_
  refine sl_enq (b := (nOf i)) (d := 1) hw' 2 (by omega) (by omega) (fun _ => rfl) rfl rfl rfl ?_
  exact sl_pure _ h

theorem part4 {R : sProp 𝕄} (i : grid0.Coords) {Q : (Σ' (v : Elt F .i32), k0_chk16 i (tab1 T.tb (nOf i + 1)) (tab1 T.tc (nOf i + 1)) v) → sProp 𝕄} (h1 : k0_cond1 i = 1#1) (hT : T.OK) (v : BitVec 32)
    (h : ∀ hk, iprop(R ∗ st c T sh q (fl allFree (nOf i) 13)) ⊢ Q ⟨tab2 T.ty (nOf i + 1) 6, hk⟩) :
    iprop(R ∗ st c T sh q (fl allFree (nOf i) 10)) ⊢ WP c (k0_part4 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      h1 v (tab1 T.tb (nOf i + 1)) (tab1 T.tc (nOf i + 1))) Q := by
  rw [k0_part4_eq_skeleton]; unfold k0_part4_skel
  have hw := wordIs_add i 1 (by omega) (by have := cond1_lt i h1; omega)
  have ck := fun j hj (_ : k0_cond1 i = 1#1) => chk_in hT hw.lt j hj
  refine sl_ty hw 3 rfl (ck 3 (by omega)) ?_
  refine sl_row (b := (nOf i)) (d := 1) hw 3 (by omega) (by omega) (fun _ => rfl) rfl rfl rfl rfl (ck 4 (by omega)) ?_
  refine sl_row (b := (nOf i)) (d := 1) hw 4 (by omega) (by omega) (fun _ => rfl) rfl rfl rfl rfl (ck 5 (by omega)) ?_
  refine sl_row (b := (nOf i)) (d := 1) hw 5 (by omega) (by omega) (fun _ => rfl) rfl rfl rfl rfl (ck 6 (by omega)) ?_
  exact sl_pure _ (h _)

/-- Parts 5 and 6: the last strip of box 2, then box 3 up to its last strip. -/
theorem part5 {R : sProp 𝕄} (i : grid0.Coords) {Q : (Σ' (_ : BitVec 32) (a : Elt F .i32) (b : Elt F .i32) (v : Elt F .i32), k0_chk20 i a b v) → sProp 𝕄} (h1 : k0_cond1 i = 1#1) (hT : T.OK) (hk)
    (h : ∀ hk, iprop(R ∗ st c T sh q (fl allFree (nOf i) 16)) ⊢ Q ⟨Scalar.addi (word i) 2#32, tab1 T.tb (nOf i + 2), tab1 T.tc (nOf i + 2), tab2 T.ty (nOf i + 2) 2, hk⟩) :
    iprop(R ∗ st c T sh q (fl allFree (nOf i) 13)) ⊢ WP c (k0_part5 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      (word i) h1 (tab1 T.tb (nOf i + 1)) (tab1 T.tc (nOf i + 1)) (tab2 T.ty (nOf i + 1) 6) hk) Q := by
  rw [k0_part5_eq_skeleton]; unfold k0_part5_skel
  have hw := wordIs_add i 1 (by omega) (by have := cond1_lt i h1; omega)
  have ck := fun j hj (_ : k0_cond1 i = 1#1) => chk_in hT hw.lt j hj
  have hw' := wordIs_add i 2 (by omega) (by have := cond1_lt i h1; omega)
  have ck' := fun j hj (_ : k0_cond1 i = 1#1) => chk_in hT hw'.lt j hj
  refine sl_enq (b := (nOf i)) (d := 1) hw 6 (by omega) (by omega) (fun _ => rfl) rfl rfl rfl ?_
  refine sl_box hw' rfl rfl (fun _ => hT.col8 _ hw'.lt) rfl (ck' 0 (by omega)) ?_
  refine sl_row (b := (nOf i)) (d := 2) hw' 0 (by omega) (by omega) (fun _ => rfl) rfl rfl rfl rfl (ck' 1 (by omega)) ?_
  refine sl_row (b := (nOf i)) (d := 2) hw' 1 (by omega) (by omega) (fun _ => rfl) rfl rfl rfl rfl (ck' 2 (by omega)) ?_
  exact sl_pure _ (h _)

theorem part6 {R : sProp 𝕄} (i : grid0.Coords) {Q : (Σ' (v : Elt F .i32), k0_chk24 i (tab1 T.tb (nOf i + 2)) (tab1 T.tc (nOf i + 2)) v) → sProp 𝕄} (h1 : k0_cond1 i = 1#1) (hT : T.OK) (v : BitVec 32) (hk)
    (h : ∀ hk, iprop(R ∗ st c T sh q (fl allFree (nOf i) 20)) ⊢ Q ⟨tab2 T.ty (nOf i + 2) 6, hk⟩) :
    iprop(R ∗ st c T sh q (fl allFree (nOf i) 16)) ⊢ WP c (k0_part6 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      h1 v (tab1 T.tb (nOf i + 2)) (tab1 T.tc (nOf i + 2)) (tab2 T.ty (nOf i + 2) 2) hk) Q := by
  rw [k0_part6_eq_skeleton]; unfold k0_part6_skel
  have hw := wordIs_add i 2 (by omega) (by have := cond1_lt i h1; omega)
  have ck := fun j hj (_ : k0_cond1 i = 1#1) => chk_in hT hw.lt j hj
  refine sl_row (b := (nOf i)) (d := 2) hw 2 (by omega) (by omega) (fun _ => rfl) rfl rfl rfl rfl (ck 3 (by omega)) ?_
  refine sl_row (b := (nOf i)) (d := 2) hw 3 (by omega) (by omega) (fun _ => rfl) rfl rfl rfl rfl (ck 4 (by omega)) ?_
  refine sl_row (b := (nOf i)) (d := 2) hw 4 (by omega) (by omega) (fun _ => rfl) rfl rfl rfl rfl (ck 5 (by omega)) ?_
  refine sl_row (b := (nOf i)) (d := 2) hw 5 (by omega) (by omega) (fun _ => rfl) rfl rfl rfl rfl (ck 6 (by omega)) ?_
  exact sl_pure _ (h _)

/-- Parts 7 and 8: the last strip of box 3, then box 4 up to its last strip. -/
theorem part7 {R : sProp 𝕄} (i : grid0.Coords) {Q : (Σ' (_ : BitVec 32) (a : Elt F .i32) (b : Elt F .i32) (v : Elt F .i32), k0_chk28 i a b v) → sProp 𝕄} (h1 : k0_cond1 i = 1#1) (hT : T.OK) (hk)
    (h : ∀ hk, iprop(R ∗ st c T sh q (fl allFree (nOf i) 23)) ⊢ Q ⟨Scalar.addi (word i) 3#32, tab1 T.tb (nOf i + 3), tab1 T.tc (nOf i + 3), tab2 T.ty (nOf i + 3) 2, hk⟩) :
    iprop(R ∗ st c T sh q (fl allFree (nOf i) 20)) ⊢ WP c (k0_part7 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      (word i) h1 (tab1 T.tb (nOf i + 2)) (tab1 T.tc (nOf i + 2)) (tab2 T.ty (nOf i + 2) 6) hk) Q := by
  rw [k0_part7_eq_skeleton]; unfold k0_part7_skel
  have hw := wordIs_add i 2 (by omega) (by have := cond1_lt i h1; omega)
  have ck := fun j hj (_ : k0_cond1 i = 1#1) => chk_in hT hw.lt j hj
  have hw' := wordIs_add i 3 (by omega) (by have := cond1_lt i h1; omega)
  have ck' := fun j hj (_ : k0_cond1 i = 1#1) => chk_in hT hw'.lt j hj
  refine sl_enq (b := (nOf i)) (d := 2) hw 6 (by omega) (by omega) (fun _ => rfl) rfl rfl rfl ?_
  refine sl_box hw' rfl rfl (fun _ => hT.col8 _ hw'.lt) rfl (ck' 0 (by omega)) ?_
  refine sl_row (b := (nOf i)) (d := 3) hw' 0 (by omega) (by omega) (fun _ => rfl) rfl rfl rfl rfl (ck' 1 (by omega)) ?_
  refine sl_row (b := (nOf i)) (d := 3) hw' 1 (by omega) (by omega) (fun _ => rfl) rfl rfl rfl rfl (ck' 2 (by omega)) ?_
  exact sl_pure _ (h _)

theorem part8 {R : sProp 𝕄} (i : grid0.Coords) {Q : (Σ' (v : Elt F .i32), k0_chk32 i (tab1 T.tb (nOf i + 3)) (tab1 T.tc (nOf i + 3)) v) → sProp 𝕄} (h1 : k0_cond1 i = 1#1) (hT : T.OK) (v : BitVec 32) (hk)
    (h : ∀ hk, iprop(R ∗ st c T sh q (fl allFree (nOf i) 27)) ⊢ Q ⟨tab2 T.ty (nOf i + 3) 6, hk⟩) :
    iprop(R ∗ st c T sh q (fl allFree (nOf i) 23)) ⊢ WP c (k0_part8 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      h1 v (tab1 T.tb (nOf i + 3)) (tab1 T.tc (nOf i + 3)) (tab2 T.ty (nOf i + 3) 2) hk) Q := by
  rw [k0_part8_eq_skeleton]; unfold k0_part8_skel
  have hw := wordIs_add i 3 (by omega) (by have := cond1_lt i h1; omega)
  have ck := fun j hj (_ : k0_cond1 i = 1#1) => chk_in hT hw.lt j hj
  refine sl_row (b := (nOf i)) (d := 3) hw 2 (by omega) (by omega) (fun _ => rfl) rfl rfl rfl rfl (ck 3 (by omega)) ?_
  refine sl_row (b := (nOf i)) (d := 3) hw 3 (by omega) (by omega) (fun _ => rfl) rfl rfl rfl rfl (ck 4 (by omega)) ?_
  refine sl_row (b := (nOf i)) (d := 3) hw 4 (by omega) (by omega) (fun _ => rfl) rfl rfl rfl rfl (ck 5 (by omega)) ?_
  refine sl_row (b := (nOf i)) (d := 3) hw 5 (by omega) (by omega) (fun _ => rfl) rfl rfl rfl rfl (ck 6 (by omega)) ?_
  exact sl_pure _ (h _)

/-- Parts 9 and 10: the last strip of box 4, then box 5 up to its last strip. -/
theorem part9 {R : sProp 𝕄} (i : grid0.Coords) {Q : (Σ' (_ : BitVec 32) (a : Elt F .i32) (b : Elt F .i32) (v : Elt F .i32), k0_chk36 i a b v) → sProp 𝕄} (h1 : k0_cond1 i = 1#1) (hT : T.OK) (hk)
    (h : ∀ hk, iprop(R ∗ st c T sh q (fl allFree (nOf i) 30)) ⊢ Q ⟨Scalar.addi (word i) 4#32, tab1 T.tb (nOf i + 4), tab1 T.tc (nOf i + 4), tab2 T.ty (nOf i + 4) 2, hk⟩) :
    iprop(R ∗ st c T sh q (fl allFree (nOf i) 27)) ⊢ WP c (k0_part9 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      (word i) h1 (tab1 T.tb (nOf i + 3)) (tab1 T.tc (nOf i + 3)) (tab2 T.ty (nOf i + 3) 6) hk) Q := by
  rw [k0_part9_eq_skeleton]; unfold k0_part9_skel
  have hw := wordIs_add i 3 (by omega) (by have := cond1_lt i h1; omega)
  have ck := fun j hj (_ : k0_cond1 i = 1#1) => chk_in hT hw.lt j hj
  have hw' := wordIs_add i 4 (by omega) (by have := cond1_lt i h1; omega)
  have ck' := fun j hj (_ : k0_cond1 i = 1#1) => chk_in hT hw'.lt j hj
  refine sl_enq (b := (nOf i)) (d := 3) hw 6 (by omega) (by omega) (fun _ => rfl) rfl rfl rfl ?_
  refine sl_box hw' rfl rfl (fun _ => hT.col8 _ hw'.lt) rfl (ck' 0 (by omega)) ?_
  refine sl_row (b := (nOf i)) (d := 4) hw' 0 (by omega) (by omega) (fun _ => rfl) rfl rfl rfl rfl (ck' 1 (by omega)) ?_
  refine sl_row (b := (nOf i)) (d := 4) hw' 1 (by omega) (by omega) (fun _ => rfl) rfl rfl rfl rfl (ck' 2 (by omega)) ?_
  exact sl_pure _ (h _)

theorem part10 {R : sProp 𝕄} (i : grid0.Coords) {Q : (Σ' (v : Elt F .i32), k0_chk40 i (tab1 T.tb (nOf i + 4)) (tab1 T.tc (nOf i + 4)) v) → sProp 𝕄} (h1 : k0_cond1 i = 1#1) (hT : T.OK) (v : BitVec 32) (hk)
    (h : ∀ hk, iprop(R ∗ st c T sh q (fl allFree (nOf i) 34)) ⊢ Q ⟨tab2 T.ty (nOf i + 4) 6, hk⟩) :
    iprop(R ∗ st c T sh q (fl allFree (nOf i) 30)) ⊢ WP c (k0_part10 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      h1 v (tab1 T.tb (nOf i + 4)) (tab1 T.tc (nOf i + 4)) (tab2 T.ty (nOf i + 4) 2) hk) Q := by
  rw [k0_part10_eq_skeleton]; unfold k0_part10_skel
  have hw := wordIs_add i 4 (by omega) (by have := cond1_lt i h1; omega)
  have ck := fun j hj (_ : k0_cond1 i = 1#1) => chk_in hT hw.lt j hj
  refine sl_row (b := (nOf i)) (d := 4) hw 2 (by omega) (by omega) (fun _ => rfl) rfl rfl rfl rfl (ck 3 (by omega)) ?_
  refine sl_row (b := (nOf i)) (d := 4) hw 3 (by omega) (by omega) (fun _ => rfl) rfl rfl rfl rfl (ck 4 (by omega)) ?_
  refine sl_row (b := (nOf i)) (d := 4) hw 4 (by omega) (by omega) (fun _ => rfl) rfl rfl rfl rfl (ck 5 (by omega)) ?_
  refine sl_row (b := (nOf i)) (d := 4) hw 5 (by omega) (by omega) (fun _ => rfl) rfl rfl rfl rfl (ck 6 (by omega)) ?_
  exact sl_pure _ (h _)

/-- Parts 11 and 12: the box five ahead, up to its last strip. -/
theorem part11 {R : sProp 𝕄} (i : grid0.Coords) {Q : (Σ' (_ : BitVec 32) (_ : Elt F .i32), Elt F .i32) → sProp 𝕄} (h2 : k0_cond2 i = 1#1) (hT : T.OK)
    (hf : ∀ j, f (⟨(nOf i + 5) % 6, slot_lt _⟩, j) = .free)
    (h : iprop(R ∗ st c T sh q (fl f (nOf i + 5) 3)) ⊢ Q ⟨Scalar.subi (Scalar.addi (word i) 6#32) 1#32, tab1 T.tb (nOf i + 5), tab1 T.tc (nOf i + 5)⟩) :
    iprop(R ∗ st c T sh q (fl f (nOf i + 5) 0)) ⊢ WP c (k0_part11 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      (word i) h2) Q := by
  rw [k0_part11_eq_skeleton]; unfold k0_part11_skel
  have hw := wordIs_next i (cond2_lt i h2)
  have ck := fun j hj (_ : k0_cond2 i = 1#1) => chk_in hT hw.lt j hj
  refine sl_box hw rfl rfl (fun _ => hT.col8 _ hw.lt) rfl (ck 0 (by omega)) ?_
  refine sl_row (b := (nOf i + 5)) (d := 0) hw 0 (by omega) (by omega) hf rfl rfl rfl rfl (ck 1 (by omega)) ?_
  refine sl_row (b := (nOf i + 5)) (d := 0) hw 1 (by omega) (by omega) hf rfl rfl rfl rfl (ck 2 (by omega)) ?_
  refine sl_enq (b := (nOf i + 5)) (d := 0) hw 2 (by omega) (by omega) hf rfl rfl rfl ?_
  exact sl_pure _ h

theorem part12 {R : sProp 𝕄} (i : grid0.Coords) {Q : (Σ' (v : Elt F .i32), k0_chk48 i (tab1 T.tb (nOf i + 5)) (tab1 T.tc (nOf i + 5)) v) → sProp 𝕄} (h2 : k0_cond2 i = 1#1) (hT : T.OK) (v : BitVec 32)
    (hf : ∀ j, f (⟨(nOf i + 5) % 6, slot_lt _⟩, j) = .free)
    (h : ∀ hk, iprop(R ∗ st c T sh q (fl f (nOf i + 5) 6)) ⊢ Q ⟨tab2 T.ty (nOf i + 5) 6, hk⟩) :
    iprop(R ∗ st c T sh q (fl f (nOf i + 5) 3)) ⊢ WP c (k0_part12 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1
      h2 v (tab1 T.tb (nOf i + 5)) (tab1 T.tc (nOf i + 5))) Q := by
  rw [k0_part12_eq_skeleton]; unfold k0_part12_skel
  have hw := wordIs_next i (cond2_lt i h2)
  have ck := fun j hj (_ : k0_cond2 i = 1#1) => chk_in hT hw.lt j hj
  refine sl_ty hw 3 rfl (ck 3 (by omega)) ?_
  refine sl_row (b := (nOf i + 5)) (d := 0) hw 3 (by omega) (by omega) hf rfl rfl rfl rfl (ck 4 (by omega)) ?_
  refine sl_row (b := (nOf i + 5)) (d := 0) hw 4 (by omega) (by omega) hf rfl rfl rfl rfl (ck 5 (by omega)) ?_
  refine sl_row (b := (nOf i + 5)) (d := 0) hw 5 (by omega) (by omega) hf rfl rfl rfl rfl (ck 6 (by omega)) ?_
  exact sl_pure _ (h _)

theorem sl_bind {α β : Type} {Q : α → sProp 𝕄} {p : Prog (TpuEff nD τ sig (Elt F) Λ₀ .tc) β}
    {k : β → Prog (TpuEff nD τ sig (Elt F) Λ₀ .tc) α} {P : sProp 𝕄}
    (h : P ⊢ WP c p (fun x => WP c (k x) Q)) : P ⊢ WP c (p >>= k) Q := by
  unfold WP; rw [wp_bind]; exact h

/-- A conditional piece of the body followed by the rest, which is proved once. -/
theorem sl_ite {α : Type} {R : sProp 𝕄} {Q : α → sProp 𝕄} {C : Prop} [Decidable C] {J : Prog (TpuEff nD τ sig (Elt F) Λ₀ .tc) α}
    {p : C → Prog (TpuEff nD τ sig (Elt F) Λ₀ .tc) α} {f' : Cell → CellSt} (hB : ¬ C → f' = f)
    (hJ : iprop(R ∗ st c T sh q f') ⊢ WP c J Q)
    (hA : ∀ h, (iprop(R ∗ st c T sh q f') ⊢ WP c J Q) → iprop(R ∗ st c T sh q f) ⊢ WP c (p h) Q) :
    iprop(R ∗ st c T sh q f) ⊢ WP c (if h : C then p h else J) Q := by
  by_cases h : C
  · rw [dif_pos h]; exact hA h hJ
  · rw [dif_neg h, ← hB h]; exact hJ

/-- Part 13: the copies the point starts, then the waits for the first two strips of its own box. -/
theorem part13 {R : sProp 𝕄} {Q : BitVec 32 → sProp 𝕄} (i : grid0.Coords) (hT : T.OK) (f' f'' : Cell → CellSt)
    (e0 : k0_cond1 i = 1#1 → f = allFree) (e1 : k0_cond1 i = 1#1 → f' = fl allFree (nOf i) 35) (e1' : ¬ k0_cond1 i = 1#1 → f' = f)
    (hf : k0_cond2 i = 1#1 → ∀ j, f' (⟨(nOf i + 5) % 6, slot_lt _⟩, j) = .free)
    (e2 : k0_cond2 i = 1#1 → f'' = fl f' (nOf i + 5) 7) (e2' : ¬ k0_cond2 i = 1#1 → f'' = f')
    (hfl : ∀ j, f'' (⟨nOf i % 6, slot_lt _⟩, j) = .flying (nOf i))
    (h : iprop(R ∗ st c T sh q (setTo f'' (nOf i % 6) (.landed (nOf i)) 2)) ⊢ Q (Scalar.remsi (word i) 6#32)) :
    iprop(R ∗ st c T sh q f) ⊢ WP c (k0_part13 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1) Q := by
  rw [k0_part13_eq_skeleton]; unfold k0_part13_skel
  have hw : WordIs (word i) (nOf i) := ⟨word_toNat i, word_rem0 i, nOf_lt i⟩
  refine sl_ite (f' := f') e1' ?_ ?_
  · refine sl_ite (f' := f'') e2' ?_ ?_
    · rw [← setTo_zero f'' (nOf i % 6) (.landed (nOf i))]
      refine sl_wait hw 0 (by omega) hfl rfl rfl ?_
      refine sl_wait hw 1 (by omega) hfl rfl rfl ?_
      exact sl_pure _ h
    · intro h2 hJ
      have hw := wordIs_next i (cond2_lt i h2)
      rw [← fl_zero f' (nOf i + 5)]
      refine sl_bind (part11 arg6 harg6 arg7 harg7 arg8 harg8 arg9 harg9 i h2 hT (hf h2) ?_)
      refine sl_bind (part12 arg6 harg6 arg7 harg7 arg8 harg8 arg9 harg9 i h2 hT _ (hf h2) fun hk => ?_)
      refine sl_enq (b := nOf i + 5) (d := 0) hw 6 (by omega) (by omega) (hf h2) rfl rfl rfl ?_
      rw [← e2 h2]
      exact hJ
  · intro h1 hJ
    have hw := wordIs_add i 4 (by omega) (cond1_lt i h1)
    rw [e0 h1, ← fl_zero allFree (nOf i)]
    refine sl_bind (part1 arg6 harg6 arg7 harg7 arg8 harg8 arg9 harg9 i h1 hT ?_)
    refine sl_bind (part2 arg6 harg6 arg7 harg7 arg8 harg8 arg9 harg9 i h1 hT _ fun hk => ?_)
    refine sl_bind (part3 arg6 harg6 arg7 harg7 arg8 harg8 arg9 harg9 i h1 hT hk ?_)
    refine sl_bind (part4 arg6 harg6 arg7 harg7 arg8 harg8 arg9 harg9 i h1 hT _ fun hk => ?_)
    refine sl_bind (part5 arg6 harg6 arg7 harg7 arg8 harg8 arg9 harg9 i h1 hT hk fun hk => ?_)
    refine sl_bind (part6 arg6 harg6 arg7 harg7 arg8 harg8 arg9 harg9 i h1 hT _ hk fun hk => ?_)
    refine sl_bind (part7 arg6 harg6 arg7 harg7 arg8 harg8 arg9 harg9 i h1 hT hk fun hk => ?_)
    refine sl_bind (part8 arg6 harg6 arg7 harg7 arg8 harg8 arg9 harg9 i h1 hT _ hk fun hk => ?_)
    refine sl_bind (part9 arg6 harg6 arg7 harg7 arg8 harg8 arg9 harg9 i h1 hT hk fun hk => ?_)
    refine sl_bind (part10 arg6 harg6 arg7 harg7 arg8 harg8 arg9 harg9 i h1 hT _ hk fun hk => ?_)
    refine sl_enq (b := nOf i) (d := 4) hw 6 (by omega) (by omega) (fun _ => rfl) rfl rfl rfl ?_
    rw [← e1 h1]
    exact hJ

/-- Part 14: the waits for the next four strips. -/
theorem part14 {R : sProp 𝕄} {Q : PUnit → sProp 𝕄} (i : grid0.Coords) (hfl : ∀ j, f (⟨nOf i % 6, slot_lt _⟩, j) = .flying (nOf i))
    (h : iprop(R ∗ st c T sh q (setTo f (nOf i % 6) (.landed (nOf i)) 6)) ⊢ Q ⟨⟩) :
    iprop(R ∗ st c T sh q (setTo f (nOf i % 6) (.landed (nOf i)) 2)) ⊢ WP c (k0_part14 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1) Q := by
  rw [k0_part14_eq_skeleton]; unfold k0_part14_skel
  have hw : WordIs (word i) (nOf i) := ⟨word_toNat i, word_rem0 i, nOf_lt i⟩
  refine sl_wait hw 2 (by omega) hfl rfl rfl ?_
  refine sl_wait hw 3 (by omega) hfl rfl rfl ?_
  refine sl_wait hw 4 (by omega) hfl rfl rfl ?_
  refine sl_wait hw 5 (by omega) hfl rfl rfl ?_
  exact sl_pure _ h

end Cert.KernelIdeal.Hand
-- ==== Proof.Body.lean ====
/-
  Hand-written, untrusted. The body at one grid point: from its windows' blocks, its tables and the ring at that point's
  phase, to the block it leaves and the ring at the next phase.
-/
module

public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring's phases -/

/-- The ring at point `n` when the copies of the boxes `n … n + w - 1` of its half are in flight. -/
def flightsOf (w n : ℕ) : Cell → CellSt := fun k =>
  if (k.1.val + 6 - n % 6) % 6 < w ∧ (n + (k.1.val + 6 - n % 6) % 6) / 256 = n / 256 then .flying (n + (k.1.val + 6 - n % 6) % 6) else .free

/-- The ring between points: nothing in flight at the start of a half, five boxes ahead elsewhere. -/
def phase (n : ℕ) : Cell → CellSt := if n % 256 = 0 then allFree else flightsOf 5 n

theorem phase_start (n : ℕ) (h : n % 256 = 0) : phase n = allFree := if_pos h

theorem phase_inside (n : ℕ) (h : ¬ n % 256 = 0) : phase n = flightsOf 5 n := if_neg h

theorem started_five (n : ℕ) (h : n % 256 = 0) : flightsOf 5 n = fl allFree n 35 := by
  funext ⟨⟨s, hs⟩, ⟨j, hj⟩⟩
  unfold flightsOf fl
  show (if (s + 6 - n % 6) % 6 < 5 ∧ (n + (s + 6 - n % 6) % 6) / 256 = n / 256 then CellSt.flying (n + (s + 6 - n % 6) % 6) else .free)
    = if 7 * ((s + 6 - n % 6) % 6) + j < 35 then CellSt.flying (n + (s + 6 - n % 6) % 6) else .free
  by_cases hd : (s + 6 - n % 6) % 6 < 5
  · rw [if_pos ⟨hd, by omega⟩, if_pos (by omega)]
  · rw [if_neg (by omega), if_neg (by omega)]

theorem next_free (n : ℕ) (j : Fin 7) : flightsOf 5 n (⟨(n + 5) % 6, slot_lt _⟩, j) = .free := by
  unfold flightsOf
  exact if_neg (by
    show ¬ (((n + 5) % 6 + 6 - n % 6) % 6 < 5 ∧ _)
    omega)

theorem started_next (n : ℕ) (h : n % 256 + 5 < 256) : flightsOf 6 n = fl (flightsOf 5 n) (n + 5) 7 := by
  funext ⟨⟨s, hs⟩, ⟨j, hj⟩⟩
  unfold flightsOf fl
  show (if (s + 6 - n % 6) % 6 < 6 ∧ (n + (s + 6 - n % 6) % 6) / 256 = n / 256 then CellSt.flying (n + (s + 6 - n % 6) % 6) else .free)
    = if 7 * ((s + 6 - (n + 5) % 6) % 6) + j < 7 then CellSt.flying (n + 5 + (s + 6 - (n + 5) % 6) % 6) else
      if (s + 6 - n % 6) % 6 < 5 ∧ (n + (s + 6 - n % 6) % 6) / 256 = n / 256 then CellSt.flying (n + (s + 6 - n % 6) % 6) else .free
  by_cases hd : (s + 6 - n % 6) % 6 = 5
  · have e : (s + 6 - (n + 5) % 6) % 6 = 0 := by omega
    rw [hd, e, if_pos ⟨by omega, by omega⟩, if_pos (by omega)]
  · rw [if_neg (c := 7 * _ + j < 7) (by omega)]
    by_cases hh : (n + (s + 6 - n % 6) % 6) / 256 = n / 256
    · rw [if_pos ⟨by omega, hh⟩, if_pos ⟨by omega, hh⟩]
    · rw [if_neg (fun h => hh h.2), if_neg (fun h => hh h.2)]

theorem not_started_next (n : ℕ) (h : ¬ n % 256 + 5 < 256) : flightsOf 6 n = flightsOf 5 n := by
  funext ⟨⟨s, hs⟩, ⟨j, hj⟩⟩
  unfold flightsOf
  show (if (s + 6 - n % 6) % 6 < 6 ∧ (n + (s + 6 - n % 6) % 6) / 256 = n / 256 then CellSt.flying (n + (s + 6 - n % 6) % 6) else .free)
    = if (s + 6 - n % 6) % 6 < 5 ∧ (n + (s + 6 - n % 6) % 6) / 256 = n / 256 then CellSt.flying (n + (s + 6 - n % 6) % 6) else .free
  by_cases hh : (n + (s + 6 - n % 6) % 6) / 256 = n / 256
  · rw [if_pos ⟨by omega, hh⟩, if_pos ⟨by omega, hh⟩]
  · rw [if_neg (fun h => hh h.2), if_neg (fun h => hh h.2)]

theorem own_flying (n : ℕ) (j : Fin 7) : flightsOf 6 n (⟨n % 6, slot_lt _⟩, j) = .flying n := by
  unfold flightsOf
  show (if (n % 6 + 6 - n % 6) % 6 < 6 ∧ (n + (n % 6 + 6 - n % 6) % 6) / 256 = n / 256 then CellSt.flying (n + (n % 6 + 6 - n % 6) % 6) else .free) = _
  have e : (n % 6 + 6 - n % 6) % 6 = 0 := by omega
  rw [e, if_pos ⟨by omega, rfl⟩]; rfl

theorem after_use (n : ℕ) : setTo (flightsOf 6 n) (n % 6) .free 7 = phase (n + 1) := by
  funext ⟨⟨s, hs⟩, ⟨j, hj⟩⟩
  unfold setTo
  show (if s = n % 6 ∧ j < 7 then CellSt.free else flightsOf 6 n (⟨s, hs⟩, ⟨j, hj⟩)) = _
  by_cases h0 : (n + 1) % 256 = 0
  · rw [phase_start _ h0]
    by_cases h : s = n % 6
    · rw [if_pos ⟨h, hj⟩]
    · rw [if_neg (by omega)]
      unfold flightsOf
      exact if_neg (by
        show ¬ ((s + 6 - n % 6) % 6 < 6 ∧ (n + (s + 6 - n % 6) % 6) / 256 = n / 256)
        omega)
  · rw [phase_inside _ h0]
    unfold flightsOf
    show (if s = n % 6 ∧ j < 7 then CellSt.free else
        if (s + 6 - n % 6) % 6 < 6 ∧ (n + (s + 6 - n % 6) % 6) / 256 = n / 256 then CellSt.flying (n + (s + 6 - n % 6) % 6) else .free)
      = if (s + 6 - (n + 1) % 6) % 6 < 5 ∧ (n + 1 + (s + 6 - (n + 1) % 6) % 6) / 256 = (n + 1) / 256 then
          CellSt.flying (n + 1 + (s + 6 - (n + 1) % 6) % 6) else .free
    by_cases h : s = n % 6
    · rw [if_pos ⟨h, hj⟩, if_neg (by omega)]
    · rw [if_neg (by omega)]
      have e : n + 1 + (s + 6 - (n + 1) % 6) % 6 = n + (s + 6 - n % 6) % 6 := by omega
      rw [e]
      by_cases hh : (n + (s + 6 - n % 6) % 6) / 256 = n / 256
      · rw [if_pos ⟨by omega, hh⟩, if_pos ⟨by omega, by omega⟩]
      · rw [if_neg (fun h => hh h.2), if_neg (by omega)]

/-! ## A slot whose seven strips have landed -/

/-- What the body reads out of box `m`'s slot: row `r` is row `r % 2` of strip `r / 2`. -/
def slab (T : Tabs F) (m : ℕ) : S1x14x80x256.Idx → F .f32 := fun y =>
  T.feat (ixOf S4x200x200x256 feat_pos
    ![(tab1 T.tb m).toNat, (tab2 T.ty m ((y 1).val / 2)).toNat + (y 1).val % 2, (tab1 T.tc m).toNat + (y 2).val, (y 3).val])

/-- The cells of a slot. -/
abbrev slotCells (s : Fin 6) : Finset Cell := Finset.univ.filter fun k => k.1 = s

section
variable (c : Dev nD) (T : Tabs F) (sh : Cell → PosShare TreeShare)

/-- A landed cell is a free one. -/
theorem landed_free (k : Cell) (m : ℕ) : cellRes c T sh k (.landed m) ⊢ cellRes c T sh k .free := by
  simp only [cellRes]
  iintro ⟨H, Hv⟩
  isplitl [H]; · iexists _; iexact H
  iexact Hv

/-- A landed slot's elements out of the ring; put back, the slot is free. -/
theorem ring_use (f : Cell → CellSt) (s m : ℕ) (hs : s < 6) (hf : ∀ j, f (⟨s, hs⟩, j) = .flying m) :
    ring c T sh (setTo f s (.landed m) 7)
      ⊢ iprop((ringLoc c ↦[(slotCells ⟨s, hs⟩).biUnion cellSet]{fullShare} (strip T m : Buf (Elt F) (ringLoc c)))
          ∗ ((ringLoc c ↦[(slotCells ⟨s, hs⟩).biUnion cellSet]{fullShare} (strip T m : Buf (Elt F) (ringLoc c)))
              -∗ ring c T sh (setTo f s .free 7))) := by
  have hx : ∀ x, ring c T sh (setTo f s x 7) = iprop((bigSep (slotCells ⟨s, hs⟩) fun k => cellRes c T sh k x)
      ∗ bigSep (Finset.univ.filter fun k : Cell => ¬ k.1 = ⟨s, hs⟩) fun k => cellRes c T sh k (f k)) := fun x => by
    unfold ring
    rw [bigSep_filter_split (Finset.univ : Finset Cell) (fun k => k.1 = ⟨s, hs⟩)]
    rw [bigSep_congr (s := slotCells ⟨s, hs⟩) (Ψ := fun k => cellRes c T sh k x) fun k hk => by
        have e : k.1.val = s := congrArg Fin.val (Finset.mem_filter.mp hk).2
        have e' : setTo f s x 7 k = x := if_pos ⟨e, k.2.isLt⟩
        rw [e']]
    rw [bigSep_congr (s := Finset.univ.filter fun k : Cell => ¬ k.1 = ⟨s, hs⟩) (Ψ := fun k => cellRes c T sh k (f k)) fun k hk => by
        have e : ¬ k.1.val = s := fun h => (Finset.mem_filter.mp hk).2 (Fin.ext h)
        have e' : setTo f s x 7 k = f k := if_neg fun h => e h.1
        rw [e']]
    rfl
  rw [hx, hx]
  have hl : (bigSep (slotCells ⟨s, hs⟩) fun k => cellRes c T sh k (.landed m))
      = iprop((ringLoc c ↦[(slotCells ⟨s, hs⟩).biUnion cellSet]{fullShare} (strip T m : Buf (Elt F) (ringLoc c)))
        ∗ bigSep (slotCells ⟨s, hs⟩) fun k => iprop(semVal ((c : Thread nD τ), cellM k) 0 ∗ (featLoc c ↦{sh k} (T.feat : Buf (Elt F) (featLoc c))))) := by
    rw [pointsTo_biUnion _ _ fun k _ k' _ h => cellSet_disjoint k k' h]
    exact bigSep_sep _ _ _
  have hr : iprop((ringLoc c ↦[(slotCells ⟨s, hs⟩).biUnion cellSet]{fullShare} (strip T m : Buf (Elt F) (ringLoc c)))
        ∗ bigSep (slotCells ⟨s, hs⟩) fun k => iprop(semVal ((c : Thread nD τ), cellM k) 0 ∗ (featLoc c ↦{sh k} (T.feat : Buf (Elt F) (featLoc c)))))
      ⊢ bigSep (slotCells ⟨s, hs⟩) fun k => cellRes c T sh k .free := by
    rw [← hl]
    exact bigSep_mono fun k _ => landed_free c T sh k m
  rw [hl]
  iintro ⟨⟨H, Hr⟩, Ho⟩
  isplitl [H]; · iexact H
  iintro H
  isplitl [H Hr]
  · iapply hr; isplitl [H]; · iexact H
    iexact Hr
  iexact Ho

end

/-! ## Loads and the store -/

section
variable (c : Dev nD) {α : Type}

theorem unit_emb {s : Shape} {off : Fin s.rank → ℕ} {inb : ∀ a, off a + s.size a ≤ s.size a} (h0 : off = fun _ => 0) (x : s.Idx) :
    (Rect.unit (s := s) off s.size inb).emb x = x := by
  subst h0; funext a; exact Fin.ext (show 0 + 1 * (x a).val = (x a).val by omega)

/-- Loading a whole window. -/
theorem ldw {Q : α → sProp 𝕄} {s : Shape} {e : EltTy} (M : Memref sig .tc .vmem s e) {off : Fin s.rank → ℕ}
    {inb : ∀ a, off a + s.size a ≤ s.size a} (h0 : off = fun _ => 0)
    {hl : M.view.LoadsAt (Rect.unit (s := s) off s.size inb).toLoadRect}
    {k : (s.Idx → Elt F e) → Prog (TpuEff nD τ sig (Elt F) Λ₀ .tc) α} (d : s.Idx → Elt F e) :
    (owns (c : Thread nD τ) M fullShare d : sProp 𝕄) ⊢ iprop((owns (c : Thread nD τ) M fullShare d -∗ WP c (k d) Q)
      -∗ WP c (Prog.lift (.load M (Rect.unit (s := s) off s.size inb).toLoadRect hl) >>= k) Q) := by
  unfold owns
  iintro ⟨%f, %hf, H⟩ Hk
  have e : M.view.readAt (Elt F) (Rect.unit (s := s) off s.size inb).toLoadRect f = d := by
    rw [← hf]; funext x
    exact congrArg (M.view.read (Elt F) f) (unit_emb h0 x)
  iapply (wp_load (defs := defs₀ (F := F)) Variants.none (c : Thread nD τ) none (Γ := .empty) Set.univ (Q := Q) (m := M)
    (r := (Rect.unit (s := s) off s.size inb).toLoadRect) (hl := hl) (k := k) (q := fullShare) (f := f) (S := M.view.set) (View.setOn_subset_set _ _)) $$ [H]
  · iexact H
  iintro H
  rw [e]
  iapply Hk
  iexists f
  isplitr
  · ipureintro; exact hf
  iexact H

/-- Storing a whole window. -/
theorem stw {Q : α → sProp 𝕄} {s : Shape} {e : EltTy} (M : Memref sig .tc .vmem s e) {off : Fin s.rank → ℕ}
    {inb : ∀ a, off a + s.size a ≤ s.size a} (h0 : off = fun _ => 0) (w : s.Idx → Elt F e)
    {hx : (M.access (Rect.unit (s := s) off s.size inb)).Stores Finset.univ} {hm}
    {k : PUnit → Prog (TpuEff nD τ sig (Elt F) Λ₀ .tc) α} (d : s.Idx → Elt F e) :
    (owns (c : Thread nD τ) M fullShare d : sProp 𝕄) ⊢ iprop((owns (c : Thread nD τ) M fullShare w -∗ WP c (k ⟨⟩) Q)
      -∗ WP c (Prog.lift (.store M (Rect.unit (s := s) off s.size inb) w Finset.univ hx hm) >>= k) Q) := by
  unfold owns
  iintro ⟨%f, %hf, H⟩ Hk
  have e : M.view.read (Elt F) ((M.access (Rect.unit (s := s) off s.size inb)).write (Elt F) f w Finset.univ) = w := by
    funext x
    have h := View.read_slice_write_emb (v := M.view) (Val := Elt F) (Rect.unit (s := s) off s.size inb) f w (Finset.mem_univ x)
    rw [unit_emb h0 x] at h
    exact h
  have hS : (M.access (Rect.unit (s := s) off s.size inb)).setOn Finset.univ ⊆ M.view.set := by
    rw [View.setOn_univ, View.set_slice]
    exact View.setOn_subset_set _ _
  iapply (wp_store (defs := defs₀ (F := F)) Variants.none (c : Thread nD τ) none (Γ := .empty) Set.univ (Q := Q) (m := M)
    (r := Rect.unit (s := s) off s.size inb) (w := w) (hx := hx) (hm := hm) (k := k) (f := f) (S := M.view.set) hS) $$ [H]
  · iexact H
  iintro H
  iapply Hk
  iexists _
  isplitr
  · ipureintro; exact e
  iexact H

/-- Loading a landed slot. -/
theorem ldslab {Q : α → sProp 𝕄} (T : Tabs F) (s m : ℕ) (hs : s < 6) {off : Fin 4 → ℕ}
    {inb : ∀ a, off a + S1x14x80x256.size a ≤ S6x14x80x256.size a} (h0 : off = ![s, 0, 0, 0])
    {hl : (Memref.whole cc0_scratch0 : Memref sig .tc .vmem S6x14x80x256 .f32).view.LoadsAt (Rect.unit (s := S6x14x80x256) off S1x14x80x256.size inb).toLoadRect}
    {k : (S1x14x80x256.Idx → Elt F .f32) → Prog (TpuEff nD τ sig (Elt F) Λ₀ .tc) α} :
    (ringLoc c ↦[(slotCells ⟨s, hs⟩).biUnion cellSet]{fullShare} (strip T m : Buf (Elt F) (ringLoc c)) : sProp 𝕄)
      ⊢ iprop(((ringLoc c ↦[(slotCells ⟨s, hs⟩).biUnion cellSet]{fullShare} (strip T m : Buf (Elt F) (ringLoc c))) -∗ WP c (k (slab T m)) Q)
      -∗ WP c (Prog.lift (.load (Memref.whole cc0_scratch0) (Rect.unit (s := S6x14x80x256) off S1x14x80x256.size inb).toLoadRect hl) >>= k) Q) := by
  subst h0
  have hS : ((Memref.whole cc0_scratch0 : Memref sig .tc .vmem S6x14x80x256 .f32).access
      (Rect.unit (s := S6x14x80x256) ![s, 0, 0, 0] S1x14x80x256.size inb)).set ⊆ (slotCells ⟨s, hs⟩).biUnion cellSet := by
    intro y hy
    obtain ⟨x, -, rfl⟩ := Finset.mem_map.mp hy
    have h0 : (x 0).val < 1 := (x 0).isLt
    have h1 : (x 1).val < 14 := (x 1).isLt
    refine Finset.mem_biUnion.mpr ⟨(⟨s, hs⟩, ⟨(x 1).val / 2, by omega⟩), Finset.mem_filter.mpr ⟨Finset.mem_univ _, rfl⟩, (mem_cellSet _ _).mpr ⟨?_, ?_⟩⟩
    · show s + 1 * (x 0).val = s
      omega
    · show (0 + 1 * (x 1).val) / 2 = (x 1).val / 2
      omega
  have e : ((Memref.whole cc0_scratch0 : Memref sig .tc .vmem S6x14x80x256 .f32).access
      (Rect.unit (s := S6x14x80x256) ![s, 0, 0, 0] S1x14x80x256.size inb)).read (Elt F) (strip T m : Buf (Elt F) (ringLoc c)) = slab T m := by
    funext x
    show strip T m ((Rect.unit (s := S6x14x80x256) ![s, 0, 0, 0] S1x14x80x256.size inb).emb x) = slab T m x
    unfold strip slab
    have a1 : (((Rect.unit (s := S6x14x80x256) ![s, 0, 0, 0] S1x14x80x256.size inb).emb x) 1).val = (x 1).val := show 0 + 1 * (x 1).val = _ by omega
    have a2 : (((Rect.unit (s := S6x14x80x256) ![s, 0, 0, 0] S1x14x80x256.size inb).emb x) 2).val = (x 2).val := show 0 + 1 * (x 2).val = _ by omega
    have a3 : (((Rect.unit (s := S6x14x80x256) ![s, 0, 0, 0] S1x14x80x256.size inb).emb x) 3).val = (x 3).val := show 0 + 1 * (x 3).val = _ by omega
    rw [a1, a2, a3]
  iintro H Hk
  iapply (wp_load_rect (defs := defs₀ (F := F)) Variants.none (c : Thread nD τ) none (Γ := .empty) Set.univ (Q := Q) (m := (Memref.whole cc0_scratch0 : Memref sig .tc .vmem S6x14x80x256 .f32))
    (r := Rect.unit (s := S6x14x80x256) ![s, 0, 0, 0] S1x14x80x256.size inb) (hl := hl) (k := k) (q := fullShare) (f := (strip T m : Buf (Elt F) (ringLoc c))) (S := (slotCells ⟨s, hs⟩).biUnion cellSet) hS) $$ [H]
  · iexact H
  rw [e]
  iexact Hk

end

/-! ## The body -/

section
variable {c : Dev nD} {T : Tabs F} {sh : Cell → PosShare TreeShare} {q : PosShare TreeShare}
  (arg6 : Memref sig .tc .vmem S1x56x8 .f32) (harg6 : arg6.IsWhole) (arg7 : Memref sig .tc .vmem S1x1120 .f32)
  (harg7 : arg7.IsWhole) (arg8 : Memref sig .tc .vmem S1x1120 .f32) (harg8 : arg8.IsWhole)
  (arg9 : Memref sig .tc .vmem S1x49x256 .f32) (harg9 : arg9.IsWhole)

/-- The four windows' blocks. -/
def wins (c : Dev nD) (d6 : S1x56x8.Idx → F .f32) (d7 d8 : S1x1120.Idx → F .f32) (d9 : S1x49x256.Idx → F .f32) : sProp 𝕄 :=
  iprop(owns (c : Thread nD τ) arg6 fullShare (d6 : S1x56x8.Idx → Elt F .f32) ∗ owns (c : Thread nD τ) arg7 fullShare (d7 : S1x1120.Idx → Elt F .f32)
    ∗ owns (c : Thread nD τ) arg8 fullShare (d8 : S1x1120.Idx → Elt F .f32) ∗ owns (c : Thread nD τ) arg9 fullShare (d9 : S1x49x256.Idx → Elt F .f32))

theorem sl_in {α : Type} {R : sProp 𝕄} {P P' : sProp 𝕄} {Q : α → sProp 𝕄} {p : Prog (TpuEff nD τ sig (Elt F) Λ₀ .tc) α} (h : P' ⊢ iprop((P -∗ R) -∗ WP c p Q))
    {G : sProp 𝕄} (hG : iprop(P ∗ G) ⊢ R) : iprop(P' ∗ G) ⊢ WP c p Q := by
  iintro ⟨HP, HG⟩
  iapply h $$ [HP]
  · iexact HP
  iintro HP
  iapply hG
  isplitl [HP]; · iexact HP
  iexact HG

/-- The block that the body leaves at point `i`. -/
def outBlk (T : Tabs F) (n : ℕ) (d6 : S1x56x8.Idx → F .f32) (d7 d8 : S1x1120.Idx → F .f32) : S1x49x256.Idx → F .f32 :=
  k0_pay1 (k0_pay2 d6 d7 d8) (slab T n)

theorem part15 (i : grid0.Coords) {f : Cell → CellSt} {d6 : S1x56x8.Idx → F .f32} {d7 d8 : S1x1120.Idx → F .f32} {d9 : S1x49x256.Idx → F .f32} {Q : FVec F S56x1120 .f32 → sProp 𝕄} (hfl : ∀ j, f (⟨nOf i % 6, slot_lt _⟩, j) = .flying (nOf i))
    (h : iprop(wins arg6 arg7 arg8 arg9 c d6 d7 d8 d9 ∗ st c T sh q (setTo f (nOf i % 6) (.landed (nOf i)) 7)) ⊢ Q (k0_pay2 d6 d7 d8)) :
    iprop(wins arg6 arg7 arg8 arg9 c d6 d7 d8 d9 ∗ st c T sh q (setTo f (nOf i % 6) (.landed (nOf i)) 6))
      ⊢ WP c (k0_part15 i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1 (Scalar.remsi (word i) 6#32)) Q := by
  rw [k0_part15_eq_skeleton]; unfold k0_part15_skel
  have hw : WordIs (word i) (nOf i) := ⟨word_toNat i, word_rem0 i, nOf_lt i⟩
  refine sl_wait hw 6 (by omega) hfl rfl rfl ?_
  have z3 : (![0, 0, 0] : Fin 3 → ℕ) = fun _ => 0 := by funext a; fin_cases a <;> rfl
  have z2 : (![0, 0] : Fin 2 → ℕ) = fun _ => 0 := by funext a; fin_cases a <;> rfl
  unfold wins at h ⊢
  iintro ⟨⟨H6, H7, H8, H9⟩, Hs⟩
  iapply (ldw c arg6 z3 (d6 : S1x56x8.Idx → Elt F .f32)) $$ [H6]
  · iexact H6
  iintro H6
  iapply (ldw c arg7 z2 (d7 : S1x1120.Idx → Elt F .f32)) $$ [H7]
  · iexact H7
  iintro H7
  iapply (ldw c arg8 z2 (d8 : S1x1120.Idx → Elt F .f32)) $$ [H8]
  · iexact H8
  iintro H8
  iapply (sl_pure (c := c) (T := T) (sh := sh) (q := q) (k0_pay2 d6 d7 d8) h)
  isplitl [H6 H7 H8 H9]
  · isplitl [H6]; · iexact H6
    isplitl [H7]; · iexact H7
    isplitl [H8]; · iexact H8
    iexact H9
  iexact Hs

/-- The whole body: from the ring at a point's phase to the ring at the next, leaving the point's block. -/
theorem body (i : grid0.Coords) (hT : T.OK) {d6 : S1x56x8.Idx → F .f32} {d7 d8 : S1x1120.Idx → F .f32} {d9 : S1x49x256.Idx → F .f32}
    {Q : PUnit → sProp 𝕄}
    (h : iprop(wins arg6 arg7 arg8 arg9 c d6 d7 d8 (outBlk T (nOf i) d6 d7 d8) ∗ st c T sh q (phase (nOf i + 1))) ⊢ Q ⟨⟩) :
    iprop(wins arg6 arg7 arg8 arg9 c d6 d7 d8 d9 ∗ st c T sh q (phase (nOf i)))
      ⊢ WP c (cc0__roi_kernel i (Memref.whole main_v1) (Memref.isWhole_whole _) (Memref.whole main_v86)
      (Memref.isWhole_whole _) (Memref.whole main_v168) (Memref.isWhole_whole _) (Memref.whole main_v166) (Memref.isWhole_whole _)
      arg6 harg6 arg7 harg7 arg8 harg8 arg9 harg9 (Memref.whole cc0_scratch0) (Memref.isWhole_whole _) cc0_scratch1) Q := by
  rw [cc0__roi_kernel_eq_skeleton]; unfold cc0__roi_kernel_skel
  have hmod : nOf i % 256 = (i 1).val := by
    have : (i 1).val < 256 := (i 1).isLt
    unfold nOf; omega
  refine sl_bind (part13 (R := wins arg6 arg7 arg8 arg9 c d6 d7 d8 d9) (f := phase (nOf i)) (T := T) (sh := sh) (q := q) arg6 harg6 arg7 harg7 arg8 harg8 arg9 harg9 i hT (flightsOf 5 (nOf i)) (flightsOf 6 (nOf i)) ?_ ?_ ?_ ?_ ?_ ?_ (own_flying _) ?_)
  · exact fun h => phase_start _ (hmod.trans ((cond1_iff i).mp h))
  · exact fun h => started_five _ (hmod.trans ((cond1_iff i).mp h))
  · exact fun h => (phase_inside _ fun e => h ((cond1_iff i).mpr (hmod.symm.trans e))).symm
  · exact fun h j => next_free _ j
  · exact fun h => started_next _ (by have := (cond2_iff i).mp h; omega)
  · exact fun h => not_started_next _ fun e => h ((cond2_iff i).mpr (by omega))
  refine sl_bind (part14 (R := wins arg6 arg7 arg8 arg9 c d6 d7 d8 d9) arg6 harg6 arg7 harg7 arg8 harg8 arg9 harg9 i (own_flying _) ?_)
  refine sl_bind (part15 arg6 harg6 arg7 harg7 arg8 harg8 arg9 harg9 i (own_flying _) ?_)
  have z3 : (![0, 0, 0] : Fin 3 → ℕ) = fun _ => 0 := by funext a; fin_cases a <;> rfl
  have e189 : k0_off189 i = ![nOf i % 6, 0, 0, 0] := (show k0_off189 i = ![(Scalar.remsi (word i) 6#32).toNat, 0, 0, 0] from rfl).trans (congrArg (fun x : ℕ => ![x, 0, 0, 0]) (word_rem0 i))
  unfold wins st at h ⊢
  iintro ⟨⟨H6, H7, H8, H9⟩, Ht, Hr, HW⟩
  ihave H := ring_use c T sh (flightsOf 6 (nOf i)) (nOf i % 6) (nOf i) (slot_lt _) (own_flying _) $$ [Hr]
  · iexact Hr
  icases H with ⟨Hb, Hr⟩
  iapply (ldslab c T (nOf i % 6) (nOf i) (slot_lt _) e189) $$ [Hb]
  · iexact Hb
  iintro Hb
  iapply (ldw c arg9 z3 (d9 : S1x49x256.Idx → Elt F .f32)) $$ [H9]
  · iexact H9
  iintro H9
  iapply (stw c arg9 z3 (outBlk T (nOf i) d6 d7 d8 : S1x49x256.Idx → Elt F .f32) (d9 : S1x49x256.Idx → Elt F .f32)) $$ [H9]
  · iexact H9
  iintro H9
  ihave Hr := Hr $$ [Hb]
  · iexact Hb
  rw [after_use]
  have hp : iprop((owns (c : Thread nD τ) arg6 fullShare (d6 : S1x56x8.Idx → Elt F .f32) ∗ owns (c : Thread nD τ) arg7 fullShare (d7 : S1x1120.Idx → Elt F .f32)
      ∗ owns (c : Thread nD τ) arg8 fullShare (d8 : S1x1120.Idx → Elt F .f32) ∗ owns (c : Thread nD τ) arg9 fullShare (outBlk T (nOf i) d6 d7 d8 : S1x49x256.Idx → Elt F .f32))
      ∗ st c T sh q (phase (nOf i + 1))) ⊢ WP c (pure ⟨⟩) Q := sl_pure (c := c) (T := T) (sh := sh) (q := q) PUnit.unit h
  iapply hp
  unfold st
  isplitl [H6 H7 H8 H9]
  · isplitl [H6]; · iexact H6
    isplitl [H7]; · iexact H7
    isplitl [H8]; · iexact H8
    iexact H9
  isplitl [Ht]; · iexact Ht
  isplitl [Hr]; · iexact Hr
  iexact HW

end

end Cert.KernelIdeal.Hand
-- ==== Proof.Data.lean ====
/-
  Hand-written, untrusted. The region's proof data: what each array and table holds when the region starts, what the
  body leaves at each grid point, and the body's obligation to the pipeline.
-/
module

public import proofs.«01_k».proof.Proof.Body
public import proofs.«01_k».proof.Proof.Gen.KernelIdeal.Launch
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (dealOf pointsTo_deal)
open Idealize.ShloMosaic.Pipeline (Dat Cfg Window BodyObligation cellOf)

variable {F : FTy → Type} [FloatOps F]

local notation "𝕄" => MT nD τ sig Unit (Elt F) ℕ (Pipeline.UD sig nD τ) ℕ

/-- The host operations before the region, stretch by stretch. -/
abbrev lines : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18]

variable (m : (ℓ : Loc nD τ sig) → Buf (Elt F) ℓ)

/-- Every buffer when the region starts. -/
def V0 (c : Dev nD) : Valuation τ sig (Elt F) := StableHlo.after (lines (F := F)).flatten (fun b => m (c, b))

/-- The same by reference. -/
def V (c : Dev nD) (b : Ref sig .tc) : Buf (Elt F) ((c.tc : Thread nD τ).loc b) := V0 m c (Proc.devRef .tc b)

/-- The body's tables when the region starts. -/
def tabsOf (c : Dev nD) : Tabs F where
  tb := (V m c main_v1 : S512.Idx → Elt F .i32)
  tc := (V m c main_v86 : S512.Idx → Elt F .i32)
  ty := (V m c main_v168 : S512x8.Idx → Elt F .i32)
  feat := (V m c main_v166 : S4x200x200x256.Idx → Elt F .f32)

/-- The tables' contents the region reads. -/
def adm : (p : Fin 1) → (pcfgs (F := F) p).Adm := fun _ => ⟨fun k => V m (0 : Dev nD) (pre0.ref k), trivial⟩

/-- The configuration at those contents. -/
abbrev cfgA : Cfg sig Λ₀ := cfg0 (adm m 0)

/-- The share of the feature map that a ring's cell reads with. -/
def share (k : Cell) : PosShare TreeShare := dealOf (dealOf fullShare (Finset.univ : Finset (Fin 6)) k.1) (Finset.univ : Finset (Fin 7)) k.2

/-- The blocks the body finds at a point. -/
def wqBlk (c : Dev nD) (t : Fin grid0.N) : S1x56x8.Idx → F .f32 := (((cfgA m).win 0).blk t).view.read (Elt F) (V m c main_v158)
def skBlk (c : Dev nD) (t : Fin grid0.N) : S1x1120.Idx → F .f32 := (((cfgA m).win 1).blk t).view.read (Elt F) (V m c main_v162)
def rkBlk (c : Dev nD) (t : Fin grid0.N) : S1x1120.Idx → F .f32 := (((cfgA m).win 2).blk t).view.read (Elt F) (V m c main_v165)

/-- The proof data: inputs stay, the output's buffer holds the point's block, the ring is at the point's phase. -/
def dats (p : Fin 1) (c : Dev nD) : Dat τ (Elt F) Unit ℕ (Pipeline.UD sig nD τ) ℕ (Pipeline.pin pcfgs (adm m) p) c where
  A w := V m c (Pipeline.arrRef spec0 w)
  after w t := match w with
    | ⟨0, _⟩ => wqBlk m c t
    | ⟨1, _⟩ => skBlk m c t
    | ⟨2, _⟩ => rkBlk m c t
    | ⟨3, _⟩ => outBlk (tabsOf m c) (nOf (grid0.coords t)) (wqBlk m c t) (skBlk m c t) (rkBlk m c t)
  Φ t := iprop(tabs c (tabsOf m c) fullShare.right ∗ ring c (tabsOf m c) share (phase t.val))
  q _ := fullShare
  owed _ := 0

theorem A_eq (c : Dev nD) (w : Fin 4) : (dats m 0 c).A w = V m c (Pipeline.arrRef spec0 w) := by dsimp only [dats]

theorem coords_num : ∀ t : Fin grid0.N, nOf (grid0.coords t) = t.val := by decide +kernel

theorem before0 (c : Dev nD) (t : Fin grid0.N) (d) : (dats m 0 c).before (0 : Fin 4) t d = wqBlk m c t :=
  (dats m 0 c).before_in_eq_fetched (0 : Fin 4) rfl (fun _ => rfl) (fun _ _ _ => rfl) (fun _ => rfl) t d
theorem before1 (c : Dev nD) (t : Fin grid0.N) (d) : (dats m 0 c).before (1 : Fin 4) t d = skBlk m c t :=
  (dats m 0 c).before_in_eq_fetched (1 : Fin 4) rfl (fun _ => rfl) (fun _ _ _ => rfl) (fun _ => rfl) t d
theorem before2 (c : Dev nD) (t : Fin grid0.N) (d) : (dats m 0 c).before (2 : Fin 4) t d = rkBlk m c t :=
  (dats m 0 c).before_in_eq_fetched (2 : Fin 4) rfl (fun _ => rfl) (fun _ _ _ => rfl) (fun _ => rfl) t d

/-- The windows' current buffers at a point. -/
abbrev st0 (t : Fin grid0.N) : Memref sig .tc .vmem S1x56x8 .f32 := spec0_0.stage ((cfgA m).slots t 0)
abbrev st1 (t : Fin grid0.N) : Memref sig .tc .vmem S1x1120 .f32 := spec0_1.stage ((cfgA m).slots t 1)
abbrev st2 (t : Fin grid0.N) : Memref sig .tc .vmem S1x1120 .f32 := spec0_2.stage ((cfgA m).slots t 2)
abbrev st3 (t : Fin grid0.N) : Memref sig .tc .vmem S1x49x256 .f32 := spec0_3.stage ((cfgA m).slots t 3)

/-- The body at a point, over its current buffers. -/
abbrev bodyAt (t : Fin grid0.N) : Prog (TpuEff nD τ sig (Elt F) Λ₀ .tc) PUnit :=
  cc0__roi_kernel (grid0.coords t) (Memref.whole main_v1) (Memref.isWhole_whole _) (Memref.whole main_v86) (Memref.isWhole_whole _)
    (Memref.whole main_v168) (Memref.isWhole_whole _) (Memref.whole main_v166) (Memref.isWhole_whole _)
    (st0 m t) (hstage0_0 (((cfgA m).slots t 0).cast nbuf0_0)) (st1 m t) (hstage0_1 (((cfgA m).slots t 1).cast nbuf0_1))
    (st2 m t) (hstage0_2 (((cfgA m).slots t 2).cast nbuf0_2)) (st3 m t) (hstage0_3 (((cfgA m).slots t 3).cast nbuf0_3))
    (Memref.whole cc0_scratch0) (Memref.isWhole_whole _) cc0_scratch1

theorem defs₀_row (t : Fin grid0.N) : defs₀ (F := F) .tc (cfgA m).body ((cfgA m).bodyArgs t ((cfgA m).slots t)) = bodyAt m t := by
  unfold defs₀; rw [Defs.onTc_tc]

def bodyPre (c : Dev nD) (t : Fin grid0.N) : sProp 𝕄 :=
  iprop((dats m 0 c).Φ t.castSucc ∗ (dats m 0 c).owesAt () t.castSucc
    ∗ (∃ d, owns (c : Thread nD τ) (st0 m t) fullShare ((dats m 0 c).before (0 : Fin 4) t d))
    ∗ (∃ d, owns (c : Thread nD τ) (st1 m t) fullShare ((dats m 0 c).before (1 : Fin 4) t d))
    ∗ (∃ d, owns (c : Thread nD τ) (st2 m t) fullShare ((dats m 0 c).before (2 : Fin 4) t d))
    ∗ (∃ d, owns (c : Thread nD τ) (st3 m t) fullShare ((dats m 0 c).before (3 : Fin 4) t d)))
def bodyPost (c : Dev nD) (t : Fin grid0.N) : sProp 𝕄 :=
  iprop((dats m 0 c).Φ t.succ ∗ (dats m 0 c).owesAt () t.succ
    ∗ owns (c : Thread nD τ) (st0 m t) fullShare ((dats m 0 c).after (0 : Fin 4) t)
    ∗ owns (c : Thread nD τ) (st1 m t) fullShare ((dats m 0 c).after (1 : Fin 4) t)
    ∗ owns (c : Thread nD τ) (st2 m t) fullShare ((dats m 0 c).after (2 : Fin 4) t)
    ∗ owns (c : Thread nD τ) (st3 m t) fullShare ((dats m 0 c).after (3 : Fin 4) t))

theorem Phi_at (c : Dev nD) (p : Fin (grid0.N + 1)) :
    (dats m 0 c).Φ p = iprop(tabs c (tabsOf m c) fullShare.right ∗ ring c (tabsOf m c) share (phase p.val)) := rfl

theorem sound_body (c : Dev nD) (hT : (tabsOf m c).OK) (t : Fin grid0.N) :
    bodyPre m c t ⊢ wp frame (wpE (defs₀ (F := F)) Variants.none c none) Set.univ (bodyAt m t) (fun _ => bodyPost m c t) := by
  unfold bodyPre bodyPost
  rw [Phi_at, Phi_at, show (t.castSucc : Fin (grid0.N + 1)).val = nOf (grid0.coords t) from (coords_num t).symm,
    show (t.succ : Fin (grid0.N + 1)).val = nOf (grid0.coords t) + 1 from congrArg (· + 1) (coords_num t).symm]
  unfold Dat.owesAt Pipeline.owesWithin
  rw [show (dats m 0 c).owed t.castSucc = 0 from rfl, show (dats m 0 c).owed t.succ = 0 from rfl]
  simp only [before0, before1, before2]
  refine ent_trans (P' := iprop(∃ d3, wins (st0 m t) (st1 m t) (st2 m t) (st3 m t) c (wqBlk m c t) (skBlk m c t) (rkBlk m c t) ((dats m 0 c).before (3 : Fin 4) t d3)
      ∗ st c (tabsOf m c) share fullShare.right (phase (nOf (grid0.coords t))))) ?_ (exists_elim fun d3 =>
    body (c := c) (T := tabsOf m c) (sh := share) (q := fullShare.right) (st0 m t) _ (st1 m t) _ (st2 m t) _ (st3 m t) _ (grid0.coords t) hT
      (d9 := (dats m 0 c).before (3 : Fin 4) t d3) ?_)
  · iintro ⟨⟨Ht, Hr⟩, ⟨%W, -, HW⟩, ⟨%d0, H0⟩, ⟨%d1, H1⟩, ⟨%d2, H2⟩, ⟨%d3, H3⟩⟩
    iexists d3
    unfold wins st
    isplitl [H0 H1 H2 H3]
    · isplitl [H0]; · iexact H0
      isplitl [H1]; · iexact H1
      isplitl [H2]; · iexact H2
      iexact H3
    isplitl [Ht]; · iexact Ht
    isplitl [Hr]; · iexact Hr
    iexists W; iexact HW
  unfold wins st
  iintro ⟨⟨H0, H1, H2, H3⟩, Ht, Hr, ⟨%W', HW'⟩⟩
  isplitl [Ht Hr]
  · isplitl [Ht]; · iexact Ht
    iexact Hr
  isplitl [HW']
  · iexists W'; isplitr; · ipureintro; exact fun _ _ => Or.inl trivial
    iexact HW'
  isplitl [H0]; · iexact H0
  isplitl [H1]; · iexact H1
  isplitl [H2]; · iexact H2
  iexact H3

theorem body_obligation (c : Dev nD) (hT : (tabsOf m c).OK) : BodyObligation (dats (F := F) m 0 c) (defs₀ (F := F)) Variants.none () Set.univ := fun t => by
  rw [bigSep_W0, bigSep_W0, defs₀_row]
  exact triple_restated (sound_body m c hT t) rfl .rfl fun _ => .rfl

end Cert.KernelIdeal.Hand
-- ==== Proof.Run.lean ====
/-
  Hand-written, untrusted. The kernel's whole run: the launch hands the region the ring with every cell free, the last
  grid point hands it back so; what every array and buffer holds at the end.
-/
module

public import proofs.«01_k».proof.Proof.Data
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (dealOf pointsTo_deal)
open Idealize.ShloMosaic.Pipeline (Dat Cfg Window BodyObligation cellOf)

variable {F : FTy → Type} [FloatOps F]

local notation "𝕄" => MT nD τ sig Unit (Elt F) ℕ (Pipeline.UD sig nD τ) ℕ

/-! ## The ring at launch -/

theorem ent_eq {P Q : sProp 𝕄} (h : P = Q) : P ⊢ Q := h ▸ .rfl

theorem ring_free (c : Dev nD) (T : Tabs F) (sh : Cell → PosShare TreeShare) :
    ring c T sh allFree = bigSep Finset.univ fun k : Cell => iprop((∃ f : Buf (Elt F) (ringLoc c), ringLoc c ↦[cellSet k]{fullShare} f) ∗ semVal ((c : Thread nD τ), cellM k) 0
      ∗ (featLoc c ↦{sh k} (T.feat : Buf (Elt F) (featLoc c)))) := by
  unfold ring
  refine bigSep_congr fun k _ => ?_
  simp only [allFree, cellRes]

/-- The cells' elements are the whole ring. -/
theorem cells_cover : (Finset.univ : Finset Cell).biUnion cellSet = Finset.univ := by
  refine Finset.eq_univ_of_forall fun y => ?_
  have h0 : (y 0).val < 6 := (y 0).isLt
  have h1 : (y 1).val < 14 := (y 1).isLt
  exact Finset.mem_biUnion.mpr ⟨(⟨(y 0).val, h0⟩, ⟨(y 1).val / 2, by omega⟩), Finset.mem_univ _, (mem_cellSet _ _).mpr ⟨rfl, rfl⟩⟩

section
variable (c : Dev nD) (T : Tabs F)

theorem feat_deal : (featLoc c ↦{fullShare} (T.feat : Buf (Elt F) (featLoc c)) : sProp 𝕄)
    = bigSep Finset.univ fun k : Cell => featLoc c ↦{share k} (T.feat : Buf (Elt F) (featLoc c)) := by
  rw [bigSep_univ_prod, pointsTo_deal (Finset.univ : Finset (Fin 6)) Finset.univ_nonempty fullShare]
  refine bigSep_congr fun s _ => ?_
  rw [pointsTo_deal (Finset.univ : Finset (Fin 7)) Finset.univ_nonempty]
  rfl

theorem ring_parts (P : Cell → sProp 𝕄) : (bigSep Finset.univ fun k : Cell => iprop(P k ∗ semVal ((c : Thread nD τ), cellM k) 0
      ∗ (featLoc c ↦{share k} (T.feat : Buf (Elt F) (featLoc c)))))
    = iprop((bigSep Finset.univ P) ∗ (bigSep Finset.univ fun k => semVal ((c : Thread nD τ), cellM k) 0) ∗ (featLoc c ↦{fullShare} (T.feat : Buf (Elt F) (featLoc c)))) := by
  rw [feat_deal]
  exact (bigSep_sep _ _ _).trans (congrArg (fun X : sProp 𝕄 => iprop(bigSep Finset.univ P ∗ X)) (bigSep_sep _ _ _))

/-- The free ring from the scratch buffer, its counters at zero and the feature map. -/
theorem ring_make : iprop((∃ f : Buf (Elt F) (ringLoc c), ringLoc c ↦{fullShare} f) ∗ (bigSep Finset.univ fun k => semVal ((c : Thread nD τ), cellM k) 0)
      ∗ (featLoc c ↦{fullShare} (T.feat : Buf (Elt F) (featLoc c)))) ⊢ ring c T share allFree := by
  rw [ring_free, ring_parts]
  refine sep_mono_left (exists_elim fun f => ?_)
  rw [show (ringLoc c ↦{fullShare} f : sProp 𝕄) = bigSep Finset.univ fun k => ringLoc c ↦[cellSet k]{fullShare} f by
    rw [← pointsTo_biUnion _ _ fun k _ k' _ h => cellSet_disjoint k k' h, cells_cover]]
  exact bigSep_mono fun k _ => exists_intro (Φ := fun f : Buf (Elt F) (ringLoc c) => (ringLoc c ↦[cellSet k]{fullShare} f : sProp 𝕄)) f

instance (c : Dev nD) : Nonempty (Buf (Elt F) (ringLoc c)) :=
  ⟨(show S6x14x80x256.Idx → F .f32 from fun _ => Scalar.ofBits .f32 0#32)⟩

theorem cells_join_at (fs : Cell → Buf (Elt F) (ringLoc c)) :
    (bigSep Finset.univ fun k : Cell => (ringLoc c ↦[cellSet k]{fullShare} fs k : sProp 𝕄)) ⊢ iprop(∃ f : Buf (Elt F) (ringLoc c), ringLoc c ↦{fullShare} f) := by
  have h := pointsTo_biUnion_join (ℓ := ringLoc c) (q := fullShare) (Val := Elt F) (Ix := Unit) (Name := ℕ) (U := Pipeline.UD sig nD τ) (Lvl := ℕ) Finset.univ cellSet fs (fs (0, 0)) fun k _ k' _ h => cellSet_disjoint k k' h
  rw [cells_cover] at h
  refine ent_trans h ?_
  iintro ⟨%g, -, H⟩
  iexists g; iexact H

theorem cells_join : (bigSep Finset.univ fun k : Cell => iprop(∃ f : Buf (Elt F) (ringLoc c), ringLoc c ↦[cellSet k]{fullShare} f))
    ⊢ (iprop(∃ f : Buf (Elt F) (ringLoc c), ringLoc c ↦{fullShare} f) : sProp 𝕄) :=
  ent_trans (bigSep_exists_pi (Y := fun _ : Cell => Buf (Elt F) (ringLoc c)) Finset.univ fun (k : Cell) (f : Buf (Elt F) (ringLoc c)) => (ringLoc c ↦[cellSet k]{fullShare} f : sProp 𝕄))
    (exists_elim (cells_join_at c))

/-- The free ring taken apart. -/
theorem ring_break : ring c T share allFree ⊢ iprop((∃ f : Buf (Elt F) (ringLoc c), ringLoc c ↦{fullShare} f) ∗ (bigSep Finset.univ fun k => semVal ((c : Thread nD τ), cellM k) 0)
      ∗ (featLoc c ↦{fullShare} (T.feat : Buf (Elt F) (featLoc c)))) := by
  rw [ring_free, ring_parts]
  refine sep_mono_left ?_
  exact cells_join c

end

/-! ## The launch -/

theorem ownSemFacts0 : Pipeline.OwnSemFacts spec0 cellM := by decide +kernel

theorem H_sub : ({main_v166} : Finset (Ref sig .tc)) ⊆ Pipeline.restRefsP sig pre0 spec0 := by decide +kernel

variable (m : (ℓ : Loc nD τ sig) → Buf (Elt F) ℓ) (ρ : Dev nD → PrngReg)

theorem prefHeld_eq (c : Dev nD) : (Pipeline.ΦT (U := Pipeline.UD sig nD τ) pre0 (adm m 0).1 c : sProp 𝕄) = tabs c (tabsOf m c) fullShare.right := by
  obtain rfl : c = 0 := Subsingleton.elim _ _
  unfold Pipeline.ΦT Pipeline.prefHeld tabs
  rw [show (Finset.univ : Finset (Fin pre0.K)) = {0, 1, 2} from by decide, bigSep_insert (by decide), bigSep_insert (by decide), bigSep_singleton]
  rfl

theorem phi_in (c : Dev nD) : iprop(Pipeline.ΦDRV cellM spec0 {main_v166} ∅ (V m) (V m) c ∗ Pipeline.ΦT (U := Pipeline.UD sig nD τ) pre0 (adm m 0).1 c) ⊢ (dats m 0 c).Φ 0 := by
  rw [Phi_at, prefHeld_eq, show phase (0 : Fin (grid0.N + 1)).val = allFree from phase_start _ rfl]
  unfold Pipeline.ΦDRV Pipeline.ownSems0
  rw [scopedRest0_eq, bigSep_singleton]
  iintro ⟨⟨Hs, Hq, Hf, -⟩, Ht⟩
  isplitl [Ht]; · iexact Ht
  iapply (ring_make c (tabsOf m c))
  isplitl [Hs]; · iexact Hs
  isplitl [Hq]; · iexact Hq
  iexact Hf

theorem phi_out (c : Dev nD) : (dats m 0 c).Φ (Fin.last grid0.N) ⊢ Pipeline.ΦDRV cellM spec0 {main_v166} ∅ (V m) (V m) c := by
  rw [Phi_at, show phase (Fin.last grid0.N).val = allFree from phase_start _ (by show grid0.N % 256 = 0; rw [N_0])]
  unfold Pipeline.ΦDRV Pipeline.ownSems0
  rw [scopedRest0_eq, bigSep_singleton, bigSep_empty]
  refine ent_trans (sep_mono_right (ring_break c (tabsOf m c))) ?_
  iintro ⟨-, Hs, Hq, Hf⟩
  isplitl [Hs]; · iexact Hs
  isplitl [Hq]; · iexact Hq
  isplitl [Hf]; · iexact Hf
  iempintro

theorem lines_sub : (lines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
   hostOps0_8_sub, hostOps0_9_sub, hostOps0_10_sub, hostOps0_11_sub, hostOps0_12_sub, hostOps0_13_sub, hostOps0_14_sub, hostOps0_15_sub,
   hostOps0_16_sub, hostOps0_17_sub, hostOps0_18_sub⟩

theorem lines_fresh : (lines (F := F)).Forall fun ops => ops.Forall fun op => op.fresh = ∅ := by
  simp only [lines, List.Forall]
  repeat' constructor

theorem hmain : Pipeline.HMainPK (Ix := Unit) (Name := ℕ) (U := Pipeline.UD sig nD τ) (Lvl := ℕ) (pcfgs (F := F)) 0 defs₀ Variants.none m main
      (fun c b => V0 m c (Proc.devRef .tc b)) (fun _ => Pipeline.chain ([hostOps1 (F := F)].map StableHlo.seq)) :=
  Pipeline.hmainP_around pcfgs 0 defs₀ Variants.none m main lines [hostOps1] lines_sub lines_fresh fun c => (main_chain c).trans rfl

theorem tail_sub : ∀ ops ∈ [hostOps1 (F := F)], ∀ op ∈ ops, op.bufs ⊆ Pipeline.tailRefs sig pre0 spec0 := by
  intro ops hops op hop
  rw [List.mem_singleton] at hops; subst hops
  simp only [List.mem_cons, List.not_mem_nil, or_false] at hop
  rcases hop with rfl | rfl
  · show ({Proc.devRef .tc main_v169, Proc.devRef .tc main_v170} : Finset (DevRef τ sig)) ⊆ _
    decide +kernel
  · show ({Proc.devRef .tc main_v170, Proc.devRef .tc main_v171} : Finset (DevRef τ sig)) ⊆ _
    decide +kernel

theorem tail_fresh : ∀ ops ∈ [hostOps1 (F := F)], ∀ op ∈ ops, op.fresh = ∅ := by
  intro ops hops op hop
  rw [List.mem_singleton] at hops; subst hops
  simp only [List.mem_cons, List.not_mem_nil, or_false] at hop
  rcases hop with rfl | rfl <;> rfl

theorem tail_keep : ∀ ops ∈ [hostOps1 (F := F)], ∀ op ∈ ops, ∀ w, Proc.devRef .tc (Pipeline.arrRef spec0 w) ∉ op.writes := by
  intro ops hops op hop
  rw [List.mem_singleton] at hops; subst hops
  simp only [List.mem_cons, List.not_mem_nil, or_false] at hop
  rcases hop with rfl | rfl
  · show ∀ w, Proc.devRef .tc (Pipeline.arrRef spec0 w) ∉ ({Proc.devRef .tc main_v170} : Finset (DevRef τ sig))
    decide +kernel
  · show ∀ w, Proc.devRef .tc (Pipeline.arrRef spec0 w) ∉ ({Proc.devRef .tc main_v171} : Finset (DevRef τ sig))
    decide +kernel

/-- With no buffer set apart the valuation stays. -/
theorem withR_none (W : Valuation τ sig (Elt F)) (c : Dev nD) (G : (b : Ref sig .tc) → Buf (Elt F) ((c.tc : Thread nD τ).loc b)) :
    Pipeline.withR W ∅ c G = W := by
  funext b
  simp [Pipeline.withR]

/-- Every buffer when the program ends, given the arrays the region leaves. -/
def Vend (c : Dev nD) : Valuation τ sig (Elt F) :=
  StableHlo.after (hostOps1 (F := F)) (Pipeline.withArrays spec0 c (V0 m c) fun w => (dats m 0 c).arrAt w grid0.N)

set_option backward.isDefEq.respectTransparency.types false in
/-- The whole program's run: its buffers at the end, and every counter at zero. -/
theorem run_main (hT : ∀ c, (tabsOf m c).OK) : θ_run defs (onTc (τ := τ) (main (F := F))) ⟨m, fun _ => 0, ρ⟩
    (fun r => (∀ c : Dev nD, ∀ b ∈ Pipeline.restRefsP sig pre0 spec0, r.2.mem ((c.tc : Thread nD τ).loc b) = Vend m c (Proc.devRef .tc b)) ∧ r.2.sem = fun _ => 0) :=
  Pipeline.θ_run_frameP_dmaR_aroundV (Q' := _) pcfgs (adm m) (dats m) (0 : Fin 1) launch0 cellM defs₀ Variants.none ownSemFacts0 {main_v166} ∅ H_sub
    (Finset.empty_subset _) m ρ main
    (hbody := fun c => (body_obligation m c (hT c)).loose) (hshare := fun c => (dats m 0 c).share_full fun _ => rfl)
    (howed := fun _ _ => rfl) (V₀ := V0 m) (opss := [hostOps1]) (hsub := tail_sub) (hfresh := tail_fresh) (hkeep := tail_keep) (G := V m)
    (hmain := hmain m) (hA := A_eq m) (hpf := fun c k => by obtain rfl : c = 0 := Subsingleton.elim _ _; rfl)
    (hin := phi_in m) (hout := phi_out m)
    (hQ' := fun r h => ⟨fun c b hb => ((h.1 c).2 b hb).trans (by unfold Vend; rw [withR_none]; rfl), h.2⟩)

end Cert.KernelIdeal.Hand
-- ==== Proof.Host.lean ====
/-
  Hand-written, untrusted. What the host operations before the region leave in the tables, and the frame.
-/
module

public import proofs.«01_k».proof.Proof.Run
public import Idealize.ShloMosaic.Lib.StableHlo.ReadAt

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

theorem V_arg0 (c : Dev nD) : V0 m c (Proc.devRef .tc main_arg0) = m ((c.tc : Thread nD τ).loc main_arg0) := by
  unfold V0; after_reads_simp
theorem V_arg1 (c : Dev nD) : V0 m c (Proc.devRef .tc main_arg1) = m ((c.tc : Thread nD τ).loc main_arg1) := by
  unfold V0; after_reads_simp

theorem v1_at (c : Dev nD) (j : S512.Idx) : (tabsOf m c).tb j = m ((c.tc : Thread nD τ).loc main_arg1) (ix2 (j 0) 0) := by
  unfold tabsOf V V0
  after_reads_at

theorem v43_at (c : Dev nD) (j : S512x7.Idx) : (V0 m c (Proc.devRef .tc main_v43) : S512x7.Idx → Elt F .i32) j
    = IntOp.minsi 199#32 (IntOp.maxsi 0#32 ((V0 m c (Proc.devRef .tc main_v42) : S512x7.Idx → Elt F .i32) j)) := by
  unfold V0
  after_reads_simp
  rfl

theorem v53_at (c : Dev nD) (j : S512x7.Idx) : (V0 m c (Proc.devRef .tc main_v53) : S512x7.Idx → Elt F .i32) j
    = IntOp.minsi ((V0 m c (Proc.devRef .tc main_v43) : S512x7.Idx → Elt F .i32) j) 198#32 := by
  unfold V0
  after_reads_simp
  rfl

theorem v168_eq (c : Dev nD) (j : S512x8.Idx) : (tabsOf m c).ty j = concatenate S512x8 1 [⟨S512x7, (V0 m c (Proc.devRef .tc main_v53) : S512x7.Idx → Elt F .i32)⟩,
    ⟨S512x1, broadcastInDim S512x1 ![] bcast_S_S512x1 (constantI S_ 32 0#32)⟩] concatenates_S512x7_S512x1_S512x8_d1 j := by
  unfold tabsOf V V0
  after_reads_simp

theorem v168_at (c : Dev nD) (n : Fin 512) (j : Fin 8) (h : j.val < 7) : (tabsOf m c).ty (ix2 n j) =
    (V0 m c (Proc.devRef .tc main_v53) : S512x7.Idx → Elt F .i32) (ix2 n ⟨j.val, h⟩) := by
  rw [v168_eq]
  pointwise
  rw [dif_pos h]

/-- The first column of a box's window: its left edge rounded down to a multiple of eight, at most 120. -/
theorem col_val : ∀ k : Fin 200, IntOp.minsi (IntOp.muli (Scalar.select
          (IntOp.andi
            (IntOp.cmpi CmpIPredicate.ne (if BitVec.ofNat 32 k.val = 0 then 0 else if BitVec.msb (BitVec.ofNat 32 k.val) = true then -1 else 1)
              (if 8#32 = 0 then (0 : BitVec 32) else if (8#32).msb = true then -1 else 1))
            (IntOp.cmpi CmpIPredicate.ne (IntOp.remsi ArithUnit.host (BitVec.ofNat 32 k.val) 8#32) 0#32))
          (IntOp.subi (IntOp.divsi ArithUnit.host (BitVec.ofNat 32 k.val) 8#32) 1#32) (IntOp.divsi ArithUnit.host (BitVec.ofNat 32 k.val) 8#32)) 8#32) 120#32
    = BitVec.ofNat 32 (min (k.val / 8 * 8) 120) := by decide +kernel

theorem v86_at (c : Dev nD) (n : Fin 512) (h : (m ((c.tc : Thread nD τ).loc main_arg1) (ix2 n 1) : BitVec 32).toNat ≤ 199) :
    (tabsOf m c).tc (ix1 n) = BitVec.ofNat 32 (min ((m ((c.tc : Thread nD τ).loc main_arg1) (ix2 n 1) : BitVec 32).toNat / 8 * 8) 120) := by
  have e := col_val ⟨_, Nat.lt_succ_of_le h⟩
  simp only [show BitVec.ofNat 32 (m ((c.tc : Thread nD τ).loc main_arg1) (ix2 n 1) : BitVec 32).toNat = (m ((c.tc : Thread nD τ).loc main_arg1) (ix2 n 1) : BitVec 32) from by simp] at e
  refine Eq.trans ?_ e
  unfold tabsOf V V0
  after_reads_at
  rfl

end Cert.KernelIdeal.Hand
-- ==== Proof.Boxes.lean ====
/-
  Hand-written, untrusted. What the precondition says of the boxes, as bounds on each row's words.
-/
module

public import proofs.«01_k».proof.Defs
public import Idealize.ShloMosaic.Lib.PointwiseCore

@[expose] public section

noncomputable section

namespace Cert.Boxes

open Idealize.ShloMosaic

/-- The predicate's shape facts. -/
theorem facts : Cert.Pre_boxes_on_grid.Facts where
  slices_S512x5_S512x1_0_0 := by decide
  shapeCasts_S512x1_S512 := by decide
  slices_S512x5_S512x1_0_1 := by decide
  slices_S512x5_S512x1_0_3 := by decide
  bcast_S_S512 := by decide

/-- Row `n`'s word `k`. -/
abbrev word (r : (⟨2, ![512, 5]⟩ : Shape).Idx → BitVec 32) (n : Fin 512) (k : Fin 5) : BitVec 32 := r (ix2 n k)

/-- The boxes: the image is one of four, the first column is not after the last, which is on the map, at most 63 apart. -/
structure Good (r : (⟨2, ![512, 5]⟩ : Shape).Idx → BitVec 32) (n : Fin 512) : Prop where
  img : (word r n 0).toNat ≤ 3
  ord : (word r n 1).toNat ≤ (word r n 3).toNat
  last : (word r n 3).toNat ≤ 199
  near : (word r n 3).toNat ≤ (word r n 1).toNat + 63

/-- The predicate's comparisons as bounds. -/
theorem words (b x1 x2 : BitVec 32) (h1 : (0#32).sle b = true) (h2 : b.sle 3#32 = true) (h3 : (0#32).sle x1 = true) (h4 : x1.sle x2 = true)
    (h5 : x2.sle 199#32 = true) (h6 : (IntOp.subi x2 x1).sle 63#32 = true) :
    b.toNat ≤ 3 ∧ x1.toNat ≤ x2.toNat ∧ x2.toNat ≤ 199 ∧ x2.toNat ≤ x1.toNat + 63 := by
  have e0 : (0#32).toInt = 0 := by decide
  have e3 : (3#32).toInt = 3 := by decide
  have e199 : (199#32).toInt = 199 := by decide
  have e63 : (63#32).toInt = 63 := by decide
  simp only [BitVec.sle, decide_eq_true_eq, e0, e3, e199, e63, IntOp.subi] at h1 h2 h3 h4 h5 h6
  have i0 := BitVec.toInt_eq_toNat_cond b
  have i1 := BitVec.toInt_eq_toNat_cond x1
  have i2 := BitVec.toInt_eq_toNat_cond x2
  have hs : (x2 - x1).toNat = x2.toNat - x1.toNat := by
    rw [BitVec.toNat_sub]; omega
  have i3 := BitVec.toInt_eq_toNat_cond (x2 - x1)
  rw [hs] at i3
  omega

/-- The precondition gives those bounds. -/
theorem good_of_pre {F : FTy → Type} [FloatOps F] (x : (⟨4, ![4, 256, 200, 200]⟩ : Shape).Idx → F .f32) (r : (⟨2, ![512, 5]⟩ : Shape).Idx → BitVec 32)
    (h : @Cert.Pre_boxes_on_grid.fn facts F _ x r = fun _ => 1#1) (n : Fin 512) : Good r n := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h (ix1 n)
  unfold Cert.Pre_boxes_on_grid.fn Cert.Pre_boxes_on_grid.fn_part1 at e
  have h0 : ∀ k, ∀ z : (⟨2, ![512, 5]⟩ : Shape).Slices ![0, k] ⟨2, ![512, 1]⟩, ∀ w : (⟨2, ![512, 1]⟩ : Shape).ShapeCasts ⟨1, ![512]⟩, ∀ hk : k < 5,
      shapeCast (⟨1, ![512]⟩ : Shape) (extractStridedSlice (⟨2, ![512, 1]⟩ : Shape) ![0, k] r z) w (ix1 n) = word r n ⟨k, hk⟩ := by
    intro k z w hk
    pointwise
  simp only [andi, cmpi, subi, broadcastInDim, constantI, IntOp.cmpi, andi_ofBool, ofBool_eq_one, Bool.and_eq_true] at e
  rw [h0 0 _ _ (by omega), h0 1 _ _ (by omega), h0 3 _ _ (by omega)] at e
  obtain ⟨⟨⟨⟨⟨h1, h2⟩, h3⟩, h4⟩, h5⟩, h6⟩ := e
  have hx := words (word r n 0) (word r n 1) (word r n 3) h1 h2 h3 h4 h5 h6
  exact ⟨hx.1, hx.2.1, hx.2.2.1, hx.2.2.2⟩

end Cert.Boxes
-- ==== Proof.Frame.lean ====
/-
  Hand-written, untrusted. The frame: under the bounds on the boxes the tables are as the body asks, so the run is the
  whole program's, and the arguments stay.
-/
module

public import proofs.«01_k».proof.Proof.Host
public import proofs.«01_k».proof.Proof.Boxes

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The boxes' words of a memory. -/
abbrev boxes (c : Dev nD) : S512x5.Idx → BitVec 32 := m ((c.tc : Thread nD τ).loc main_arg1)

/-- A word taken between two bounds, as a natural number. -/
theorem clip_le (x : BitVec 32) (k : ℕ) (hk : k < 2 ^ 31) : (IntOp.minsi (BitVec.ofNat 32 k) (IntOp.maxsi 0#32 x)).toNat ≤ k := by
  have e0 : (0#32).toInt = 0 := by decide
  have hk' : (BitVec.ofNat 32 k).toInt = k := by
    rw [BitVec.toInt_eq_toNat_cond, BitVec.toNat_ofNat, Nat.mod_eq_of_lt (by omega), if_pos (by omega)]
  have hn : (BitVec.ofNat 32 k).toNat = k := by rw [BitVec.toNat_ofNat, Nat.mod_eq_of_lt (by omega)]
  have hx := BitVec.toInt_eq_toNat_cond x
  unfold IntOp.minsi IntOp.maxsi
  simp only [BitVec.slt, BitVec.sle, e0, hk']
  split_ifs <;> simp_all <;> omega

theorem min_le (x : BitVec 32) (k : ℕ) (hk : k < 2 ^ 31) (hx : x.toNat < 2 ^ 31) : (IntOp.minsi x (BitVec.ofNat 32 k)).toNat = min x.toNat k := by
  have hk' : (BitVec.ofNat 32 k).toInt = k := by
    rw [BitVec.toInt_eq_toNat_cond, BitVec.toNat_ofNat, Nat.mod_eq_of_lt (by omega), if_pos (by omega)]
  have hn : (BitVec.ofNat 32 k).toNat = k := by rw [BitVec.toNat_ofNat, Nat.mod_eq_of_lt (by omega)]
  have hx := BitVec.toInt_eq_toNat_cond x
  unfold IntOp.minsi
  simp only [BitVec.slt, BitVec.sle, hk']
  split_ifs <;> simp_all <;> omega

theorem row_val (c : Dev nD) (j : S512x7.Idx) : ((V0 m c (Proc.devRef .tc main_v43) : S512x7.Idx → Elt F .i32) j : BitVec 32).toNat ≤ 199 := by
  rw [v43_at]; exact clip_le _ 199 (by norm_num)

/-- Under the bounds the tables are as the body asks. -/
theorem tables_ok (c : Dev nD) (h : ∀ n, Boxes.Good (boxes m c) n) : (tabsOf m c).OK where
  img n hn := by
    unfold tab1
    rw [show ixOf S512 (by decide) ![n] = ix1 (⟨n, hn⟩ : Fin 512) from (ixOf_eq _ _ _ fun a => by fin_cases a; rfl).symm, v1_at]
    exact (h ⟨n, hn⟩).img
  col n hn := by
    have hx := (h ⟨n, hn⟩).ord.trans (h ⟨n, hn⟩).last
    unfold tab1
    rw [show ixOf S512 (by decide) ![n] = ix1 (⟨n, hn⟩ : Fin 512) from (ixOf_eq _ _ _ fun a => by fin_cases a; rfl).symm, v86_at m c ⟨n, hn⟩ hx, BitVec.toNat_ofNat]
    exact (Nat.mod_le _ _).trans (Nat.min_le_right _ _)
  col8 n hn := by
    have hx := (h ⟨n, hn⟩).ord.trans (h ⟨n, hn⟩).last
    unfold tab1
    rw [show ixOf S512 (by decide) ![n] = ix1 (⟨n, hn⟩ : Fin 512) from (ixOf_eq _ _ _ fun a => by fin_cases a; rfl).symm, v86_at m c ⟨n, hn⟩ hx, BitVec.toNat_ofNat]
    omega
  row n j hn hj := by
    unfold tab2
    rw [show ixOf S512x8 (by decide) ![n, j] = ix2 (⟨n, hn⟩ : Fin 512) (⟨j, by omega⟩ : Fin 8) from (ixOf_eq _ _ _ fun a => by fin_cases a <;> rfl).symm,
      v168_at m c _ _ hj, v53_at, min_le _ 198 (by norm_num) (lt_of_le_of_lt (row_val m c _) (by norm_num))]
    exact Nat.min_le_right _ _

theorem arg0_rest : main_arg0 ∈ Pipeline.restRefsP sig pre0 spec0 := by decide +kernel
theorem arg1_rest : main_arg1 ∈ Pipeline.restRefsP sig pre0 spec0 := by decide +kernel
theorem v171_rest : main_v171 ∈ Pipeline.restRefsP sig pre0 spec0 := by decide +kernel

theorem end_arg0 (c : Dev nD) : Vend m c (Proc.devRef .tc main_arg0) = m ((c.tc : Thread nD τ).loc main_arg0) := by
  unfold Vend
  after_reads_simp
  rw [Pipeline.withArrays_of_ne _ _ _ _ _ (by decide), V_arg0]
theorem end_arg1 (c : Dev nD) : Vend m c (Proc.devRef .tc main_arg1) = m ((c.tc : Thread nD τ).loc main_arg1) := by
  unfold Vend
  after_reads_simp
  rw [Pipeline.withArrays_of_ne _ _ _ _ _ (by decide), V_arg1]

/-- The frame: the program runs, its arguments stay, every counter ends at zero. -/
theorem frame (h : ∀ c n, Boxes.Good (boxes m c) n) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs (onTc (τ := τ) (main (F := F))) ⟨m, fun _ => 0, ρ⟩).mono (fun r hr => ⟨fun c =>
    ⟨(hr.1 c _ arg0_rest).trans (end_arg0 m c), (hr.1 c _ arg1_rest).trans (end_arg1 m c)⟩, hr.2⟩) (run_main m ρ fun c => tables_ok m c (h c))

end Cert.KernelIdeal.Hand
-- ==== Proof.Same.lean ====
/-
  Hand-written, untrusted. The kernel as printed and its idealization are one text under two names: the frame carries over.
-/
module

public import proofs.«01_k».proof.Proof.Frame
public import proofs.«01_k».proof.Proof.Gen.Kernel
public import Idealize.ShloMosaic.Lib.Tactic.ProgEq

@[expose] public section

noncomputable section

namespace Cert.Same

open Idealize.ShloMosaic Idealize.ShloMosaic.TcCoe Idealize.ShloMosaic.Tactic
open Idealize.SL.Sem

instance : Cert.Kernel.Facts := Cert.Kernel.Gen.facts
instance : Cert.KernelIdeal.Facts := Cert.KernelIdeal.Gen.facts

/-- The frame of the kernel as printed, its boxes bounded. -/
def framePrinted : Prop := ∀ (m : (ℓ : Loc Cert.Kernel.nD Cert.Kernel.τ Cert.Kernel.sig) → Buf (Elt Bits) ℓ) (g : Dev Cert.Kernel.nD → PrngReg),
    (∀ (c : Dev Cert.Kernel.nD) n, Boxes.Good (m ((c.tc : Thread Cert.Kernel.nD Cert.Kernel.τ).loc Cert.Kernel.main_arg1)) n) →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

/-- The same of the idealization, at the same arithmetic. -/
def frameIdealized : Prop := ∀ (m : (ℓ : Loc Cert.KernelIdeal.nD Cert.KernelIdeal.τ Cert.KernelIdeal.sig) → Buf (Elt Bits) ℓ) (g : Dev Cert.KernelIdeal.nD → PrngReg),
    (∀ (c : Dev Cert.KernelIdeal.nD) n, Boxes.Good (m ((c.tc : Thread Cert.KernelIdeal.nD Cert.KernelIdeal.τ).loc Cert.KernelIdeal.main_arg1)) n) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- They are one statement. -/
theorem frames_eq : framePrinted = frameIdealized := by sl_kernel_rfl

/-- The frame of the kernel as printed. -/
theorem frame_printed : framePrinted := frames_eq ▸ fun m g h => Cert.KernelIdeal.Hand.frame m g h

end Cert.Same
-- ==== Proof.Ref.lean ====
/-
  Hand-written, untrusted. The reference's run: its host operations, read off its text, one after the other.
-/
module

public import proofs.«01_k».proof.Proof.Gen.ReferenceIdeal
public import Idealize.ShloMosaic.Lib.StableHlo.RunHlo
public import Idealize.ShloMosaic.Lib.StableHlo.ReadAt

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL.Sem

instance : Cert.ReferenceIdeal.Facts := Cert.ReferenceIdeal.Gen.facts

variable {F : FTy → Type} [FloatOps F]

set_option maxHeartbeats 4000000 in
/-- The reference's operations, in order. -/
def line : { ops : List (HloOp τ sig (Elt F)) // ∀ d : Dev nD, StableHlo.IsSeq (main (F := F) d) ops } := by
  apply Subtype.mk
  intro d
  hlo_seq

abbrev ops : List (HloOp τ sig (Elt F)) := line.1

variable (m : (ℓ : Loc nD τ sig) → Buf (Elt F) ℓ) (ρ : Dev nD → PrngReg)

/-- Every buffer when the reference ends. -/
def V (c : Dev nD) : Valuation τ sig (Elt F) := StableHlo.after (ops (F := F)) (fun b => m (c, b))

set_option maxHeartbeats 4000000 in
theorem run : θ_run defs (onTc (τ := τ) (main (F := F))) ⟨m, fun _ => 0, ρ⟩ fun r =>
    (∀ (c : Dev nD) (b : Ref sig .tc), r.2.mem ((c.tc : Thread nD τ).loc b) = V m c (Proc.devRef .tc b)) :=
  StableHlo.run_hlo defs main line.2 (by decide) (by decide) (by unfold line; simp)
      (by unfold line; intro _ h; (repeat (cases h with | head => rfl | tail _ h => ?_)); exact nomatch h) m ρ

end Cert.ReferenceIdeal.Hand
-- ==== Proof.RefHost.lean ====
/-
  Hand-written, untrusted. What the reference's operations leave in its buffers, and its frame.
-/
module

public import proofs.«01_k».proof.Proof.Ref

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

theorem V_arg0 (c : Dev nD) : V m c (Proc.devRef .tc main_arg0) = m ((c.tc : Thread nD τ).loc main_arg0) := by
  unfold V; after_reads_simp
theorem V_arg1 (c : Dev nD) : V m c (Proc.devRef .tc main_arg1) = m ((c.tc : Thread nD τ).loc main_arg1) := by
  unfold V; after_reads_simp

theorem v43_at (c : Dev nD) (j : S512x7.Idx) : (V m c (Proc.devRef .tc main_v43) : S512x7.Idx → Elt F .i32) j
    = IntOp.minsi 199#32 (IntOp.maxsi 0#32 ((V m c (Proc.devRef .tc main_v42) : S512x7.Idx → Elt F .i32) j)) := by
  unfold V
  after_reads_simp
  rfl

/-- The frame: the reference runs, its arguments stay, and it has no counter. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs (onTc (τ := τ) (main (F := F))) ⟨m, fun _ => 0, ρ⟩).mono (fun r hr =>
    ⟨fun c => ⟨(hr c _).trans (V_arg0 m c), (hr c _).trans (V_arg1 m c)⟩, sem_eq_zero_of_no_sems (by decide) r.2⟩) (run m ρ)

end Cert.ReferenceIdeal.Hand
-- ==== Proof.Arr.lean ====
/-
  Hand-written, untrusted. The output array after the region, element by element, and the blocks the body reads.
-/
module

public import proofs.«01_k».proof.Proof.Run
public import Idealize.ShloMosaic.Lib.Pipeline.ValueKit
public import Idealize.ShloMosaic.Lib.Pipeline.Covers

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ)

/-- The grid point of a box. -/
def pt (n : Fin 512) : Fin grid0.N := ⟨n.val, n.isLt⟩

/-- The four windows' block numbers at a point. -/
theorem t1_val : ∀ t : Fin grid0.N, cc0_transform_1 (grid0.coords t) = ![t.val, 0, 0] := by decide +kernel
theorem t2_val : ∀ t : Fin grid0.N, cc0_transform_2 (grid0.coords t) = ![0, 0] := by decide +kernel
theorem t3_val : ∀ t : Fin grid0.N, cc0_transform_3 (grid0.coords t) = ![0, 0] := by decide +kernel
theorem t4_val : ∀ t : Fin grid0.N, cc0_transform_4 (grid0.coords t) = ![t.val, 0, 0] := by decide +kernel

/-- Where an element of a window's block lies in the window's array. -/
theorem emb0 (t : Fin grid0.N) (y : (((cfgA m).win 0).xblock (grid0.coords t)).Idx) (a : Fin 3) :
    (((((cfgA m).win 0).blk t).view.emb y : S512x56x8.Idx) a).val = (![t.val, 0, 0] : Fin 3 → Nat) a * S1x56x8.size a + (y a).val := by
  rw [← t1_val t]; exact Window.rect_emb_val ((cfgA m).win 0) t y a
theorem emb1 (t : Fin grid0.N) (y : (((cfgA m).win 1).xblock (grid0.coords t)).Idx) (a : Fin 2) :
    (((((cfgA m).win 1).blk t).view.emb y : S1x1120.Idx) a).val = (![0, 0] : Fin 2 → Nat) a * S1x1120.size a + (y a).val := by
  rw [← t2_val t]; exact Window.rect_emb_val ((cfgA m).win 1) t y a
theorem emb2 (t : Fin grid0.N) (y : (((cfgA m).win 2).xblock (grid0.coords t)).Idx) (a : Fin 2) :
    (((((cfgA m).win 2).blk t).view.emb y : S1x1120.Idx) a).val = (![0, 0] : Fin 2 → Nat) a * S1x1120.size a + (y a).val := by
  rw [← t3_val t]; exact Window.rect_emb_val ((cfgA m).win 2) t y a
theorem emb3 (t : Fin grid0.N) (y : (((cfgA m).win 3).xblock (grid0.coords t)).Idx) (a : Fin 3) :
    (((((cfgA m).win 3).blk t).view.emb y : S512x49x256.Idx) a).val = (![t.val, 0, 0] : Fin 3 → Nat) a * S1x49x256.size a + (y a).val := by
  rw [← t4_val t]; exact Window.rect_emb_val ((cfgA m).win 3) t y a

/-- The weights' block at a point is the box's rows of the array. -/
theorem wq_at (c : Dev nD) (n : Fin 512) (r : Fin 56) (q : Fin 8) : wqBlk m c (pt n) (ix3 0 r q)
    = (V0 m c (Proc.devRef .tc main_v158) : S512x56x8.Idx → F .f32) (ix3 n r q) := by
  unfold wqBlk V
  blk_simp
  refine congrArg _ (funext fun a => Fin.ext ((emb0 m (pt n) (ix3 0 r q) a).trans ?_))
  fin_cases a
  · exact Nat.mul_one n.val
  · exact Nat.zero_add r.val
  · exact Nat.zero_add q.val
/-- The row numbers' block at a point is the array. -/
theorem sk_at (c : Dev nD) (t : Fin grid0.N) (k : Fin 1120) : skBlk m c t (ix2 0 k)
    = (V0 m c (Proc.devRef .tc main_v162) : S1x1120.Idx → F .f32) (ix2 0 k) := by
  unfold skBlk V
  blk_simp
  refine congrArg _ (funext fun a => Fin.ext ((emb1 m t (ix2 0 k) a).trans ?_))
  fin_cases a
  · rfl
  · exact Nat.zero_add k.val
/-- The column numbers' block at a point is the array. -/
theorem rk_at (c : Dev nD) (t : Fin grid0.N) (k : Fin 1120) : rkBlk m c t (ix2 0 k)
    = (V0 m c (Proc.devRef .tc main_v165) : S1x1120.Idx → F .f32) (ix2 0 k) := by
  unfold rkBlk V
  blk_simp
  refine congrArg _ (funext fun a => Fin.ext ((emb2 m t (ix2 0 k) a).trans ?_))
  fin_cases a
  · rfl
  · exact Nat.zero_add k.val

/-- What the output array holds after the region. -/
def outArr (c : Dev nD) (i : S512x49x256.Idx) : F .f32 :=
  outBlk (tabsOf m c) (i 0).val (wqBlk m c (pt (i 0))) (skBlk m c (pt (i 0))) (rkBlk m c (pt (i 0))) (ix3 0 (i 1) (i 2))

theorem outArr_eq (c : Dev nD) (t : Fin grid0.N) (y : S1x49x256.Idx) (i : S512x49x256.Idx) (h0 : (i 0).val = t.val) (h1 : (i 1).val = (y 1).val)
    (h2 : (i 2).val = (y 2).val) : outBlk (tabsOf m c) (nOf (grid0.coords t)) (wqBlk m c t) (skBlk m c t) (rkBlk m c t) y = outArr m c i := by
  have e : pt (i 0) = t := Fin.ext h0
  unfold outArr
  rw [coords_num, e, h0]
  refine congrArg _ (funext fun a => Fin.ext ?_)
  fin_cases a
  · exact Nat.lt_one_iff.1 (y 0).isLt
  · exact h1.symm
  · exact h2.symm

/-- The output's number of blocks on each axis. -/
theorem nblk0 : ((cfgA m).win 3).nblk (0 : Fin 3) = 512 := by show (512 + 1 - 1) / 1 = 512; rfl
theorem nblk1 : ((cfgA m).win 3).nblk (1 : Fin 3) = 1 := by show (49 + 49 - 1) / 49 = 1; rfl
theorem nblk2 : ((cfgA m).win 3).nblk (2 : Fin 3) = 1 := by show (256 + 256 - 1) / 256 = 1; rfl

/-- Every block of the output is written. -/
theorem covers3 : ((cfgA m).win 3).Covers := by
  refine ((cfgA m).win 3).covers_of_indexMap_surj rfl (fun (a : Fin 3) => ?_) fun β => ⟨grid0.coords ⟨(β (0 : Fin 3)).val, (β (0 : Fin 3)).isLt.trans_eq (nblk0 m)⟩, fun (a : Fin 3) => ?_⟩
  · revert a; show ∀ a : Fin 3, 0 < S1x49x256.size a; decide
  refine (congrFun (t4_val ⟨(β (0 : Fin 3)).val, (β (0 : Fin 3)).isLt.trans_eq (nblk0 m)⟩) a).trans ?_
  fin_cases a
  · rfl
  · exact (Nat.lt_one_iff.1 ((β (1 : Fin 3)).isLt.trans_eq (nblk1 m))).symm
  · exact (Nat.lt_one_iff.1 ((β (2 : Fin 3)).isLt.trans_eq (nblk2 m))).symm

/-- The output array after the region. -/
theorem arr_eq (c : Dev nD) : ((dats m 0 c).arrAt (3 : Fin 4) grid0.N : S512x49x256.Idx → F .f32) = outArr m c :=
  (dats m 0 c).arrAt_eq_of_covers (3 : Fin 4) (outArr m c) (covers3 m) fun t hf y => by
    blk_simp
    refine outArr_eq m c t y _ ((emb3 m t y 0).trans ?_) ((emb3 m t y 1).trans ?_) ((emb3 m t y 2).trans ?_)
    · have h : (y (0 : Fin 3)).val = 0 := Nat.lt_one_iff.1 (y (0 : Fin 3)).isLt
      rw [h]; exact Nat.mul_one t.val
    · exact Nat.zero_add _
    · exact Nat.zero_add _

/-- The output array's element: its box's block at its row and channel. -/
theorem arr_at (c : Dev nD) (n : Fin 512) (r : Fin 49) (ch : Fin 256) : ((dats m 0 c).arrAt (3 : Fin 4) grid0.N : S512x49x256.Idx → F .f32) (ix3 n r ch)
    = outBlk (tabsOf m c) n.val (wqBlk m c (pt n)) (skBlk m c (pt n)) (rkBlk m c (pt n)) (ix3 0 r ch) := by
  rw [arr_eq]; rfl

end Cert.KernelIdeal.Hand
-- ==== Proof.Pay.lean ====
/-
  Hand-written, untrusted. The body's block at an element, over the extended reals: a sum over the window's 14 rows of
  80 columns, and its weights.
-/
module

public import proofs.«01_k».proof.Proof.Body
public import Idealize.ShloMosaic.Lib.ValueIdx
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

/-- The weight of one window element in one result row. -/
def wgt (wq : S1x56x8.Idx → Ideal .f32) (s r : Ideal .f32) (i : Fin 56) : Ideal .f32 :=
  ((if s = wq (ix3 0 i 0) then wq (ix3 0 i 2) else 0) + (if s = wq (ix3 0 i 1) then wq (ix3 0 i 3) else 0))
    * ((if r = wq (ix3 0 i 4) then wq (ix3 0 i 6) else 0) + (if r = wq (ix3 0 i 5) then wq (ix3 0 i 7) else 0))

theorem pay2_at (wq : S1x56x8.Idx → Ideal .f32) (sk rk : S1x1120.Idx → Ideal .f32) (i : Fin 56) (k : Fin 1120) :
    k0_pay2 (F := Ideal) wq sk rk (ix2 i k) = wgt wq (sk (ix2 0 k)) (rk (ix2 0 k)) i := by
  unfold k0_pay2 wgt
  pointwise

theorem pay1_at (w : S56x1120.Idx → Ideal .f32) (s : S1x14x80x256.Idx → Ideal .f32) (r : Fin 49) (ch : Fin 256) :
    k0_pay1 (F := Ideal) w s (ix3 0 r ch) = ∑ k : Fin 1120, w (ix2 ⟨r.val, by omega⟩ k) * s (ix4 0 ⟨k.val / 80, by omega⟩ ⟨k.val % 80, by omega⟩ ch) := by
  unfold k0_pay1
  pointwise

end Cert.KernelIdeal.Hand
-- ==== Proof.Sum.lean ====
/-
  Hand-written, untrusted. A weighted sum over a window of rows and columns of which each factor of the weight is
  nonzero at two places only, over the extended reals.
-/
module

public import Idealize.ShloMosaic.Lib.ValueIdx
public import Mathlib.Data.EReal.Operations
public import Mathlib.Algebra.BigOperators.Fin
public import Mathlib.Algebra.BigOperators.Group.Finset.Piecewise

@[expose] public section

noncomputable section

namespace Cert.Sums

/-- A nonnegative sum of two distributes over an extended real. -/
theorem dist (a b x : EReal) (ha : 0 ≤ a) (hb : 0 ≤ b) : (a + b) * x = a * x + b * x := EReal.right_distrib_of_nonneg ha hb

/-- A value kept at one place of a row. -/
theorem at_place {n : ℕ} (A : Fin n) (f : Fin n → EReal) : ∑ a, (if a = A then f a else 0) = f A := by
  rw [Finset.sum_ite_eq' Finset.univ A f, if_pos (Finset.mem_univ _)]

/-- One row: a factor with its value at two places, which may be one. -/
theorem two_places {n : ℕ} (A B : Fin n) (p q : EReal) (hp : 0 ≤ p) (hq : 0 ≤ q) (f : Fin n → EReal) :
    ∑ a, ((if a = A then p else 0) + (if a = B then q else 0)) * f a = p * f A + q * f B := by
  have h : ∀ a, ((if a = A then p else 0) + (if a = B then q else 0)) * f a
      = (if a = A then p * f a else 0) + (if a = B then q * f a else 0) := fun a => by
    rw [dist _ _ _ (by split <;> simp_all) (by split <;> simp_all), ite_mul, ite_mul, zero_mul]
  rw [Finset.sum_congr rfl fun a _ => h a, Finset.sum_add_distrib, at_place A fun a => p * f a, at_place B fun a => q * f a]

/-- A nonnegative factor leaves a sum. -/
theorem mul_sum {n : ℕ} (p : ℝ) (hp : 0 ≤ p) (f : Fin n → EReal) : ∑ a, (p : EReal) * f a = (p : EReal) * ∑ a, f a := by
  induction n with
  | zero => simp
  | succ n ih =>
    rw [Fin.sum_univ_succ, Fin.sum_univ_succ, ih, EReal.left_distrib_of_nonneg_of_ne_top (EReal.coe_nonneg.2 hp) (EReal.coe_ne_top p)]

/-- Numbers below 1120 as fourteen rows of eighty. -/
def cell (k : Fin 1120) : Fin 14 × Fin 80 := (⟨k.val / 80, by omega⟩, ⟨k.val % 80, by omega⟩)

theorem sum_cells (f : Fin 14 → Fin 80 → EReal) : ∑ k : Fin 1120, f (cell k).1 (cell k).2 = ∑ a, ∑ b, f a b := by
  rw [← Fintype.sum_prod_type' f]
  refine Fintype.sum_bijective cell ?_ _ _ fun k => rfl
  constructor
  · intro x y h
    have h1 : x.val / 80 = y.val / 80 := congrArg (fun p => p.1.val) h
    have h2 : x.val % 80 = y.val % 80 := congrArg (fun p => p.2.val) h
    exact Fin.ext (by omega)
  · rintro ⟨a, b⟩
    refine ⟨⟨80 * a.val + b.val, by omega⟩, Prod.ext (Fin.ext ?_) (Fin.ext ?_)⟩
    · show (80 * a.val + b.val) / 80 = a.val
      omega
    · show (80 * a.val + b.val) % 80 = b.val
      omega

/-- THE COLLAPSE: the weight a product of two such factors, the sum is four products. -/
theorem four (A0 A1 : Fin 14) (B0 B1 : Fin 80) (p0 p1 q0 q1 : ℝ) (hp0 : 0 ≤ p0) (hp1 : 0 ≤ p1) (hq0 : 0 ≤ q0) (hq1 : 0 ≤ q1)
    (s : Fin 14 → Fin 80 → EReal) :
    ∑ k : Fin 1120, (((if (cell k).1 = A0 then (p0 : EReal) else 0) + (if (cell k).1 = A1 then (p1 : EReal) else 0))
        * ((if (cell k).2 = B0 then (q0 : EReal) else 0) + (if (cell k).2 = B1 then (q1 : EReal) else 0))) * s (cell k).1 (cell k).2
      = (p0 : EReal) * ((q0 : EReal) * s A0 B0 + (q1 : EReal) * s A0 B1) + (p1 : EReal) * ((q0 : EReal) * s A1 B0 + (q1 : EReal) * s A1 B1) := by
  rw [sum_cells fun a b => (((if a = A0 then (p0 : EReal) else 0) + (if a = A1 then (p1 : EReal) else 0))
        * ((if b = B0 then (q0 : EReal) else 0) + (if b = B1 then (q1 : EReal) else 0))) * s a b]
  have h : ∀ a : Fin 14, ∑ b : Fin 80, (((if a = A0 then (p0 : EReal) else 0) + (if a = A1 then (p1 : EReal) else 0))
        * ((if b = B0 then (q0 : EReal) else 0) + (if b = B1 then (q1 : EReal) else 0))) * s a b
      = ((if a = A0 then (p0 : EReal) else 0) + (if a = A1 then (p1 : EReal) else 0)) * ((q0 : EReal) * s a B0 + (q1 : EReal) * s a B1) := fun a => by
    have e : ((if a = A0 then (p0 : EReal) else 0) + (if a = A1 then (p1 : EReal) else 0))
        = (((if a = A0 then p0 else 0) + (if a = A1 then p1 else 0) : ℝ) : EReal) := by split_ifs <;> simp
    rw [e]
    simp only [mul_assoc]
    rw [mul_sum _ (add_nonneg (by split <;> simp_all) (by split <;> simp_all)),
      two_places B0 B1 _ _ (EReal.coe_nonneg.2 hq0) (EReal.coe_nonneg.2 hq1)]
  rw [Finset.sum_congr rfl fun a _ => h a]
  exact two_places A0 A1 _ _ (EReal.coe_nonneg.2 hp0) (EReal.coe_nonneg.2 hp1) _

end Cert.Sums
-- ==== Proof.Scal.lean ====
/-
  Hand-written, untrusted. One sample's position and weights as numbers: what both programs compute of a box's two
  coordinate words for one of the seven samples of an axis.
-/
module

public import Idealize.ShloMosaic.Lib.ValueIdx
public import Idealize.ShloMosaic.Lib.Pointwise

@[expose] public section

noncomputable section

namespace Cert.Scal

open Idealize.ShloMosaic

/-- A sample's position: the first coordinate and a sixth of the way to the second for each step. -/
def pos (p q : BitVec 32) (j : Fin 7) : Ideal .f32 :=
  FloatOps.sitofp (F := Ideal) .f32 p + Ideal.div (FloatOps.sitofp (F := Ideal) .f32 (BitVec.ofNat 32 j.val) * (FloatOps.sitofp (F := Ideal) .f32 q - FloatOps.sitofp (F := Ideal) .f32 p)) (Ideal.ofBits .f32 1086324736#32)
/-- The position's floor. -/
def flo (p q : BitVec 32) (j : Fin 7) : Ideal .f32 := FloatOps.floor (F := Ideal) (pos p q j)
/-- The position's fraction. -/
def frac (p q : BitVec 32) (j : Fin 7) : Ideal .f32 := pos p q j - flo p q j
/-- The grid line at or before the position, kept on the grid. -/
def lo (p q : BitVec 32) (j : Fin 7) : BitVec 32 := IntOp.minsi 199#32 (IntOp.maxsi 0#32 (FloatOps.fptosi (F := Ideal) 32 (flo p q j)))
/-- The next grid line, kept on the grid. -/
def hi (p q : BitVec 32) (j : Fin 7) : BitVec 32 := IntOp.minsi 199#32 (IntOp.maxsi 0#32 (IntOp.addi (lo p q j) 1#32))

end Cert.Scal
-- ==== Proof.Vals.lean ====
/-
  Hand-written, untrusted. What the kernel's host operations leave, element by element, over the extended reals.
-/
module

public import proofs.«01_k».proof.Proof.Frame
public import proofs.«01_k».proof.Proof.Scal

@[expose] public section

noncomputable section

namespace Cert.KernelIdeal.Hand

open Cert.KernelIdeal Cert.KernelIdeal.Gen Cert.Scal
open Idealize.ShloMosaic Idealize.ShloMosaic.TcCoe Idealize.ShloMosaic.Tactic

variable (m : (ℓ : Loc nD τ sig) → Buf (Elt Ideal) ℓ)

/-- The samples' vertical and horizontal fractions. -/
theorem v40_at (c : Dev nD) (n : Fin 512) (j : Fin 7) : (V0 m c (Proc.devRef .tc main_v40) : S512x7.Idx → Ideal .f32) (ix2 n j)
    = frac (boxes m c (ix2 n 2)) (boxes m c (ix2 n 4)) j := by
  unfold V0 frac flo pos boxes
  after_reads_simp
  pointwise
theorem v41_at (c : Dev nD) (n : Fin 512) (j : Fin 7) : (V0 m c (Proc.devRef .tc main_v41) : S512x7.Idx → Ideal .f32) (ix2 n j)
    = frac (boxes m c (ix2 n 1)) (boxes m c (ix2 n 3)) j := by
  unfold V0 frac flo pos boxes
  after_reads_simp
  pointwise
/-- The floors as words. -/
theorem v42_at (c : Dev nD) (n : Fin 512) (j : Fin 7) : (V0 m c (Proc.devRef .tc main_v42) : S512x7.Idx → Elt Ideal .i32) (ix2 n j)
    = FloatOps.fptosi (F := Ideal) (φ := .f32) 32 (flo (boxes m c (ix2 n 2)) (boxes m c (ix2 n 4)) j) := by
  unfold V0 flo pos boxes
  after_reads_simp
  pointwise
theorem v47_at (c : Dev nD) (n : Fin 512) (j : Fin 7) : (V0 m c (Proc.devRef .tc main_v47) : S512x7.Idx → Elt Ideal .i32) (ix2 n j)
    = FloatOps.fptosi (F := Ideal) (φ := .f32) 32 (flo (boxes m c (ix2 n 1)) (boxes m c (ix2 n 3)) j) := by
  unfold V0 flo pos boxes
  after_reads_simp
  pointwise
/-- The four clamps. -/
theorem v43_of {F : FTy → Type} [FloatOps F] (m : (ℓ : Loc nD τ sig) → Buf (Elt F) ℓ) (c : Dev nD) (j : S512x7.Idx) : (V0 m c (Proc.devRef .tc main_v43) : S512x7.Idx → Elt F .i32) j
    = IntOp.minsi 199#32 (IntOp.maxsi 0#32 ((V0 m c (Proc.devRef .tc main_v42) : S512x7.Idx → Elt F .i32) j)) := by
  unfold V0
  after_reads_simp
  simp only [StableHlo.TRef.ofBuf_toBuf]
  rfl
theorem v46_of {F : FTy → Type} [FloatOps F] (m : (ℓ : Loc nD τ sig) → Buf (Elt F) ℓ) (c : Dev nD) (j : S512x7.Idx) : (V0 m c (Proc.devRef .tc main_v46) : S512x7.Idx → Elt F .i32) j
    = IntOp.minsi 199#32 (IntOp.maxsi 0#32 ((V0 m c (Proc.devRef .tc main_v45) : S512x7.Idx → Elt F .i32) j)) := by
  unfold V0
  after_reads_simp
  simp only [StableHlo.TRef.ofBuf_toBuf]
  generalize addi _ _ = y
  rfl
theorem v48_of {F : FTy → Type} [FloatOps F] (m : (ℓ : Loc nD τ sig) → Buf (Elt F) ℓ) (c : Dev nD) (j : S512x7.Idx) : (V0 m c (Proc.devRef .tc main_v48) : S512x7.Idx → Elt F .i32) j
    = IntOp.minsi 199#32 (IntOp.maxsi 0#32 ((V0 m c (Proc.devRef .tc main_v47) : S512x7.Idx → Elt F .i32) j)) := by
  unfold V0
  after_reads_simp
  simp only [StableHlo.TRef.ofBuf_toBuf]
  rfl
theorem v51_of {F : FTy → Type} [FloatOps F] (m : (ℓ : Loc nD τ sig) → Buf (Elt F) ℓ) (c : Dev nD) (j : S512x7.Idx) : (V0 m c (Proc.devRef .tc main_v51) : S512x7.Idx → Elt F .i32) j
    = IntOp.minsi 199#32 (IntOp.maxsi 0#32 ((V0 m c (Proc.devRef .tc main_v50) : S512x7.Idx → Elt F .i32) j)) := by
  unfold V0
  after_reads_simp
  simp only [StableHlo.TRef.ofBuf_toBuf]
  generalize addi _ _ = y
  rfl
/-- The next lines. -/
theorem v45_of {F : FTy → Type} [FloatOps F] (m : (ℓ : Loc nD τ sig) → Buf (Elt F) ℓ) (c : Dev nD) (j : S512x7.Idx) : (V0 m c (Proc.devRef .tc main_v45) : S512x7.Idx → Elt F .i32) j
    = IntOp.addi ((V0 m c (Proc.devRef .tc main_v43) : S512x7.Idx → Elt F .i32) j) 1#32 := by
  unfold V0
  after_reads_simp
  rfl
theorem v50_of {F : FTy → Type} [FloatOps F] (m : (ℓ : Loc nD τ sig) → Buf (Elt F) ℓ) (c : Dev nD) (j : S512x7.Idx) : (V0 m c (Proc.devRef .tc main_v50) : S512x7.Idx → Elt F .i32) j
    = IntOp.addi ((V0 m c (Proc.devRef .tc main_v48) : S512x7.Idx → Elt F .i32) j) 1#32 := by
  unfold V0
  after_reads_simp
  rfl
/-- The grid lines of a sample. -/
theorem y0_at (c : Dev nD) (n : Fin 512) (j : Fin 7) : (V0 m c (Proc.devRef .tc main_v43) : S512x7.Idx → Elt Ideal .i32) (ix2 n j)
    = lo (boxes m c (ix2 n 2)) (boxes m c (ix2 n 4)) j := by
  rw [v43_of, v42_at]; rfl
theorem y1_at (c : Dev nD) (n : Fin 512) (j : Fin 7) : (V0 m c (Proc.devRef .tc main_v46) : S512x7.Idx → Elt Ideal .i32) (ix2 n j)
    = hi (boxes m c (ix2 n 2)) (boxes m c (ix2 n 4)) j := by
  rw [v46_of, v45_of, y0_at]; rfl
theorem x0_at (c : Dev nD) (n : Fin 512) (j : Fin 7) : (V0 m c (Proc.devRef .tc main_v48) : S512x7.Idx → Elt Ideal .i32) (ix2 n j)
    = lo (boxes m c (ix2 n 1)) (boxes m c (ix2 n 3)) j := by
  rw [v48_of, v47_at]; rfl
theorem x1_at (c : Dev nD) (n : Fin 512) (j : Fin 7) : (V0 m c (Proc.devRef .tc main_v51) : S512x7.Idx → Elt Ideal .i32) (ix2 n j)
    = hi (boxes m c (ix2 n 1)) (boxes m c (ix2 n 3)) j := by
  rw [v51_of, v50_of, x0_at]; rfl

end Cert.KernelIdeal.Hand
-- ==== Proof.Take.lean ====
/-
  Hand-written, untrusted. The two programs' gathers, element by element.
-/
module

public import proofs.«01_k».proof.Proof.Frame
public import proofs.«01_k».proof.Proof.Ref

@[expose] public section

noncomputable section

open Idealize.ShloMosaic Idealize.ShloMosaic.TcCoe Idealize.ShloMosaic.Tactic

namespace Cert.KernelIdeal.Hand

open Cert.KernelIdeal Cert.KernelIdeal.Gen

/-- The kernel's gather of samples. -/
abbrev gd := gather_S512x7_S49x1_S512x49_0_1_n_n_1_1_5121

/-- A gather of the seven samples along a list of 49. -/
theorem take7 {α : Type} (x : S512x7.Idx → α) (ix : IVec S49x1 32) (n : Fin 512) (r : Fin 49) (k : Fin 7) (h : (ix (ix2 r 0)).toInt = k.val) :
    Host.gather gd x ix (ix2 n r) = x (ix2 n k) := by
  unfold Host.gather
  refine congrArg x (funext fun a => Fin.ext ?_)
  show GatherDims.start gd (ix2 n r) ix a + GatherDims.batchCoord gd (ix2 n r) a + GatherDims.offCoord gd (ix2 n r) a = _
  rw [GatherDims.batchCoord_eq_zero gd _ _ (List.not_mem_nil)]
  have h01 : a = (0 : Fin 2) ∨ a = (1 : Fin 2) := by fin_cases a <;> simp
  rcases h01 with rfl | rfl
  · unfold GatherDims.start GatherDims.offCoord
    rw [dif_neg (by decide), dif_pos (by decide)]
    show 0 + 0 + n.val = n.val
    omega
  · unfold GatherDims.start GatherDims.offCoord
    rw [dif_pos (by decide), dif_neg (by decide)]
    have e : GatherDims.siIdx gd (ix2 n r) ⟨List.idxOf (1 : Fin 2) (GatherDims.startIndexMap gd), by decide⟩ = ix2 r 0 := by
      funext b; refine Fin.ext ?_
      fin_cases b <;> rfl
    rw [e, h]
    show min k.val 6 + 0 + 0 = k.val
    omega

end Cert.KernelIdeal.Hand

namespace Cert.ReferenceIdeal.Hand

open Cert.ReferenceIdeal Cert.ReferenceIdeal.Gen

/-- The reference's gather of image elements. -/
abbrev gr := gather_S4x256x200x200_S512x7x7x3_S512x7x7x256_3_023_n_n_023_3_125611

/-- A gather of all channels at one image, row and column for each sample. -/
theorem take3 {α : Type} (x : S4x256x200x200.Idx → α) (ix : IVec S512x7x7x3 32) (n : Fin 512) (i j : Fin 7) (ch : Fin 256)
    (b : Fin 4) (y z : Fin 200) (hb : (ix (ix4 n i j 0)).toInt = b.val) (hy : (ix (ix4 n i j 1)).toInt = y.val) (hz : (ix (ix4 n i j 2)).toInt = z.val) :
    Host.gather gr x ix (ix4 n i j ch) = x (ix4 b ch y z) := by
  unfold Host.gather
  refine congrArg x (funext fun a => Fin.ext ?_)
  show GatherDims.start gr (ix4 n i j ch) ix a + GatherDims.batchCoord gr (ix4 n i j ch) a + GatherDims.offCoord gr (ix4 n i j ch) a = _
  rw [GatherDims.batchCoord_eq_zero gr _ _ (List.not_mem_nil)]
  have ha : a = (0 : Fin 4) ∨ a = (1 : Fin 4) ∨ a = (2 : Fin 4) ∨ a = (3 : Fin 4) := by fin_cases a <;> simp
  rcases ha with rfl | rfl | rfl | rfl
  · unfold GatherDims.start GatherDims.offCoord
    rw [dif_pos (by decide), dif_neg (by decide)]
    have e : GatherDims.siIdx gr (ix4 n i j ch) ⟨List.idxOf (0 : Fin 4) (GatherDims.startIndexMap gr), by decide⟩ = ix4 n i j 0 := by
      funext b; refine Fin.ext ?_
      fin_cases b <;> rfl
    rw [e, hb]
    show min b.val 3 + 0 + 0 = b.val
    omega
  · unfold GatherDims.start GatherDims.offCoord
    rw [dif_neg (by decide), dif_pos (by decide)]
    show 0 + 0 + ch.val = ch.val
    omega
  · unfold GatherDims.start GatherDims.offCoord
    rw [dif_pos (by decide), dif_neg (by decide)]
    have e : GatherDims.siIdx gr (ix4 n i j ch) ⟨List.idxOf (2 : Fin 4) (GatherDims.startIndexMap gr), by decide⟩ = ix4 n i j 1 := by
      funext b; refine Fin.ext ?_
      fin_cases b <;> rfl
    rw [e, hy]
    show min y.val 199 + 0 + 0 = y.val
    omega
  · unfold GatherDims.start GatherDims.offCoord
    rw [dif_pos (by decide), dif_neg (by decide)]
    have e : GatherDims.siIdx gr (ix4 n i j ch) ⟨List.idxOf (3 : Fin 4) (GatherDims.startIndexMap gr), by decide⟩ = ix4 n i j 2 := by
      funext b; refine Fin.ext ?_
      fin_cases b <;> rfl
    rw [e, hz]
    show min z.val 199 + 0 + 0 = z.val
    omega

end Cert.ReferenceIdeal.Hand
-- ==== Proof.Vals2.lean ====
/-
  Hand-written, untrusted. What the kernel's host operations leave in the weights' array and the number arrays.
-/
module

public import proofs.«01_k».proof.Proof.Vals
public import proofs.«01_k».proof.Proof.Take

@[expose] public section

noncomputable section

namespace Cert.KernelIdeal.Hand

open Cert.KernelIdeal Cert.KernelIdeal.Gen Cert.Scal
open Idealize.ShloMosaic Idealize.ShloMosaic.TcCoe Idealize.ShloMosaic.Tactic

/-- How far a sample's grid lines are below the first row of its window. -/
theorem v55_of {F : FTy → Type} [FloatOps F] (m : (ℓ : Loc nD τ sig) → Buf (Elt F) ℓ) (c : Dev nD) (j : S512x7.Idx) : (V0 m c (Proc.devRef .tc main_v55) : S512x7.Idx → F .f32) j
    = FloatOps.sitofp .f32 (IntOp.subi ((V0 m c (Proc.devRef .tc main_v43) : S512x7.Idx → Elt F .i32) j) ((V0 m c (Proc.devRef .tc main_v53) : S512x7.Idx → Elt F .i32) j)) := by
  unfold V0
  after_reads_simp
  rfl
theorem v57_of {F : FTy → Type} [FloatOps F] (m : (ℓ : Loc nD τ sig) → Buf (Elt F) ℓ) (c : Dev nD) (j : S512x7.Idx) : (V0 m c (Proc.devRef .tc main_v57) : S512x7.Idx → F .f32) j
    = FloatOps.sitofp .f32 (IntOp.subi ((V0 m c (Proc.devRef .tc main_v46) : S512x7.Idx → Elt F .i32) j) ((V0 m c (Proc.devRef .tc main_v53) : S512x7.Idx → Elt F .i32) j)) := by
  unfold V0
  after_reads_simp
  rfl
/-- The two rows' weights. -/
theorem v68_of {F : FTy → Type} [FloatOps F] (m : (ℓ : Loc nD τ sig) → Buf (Elt F) ℓ) (c : Dev nD) (j : S512x7.Idx) : (V0 m c (Proc.devRef .tc main_v68) : S512x7.Idx → F .f32) j
    = FloatOps.addf (FloatOps.mulf (FloatOps.subf (FloatOps.ofBits .f32 0x3f800000#32) ((V0 m c (Proc.devRef .tc main_v40) : S512x7.Idx → F .f32) j)) (FloatOps.uitofp .f32 (FloatOps.cmpf .oeq ((V0 m c (Proc.devRef .tc main_v55) : S512x7.Idx → F .f32) j) (FloatOps.ofBits .f32 0x00000000#32))))
      (FloatOps.mulf ((V0 m c (Proc.devRef .tc main_v40) : S512x7.Idx → F .f32) j) (FloatOps.uitofp .f32 (FloatOps.cmpf .oeq ((V0 m c (Proc.devRef .tc main_v57) : S512x7.Idx → F .f32) j) (FloatOps.ofBits .f32 0x00000000#32)))) := by
  unfold V0
  after_reads_simp
  rfl
theorem v79_of {F : FTy → Type} [FloatOps F] (m : (ℓ : Loc nD τ sig) → Buf (Elt F) ℓ) (c : Dev nD) (j : S512x7.Idx) : (V0 m c (Proc.devRef .tc main_v79) : S512x7.Idx → F .f32) j
    = FloatOps.addf (FloatOps.mulf (FloatOps.subf (FloatOps.ofBits .f32 0x3f800000#32) ((V0 m c (Proc.devRef .tc main_v40) : S512x7.Idx → F .f32) j)) (FloatOps.uitofp .f32 (FloatOps.cmpf .oeq ((V0 m c (Proc.devRef .tc main_v55) : S512x7.Idx → F .f32) j) (FloatOps.ofBits .f32 0x3f800000#32))))
      (FloatOps.mulf ((V0 m c (Proc.devRef .tc main_v40) : S512x7.Idx → F .f32) j) (FloatOps.uitofp .f32 (FloatOps.cmpf .oeq ((V0 m c (Proc.devRef .tc main_v57) : S512x7.Idx → F .f32) j) (FloatOps.ofBits .f32 0x3f800000#32)))) := by
  unfold V0
  after_reads_simp
  rfl
/-- The first column's weight. -/
theorem v96_of {F : FTy → Type} [FloatOps F] (m : (ℓ : Loc nD τ sig) → Buf (Elt F) ℓ) (c : Dev nD) (j : S512x7.Idx) : (V0 m c (Proc.devRef .tc main_v96) : S512x7.Idx → F .f32) j
    = FloatOps.subf (FloatOps.ofBits .f32 0x3f800000#32) ((V0 m c (Proc.devRef .tc main_v41) : S512x7.Idx → F .f32) j) := by
  unfold V0
  after_reads_simp
  rfl
/-- How far a sample's grid lines are right of the window's first column. -/
theorem v90_of {F : FTy → Type} [FloatOps F] (m : (ℓ : Loc nD τ sig) → Buf (Elt F) ℓ) (c : Dev nD) (n : Fin 512) (j : Fin 7) : (V0 m c (Proc.devRef .tc main_v90) : S512x7.Idx → F .f32) (ix2 n j)
    = FloatOps.sitofp .f32 (IntOp.subi ((V0 m c (Proc.devRef .tc main_v48) : S512x7.Idx → Elt F .i32) (ix2 n j)) ((V0 m c (Proc.devRef .tc main_v86) : S512.Idx → Elt F .i32) (ix1 n))) := by
  unfold V0
  after_reads_simp
  rfl
theorem v94_of {F : FTy → Type} [FloatOps F] (m : (ℓ : Loc nD τ sig) → Buf (Elt F) ℓ) (c : Dev nD) (n : Fin 512) (j : Fin 7) : (V0 m c (Proc.devRef .tc main_v94) : S512x7.Idx → F .f32) (ix2 n j)
    = FloatOps.sitofp .f32 (IntOp.subi ((V0 m c (Proc.devRef .tc main_v51) : S512x7.Idx → Elt F .i32) (ix2 n j)) ((V0 m c (Proc.devRef .tc main_v86) : S512.Idx → Elt F .i32) (ix1 n))) := by
  unfold V0
  after_reads_simp
  rfl
/-- The sign of a word. -/
def sgn (x : BitVec 32) : BitVec 32 := if x = 0 then 0 else if x.msb then -1 else 1
/-- A quotient rounded down, and its remainder, as the host computes them. -/
def fdiv (x d : BitVec 32) : BitVec 32 :=
  Scalar.select (IntOp.andi (IntOp.cmpi .ne (sgn x) (sgn d)) (IntOp.cmpi .ne (IntOp.remsi ArithUnit.host x d) 0#32))
    (IntOp.subi (IntOp.divsi ArithUnit.host x d) 1#32) (IntOp.divsi ArithUnit.host x d)
def fmod (x d : BitVec 32) : BitVec 32 :=
  Scalar.select (IntOp.andi (IntOp.cmpi .ne (IntOp.cmpi .slt (IntOp.remsi ArithUnit.host x (Scalar.select (IntOp.cmpi .eq d 0#32) 1#32 d)) 0#32)
      (IntOp.cmpi .slt (Scalar.select (IntOp.cmpi .eq d 0#32) 1#32 d) 0#32))
      (IntOp.cmpi .ne (IntOp.remsi ArithUnit.host x (Scalar.select (IntOp.cmpi .eq d 0#32) 1#32 d)) 0#32))
    (IntOp.addi (IntOp.remsi ArithUnit.host x (Scalar.select (IntOp.cmpi .eq d 0#32) 1#32 d)) (Scalar.select (IntOp.cmpi .eq d 0#32) 1#32 d))
    (IntOp.remsi ArithUnit.host x (Scalar.select (IntOp.cmpi .eq d 0#32) 1#32 d))
theorem fdiv7 : ∀ r : Fin 49, fdiv (BitVec.ofNat 32 r.val) 7#32 = BitVec.ofNat 32 (r.val / 7) := by decide +kernel
theorem fmod7 : ∀ r : Fin 49, fmod (BitVec.ofNat 32 r.val) 7#32 = BitVec.ofNat 32 (r.val % 7) := by decide +kernel
theorem fdiv80 : ∀ k : Fin 1120, fdiv (BitVec.ofNat 32 k.val) 80#32 = BitVec.ofNat 32 (k.val / 80) := by decide +kernel
theorem fmod80 : ∀ k : Fin 1120, fmod (BitVec.ofNat 32 k.val) 80#32 = BitVec.ofNat 32 (k.val % 80) := by decide +kernel
/-- The row and column of a result row, and of a window element. -/
theorem v98_at {F : FTy → Type} [FloatOps F] (m : (ℓ : Loc nD τ sig) → Buf (Elt F) ℓ) (c : Dev nD) (r : Fin 49) : (V0 m c (Proc.devRef .tc main_v98) : S49.Idx → Elt F .i32) (ix1 r)
    = BitVec.ofNat 32 (r.val / 7) := by
  rw [← fdiv7]
  unfold V0
  after_reads_simp
  simp only [StableHlo.TRef.ofBuf_toBuf]
  rfl
theorem v99_at {F : FTy → Type} [FloatOps F] (m : (ℓ : Loc nD τ sig) → Buf (Elt F) ℓ) (c : Dev nD) (r : Fin 49) : (V0 m c (Proc.devRef .tc main_v99) : S49.Idx → Elt F .i32) (ix1 r)
    = BitVec.ofNat 32 (r.val % 7) := by
  rw [← fmod7]
  unfold V0
  after_reads_simp
  simp only [StableHlo.TRef.ofBuf_toBuf]
  rfl
theorem v160_at {F : FTy → Type} [FloatOps F] (m : (ℓ : Loc nD τ sig) → Buf (Elt F) ℓ) (c : Dev nD) (k : Fin 1120) : (V0 m c (Proc.devRef .tc main_v160) : S1120.Idx → Elt F .i32) (ix1 k)
    = BitVec.ofNat 32 (k.val / 80) := by
  rw [← fdiv80]
  unfold V0
  after_reads_simp
  simp only [StableHlo.TRef.ofBuf_toBuf]
  rfl
theorem v163_at {F : FTy → Type} [FloatOps F] (m : (ℓ : Loc nD τ sig) → Buf (Elt F) ℓ) (c : Dev nD) (k : Fin 1120) : (V0 m c (Proc.devRef .tc main_v163) : S1120.Idx → Elt F .i32) (ix1 k)
    = BitVec.ofNat 32 (k.val % 80) := by
  rw [← fmod80]
  unfold V0
  after_reads_simp
  simp only [StableHlo.TRef.ofBuf_toBuf]
  rfl
theorem v162_at {F : FTy → Type} [FloatOps F] (m : (ℓ : Loc nD τ sig) → Buf (Elt F) ℓ) (c : Dev nD) (k : Fin 1120) : (V0 m c (Proc.devRef .tc main_v162) : S1x1120.Idx → F .f32) (ix2 0 k)
    = FloatOps.sitofp .f32 (BitVec.ofNat 32 (k.val / 80)) := by
  rw [← v160_at m c]
  unfold V0
  after_reads_simp
  rfl
theorem v165_at {F : FTy → Type} [FloatOps F] (m : (ℓ : Loc nD τ sig) → Buf (Elt F) ℓ) (c : Dev nD) (k : Fin 1120) : (V0 m c (Proc.devRef .tc main_v165) : S1x1120.Idx → F .f32) (ix2 0 k)
    = FloatOps.sitofp .f32 (BitVec.ofNat 32 (k.val % 80)) := by
  rw [← v163_at m c]
  unfold V0
  after_reads_simp
  rfl
/-- The image, channels last. -/
theorem v166_at {F : FTy → Type} [FloatOps F] (m : (ℓ : Loc nD τ sig) → Buf (Elt F) ℓ) (c : Dev nD) (b : Fin 4) (y x : Fin 200) (ch : Fin 256) : (V0 m c (Proc.devRef .tc main_v166) : S4x200x200x256.Idx → F .f32) (ix4 b y x ch)
    = (V0 m c (Proc.devRef .tc main_arg0) : S4x256x200x200.Idx → F .f32) (ix4 b ch y x) := by
  unfold V0
  after_reads_simp
  pointwise
/-- The list a gather takes. -/
theorem v111_of {F : FTy → Type} [FloatOps F] (m : (ℓ : Loc nD τ sig) → Buf (Elt F) ℓ) (c : Dev nD) (r : Fin 49) : (V0 m c (Proc.devRef .tc main_v111) : S49x1.Idx → Elt F .i32) (ix2 r 0)
    = Scalar.select (IntOp.cmpi .slt ((V0 m c (Proc.devRef .tc main_v98) : S49.Idx → Elt F .i32) (ix1 r)) 0#32) (IntOp.addi ((V0 m c (Proc.devRef .tc main_v98) : S49.Idx → Elt F .i32) (ix1 r)) 7#32) ((V0 m c (Proc.devRef .tc main_v98) : S49.Idx → Elt F .i32) (ix1 r)) := by
  unfold V0
  after_reads_simp
  rfl
theorem v118_of {F : FTy → Type} [FloatOps F] (m : (ℓ : Loc nD τ sig) → Buf (Elt F) ℓ) (c : Dev nD) (r : Fin 49) : (V0 m c (Proc.devRef .tc main_v118) : S49x1.Idx → Elt F .i32) (ix2 r 0)
    = Scalar.select (IntOp.cmpi .slt ((V0 m c (Proc.devRef .tc main_v98) : S49.Idx → Elt F .i32) (ix1 r)) 0#32) (IntOp.addi ((V0 m c (Proc.devRef .tc main_v98) : S49.Idx → Elt F .i32) (ix1 r)) 7#32) ((V0 m c (Proc.devRef .tc main_v98) : S49.Idx → Elt F .i32) (ix1 r)) := by
  unfold V0
  after_reads_simp
  rfl
theorem v125_of {F : FTy → Type} [FloatOps F] (m : (ℓ : Loc nD τ sig) → Buf (Elt F) ℓ) (c : Dev nD) (r : Fin 49) : (V0 m c (Proc.devRef .tc main_v125) : S49x1.Idx → Elt F .i32) (ix2 r 0)
    = Scalar.select (IntOp.cmpi .slt ((V0 m c (Proc.devRef .tc main_v99) : S49.Idx → Elt F .i32) (ix1 r)) 0#32) (IntOp.addi ((V0 m c (Proc.devRef .tc main_v99) : S49.Idx → Elt F .i32) (ix1 r)) 7#32) ((V0 m c (Proc.devRef .tc main_v99) : S49.Idx → Elt F .i32) (ix1 r)) := by
  unfold V0
  after_reads_simp
  rfl
theorem v132_of {F : FTy → Type} [FloatOps F] (m : (ℓ : Loc nD τ sig) → Buf (Elt F) ℓ) (c : Dev nD) (r : Fin 49) : (V0 m c (Proc.devRef .tc main_v132) : S49x1.Idx → Elt F .i32) (ix2 r 0)
    = Scalar.select (IntOp.cmpi .slt ((V0 m c (Proc.devRef .tc main_v99) : S49.Idx → Elt F .i32) (ix1 r)) 0#32) (IntOp.addi ((V0 m c (Proc.devRef .tc main_v99) : S49.Idx → Elt F .i32) (ix1 r)) 7#32) ((V0 m c (Proc.devRef .tc main_v99) : S49.Idx → Elt F .i32) (ix1 r)) := by
  unfold V0
  after_reads_simp
  rfl
theorem v139_of {F : FTy → Type} [FloatOps F] (m : (ℓ : Loc nD τ sig) → Buf (Elt F) ℓ) (c : Dev nD) (r : Fin 49) : (V0 m c (Proc.devRef .tc main_v139) : S49x1.Idx → Elt F .i32) (ix2 r 0)
    = Scalar.select (IntOp.cmpi .slt ((V0 m c (Proc.devRef .tc main_v99) : S49.Idx → Elt F .i32) (ix1 r)) 0#32) (IntOp.addi ((V0 m c (Proc.devRef .tc main_v99) : S49.Idx → Elt F .i32) (ix1 r)) 7#32) ((V0 m c (Proc.devRef .tc main_v99) : S49.Idx → Elt F .i32) (ix1 r)) := by
  unfold V0
  after_reads_simp
  rfl
theorem v146_of {F : FTy → Type} [FloatOps F] (m : (ℓ : Loc nD τ sig) → Buf (Elt F) ℓ) (c : Dev nD) (r : Fin 49) : (V0 m c (Proc.devRef .tc main_v146) : S49x1.Idx → Elt F .i32) (ix2 r 0)
    = Scalar.select (IntOp.cmpi .slt ((V0 m c (Proc.devRef .tc main_v99) : S49.Idx → Elt F .i32) (ix1 r)) 0#32) (IntOp.addi ((V0 m c (Proc.devRef .tc main_v99) : S49.Idx → Elt F .i32) (ix1 r)) 7#32) ((V0 m c (Proc.devRef .tc main_v99) : S49.Idx → Elt F .i32) (ix1 r)) := by
  unfold V0
  after_reads_simp
  rfl
/-- A sample number is not negative. -/
theorem wrap7 : ∀ k : Fin 7, (Scalar.select (IntOp.cmpi .slt (BitVec.ofNat 32 k.val) 0#32) (IntOp.addi (BitVec.ofNat 32 k.val) 7#32) (BitVec.ofNat 32 k.val)).toInt = k.val := by decide
/-- A result row's two sample numbers. -/
def rowOf (r : Fin 49) : Fin 7 := ⟨r.val / 7, by omega⟩
def colOf (r : Fin 49) : Fin 7 := ⟨r.val % 7, by omega⟩
theorem v112_eq {F : FTy → Type} [FloatOps F] (m : (ℓ : Loc nD τ sig) → Buf (Elt F) ℓ) (c : Dev nD)  : (V0 m c (Proc.devRef .tc main_v112) : S512x49.Idx → F .f32)
    = Host.gather gd (V0 m c (Proc.devRef .tc main_v68) : S512x7.Idx → F .f32) (V0 m c (Proc.devRef .tc main_v111) : S49x1.Idx → Elt F .i32) := by
  unfold V0
  after_reads_simp
/-- The six gathers. -/
theorem v112_at {F : FTy → Type} [FloatOps F] (m : (ℓ : Loc nD τ sig) → Buf (Elt F) ℓ) (c : Dev nD) (n : Fin 512) (r : Fin 49) : (V0 m c (Proc.devRef .tc main_v112) : S512x49.Idx → F .f32) (ix2 n r)
    = (V0 m c (Proc.devRef .tc main_v68) : S512x7.Idx → F .f32) (ix2 n (rowOf r)) := by
  rw [v112_eq]
  exact take7 _ _ n r (rowOf r) (by rw [v111_of, v98_at]; exact wrap7 (rowOf r))
theorem v119_eq {F : FTy → Type} [FloatOps F] (m : (ℓ : Loc nD τ sig) → Buf (Elt F) ℓ) (c : Dev nD)  : (V0 m c (Proc.devRef .tc main_v119) : S512x49.Idx → F .f32)
    = Host.gather gd (V0 m c (Proc.devRef .tc main_v79) : S512x7.Idx → F .f32) (V0 m c (Proc.devRef .tc main_v118) : S49x1.Idx → Elt F .i32) := by
  unfold V0
  after_reads_simp
theorem v119_at {F : FTy → Type} [FloatOps F] (m : (ℓ : Loc nD τ sig) → Buf (Elt F) ℓ) (c : Dev nD) (n : Fin 512) (r : Fin 49) : (V0 m c (Proc.devRef .tc main_v119) : S512x49.Idx → F .f32) (ix2 n r)
    = (V0 m c (Proc.devRef .tc main_v79) : S512x7.Idx → F .f32) (ix2 n (rowOf r)) := by
  rw [v119_eq]
  exact take7 _ _ n r (rowOf r) (by rw [v118_of, v98_at]; exact wrap7 (rowOf r))
theorem v126_eq {F : FTy → Type} [FloatOps F] (m : (ℓ : Loc nD τ sig) → Buf (Elt F) ℓ) (c : Dev nD)  : (V0 m c (Proc.devRef .tc main_v126) : S512x49.Idx → F .f32)
    = Host.gather gd (V0 m c (Proc.devRef .tc main_v90) : S512x7.Idx → F .f32) (V0 m c (Proc.devRef .tc main_v125) : S49x1.Idx → Elt F .i32) := by
  unfold V0
  after_reads_simp
theorem v126_at {F : FTy → Type} [FloatOps F] (m : (ℓ : Loc nD τ sig) → Buf (Elt F) ℓ) (c : Dev nD) (n : Fin 512) (r : Fin 49) : (V0 m c (Proc.devRef .tc main_v126) : S512x49.Idx → F .f32) (ix2 n r)
    = (V0 m c (Proc.devRef .tc main_v90) : S512x7.Idx → F .f32) (ix2 n (colOf r)) := by
  rw [v126_eq]
  exact take7 _ _ n r (colOf r) (by rw [v125_of, v99_at]; exact wrap7 (colOf r))
theorem v133_eq {F : FTy → Type} [FloatOps F] (m : (ℓ : Loc nD τ sig) → Buf (Elt F) ℓ) (c : Dev nD)  : (V0 m c (Proc.devRef .tc main_v133) : S512x49.Idx → F .f32)
    = Host.gather gd (V0 m c (Proc.devRef .tc main_v94) : S512x7.Idx → F .f32) (V0 m c (Proc.devRef .tc main_v132) : S49x1.Idx → Elt F .i32) := by
  unfold V0
  after_reads_simp
theorem v133_at {F : FTy → Type} [FloatOps F] (m : (ℓ : Loc nD τ sig) → Buf (Elt F) ℓ) (c : Dev nD) (n : Fin 512) (r : Fin 49) : (V0 m c (Proc.devRef .tc main_v133) : S512x49.Idx → F .f32) (ix2 n r)
    = (V0 m c (Proc.devRef .tc main_v94) : S512x7.Idx → F .f32) (ix2 n (colOf r)) := by
  rw [v133_eq]
  exact take7 _ _ n r (colOf r) (by rw [v132_of, v99_at]; exact wrap7 (colOf r))
theorem v140_eq {F : FTy → Type} [FloatOps F] (m : (ℓ : Loc nD τ sig) → Buf (Elt F) ℓ) (c : Dev nD)  : (V0 m c (Proc.devRef .tc main_v140) : S512x49.Idx → F .f32)
    = Host.gather gd (V0 m c (Proc.devRef .tc main_v96) : S512x7.Idx → F .f32) (V0 m c (Proc.devRef .tc main_v139) : S49x1.Idx → Elt F .i32) := by
  unfold V0
  after_reads_simp
theorem v140_at {F : FTy → Type} [FloatOps F] (m : (ℓ : Loc nD τ sig) → Buf (Elt F) ℓ) (c : Dev nD) (n : Fin 512) (r : Fin 49) : (V0 m c (Proc.devRef .tc main_v140) : S512x49.Idx → F .f32) (ix2 n r)
    = (V0 m c (Proc.devRef .tc main_v96) : S512x7.Idx → F .f32) (ix2 n (colOf r)) := by
  rw [v140_eq]
  exact take7 _ _ n r (colOf r) (by rw [v139_of, v99_at]; exact wrap7 (colOf r))
theorem v147_eq {F : FTy → Type} [FloatOps F] (m : (ℓ : Loc nD τ sig) → Buf (Elt F) ℓ) (c : Dev nD)  : (V0 m c (Proc.devRef .tc main_v147) : S512x49.Idx → F .f32)
    = Host.gather gd (V0 m c (Proc.devRef .tc main_v41) : S512x7.Idx → F .f32) (V0 m c (Proc.devRef .tc main_v146) : S49x1.Idx → Elt F .i32) := by
  unfold V0
  after_reads_simp
theorem v147_at {F : FTy → Type} [FloatOps F] (m : (ℓ : Loc nD τ sig) → Buf (Elt F) ℓ) (c : Dev nD) (n : Fin 512) (r : Fin 49) : (V0 m c (Proc.devRef .tc main_v147) : S512x49.Idx → F .f32) (ix2 n r)
    = (V0 m c (Proc.devRef .tc main_v41) : S512x7.Idx → F .f32) (ix2 n (colOf r)) := by
  rw [v147_eq]
  exact take7 _ _ n r (colOf r) (by rw [v146_of, v99_at]; exact wrap7 (colOf r))
/-- The two row numbers of a result row. -/
theorem v103_at {F : FTy → Type} [FloatOps F] (m : (ℓ : Loc nD τ sig) → Buf (Elt F) ℓ) (c : Dev nD) (n : Fin 512) (r : Fin 49) : (V0 m c (Proc.devRef .tc main_v103) : S512x49.Idx → F .f32) (ix2 n r)
    = FloatOps.sitofp .f32 (IntOp.muli 2#32 (BitVec.ofNat 32 (r.val / 7))) := by
  rw [← v98_at m c]
  unfold V0
  after_reads_simp
  rfl
theorem v105_at {F : FTy → Type} [FloatOps F] (m : (ℓ : Loc nD τ sig) → Buf (Elt F) ℓ) (c : Dev nD) (n : Fin 512) (r : Fin 49) : (V0 m c (Proc.devRef .tc main_v105) : S512x49.Idx → F .f32) (ix2 n r)
    = FloatOps.addf (FloatOps.sitofp .f32 (IntOp.muli 2#32 (BitVec.ofNat 32 (r.val / 7)))) (FloatOps.ofBits .f32 0x3f800000#32) := by
  rw [← v103_at m c n r]
  unfold V0
  after_reads_simp
  rfl

end Cert.KernelIdeal.Hand
-- ==== Proof.Vals3.lean ====
/-
  Hand-written, untrusted. What the kernel's host operations leave in the weights' array, column by column.
-/
module

public import proofs.«01_k».proof.Proof.Vals2

@[expose] public section

noncomputable section

namespace Cert.KernelIdeal.Hand

open Cert.KernelIdeal Cert.KernelIdeal.Gen Cert.Scal
open Idealize.ShloMosaic Idealize.ShloMosaic.TcCoe Idealize.ShloMosaic.Tactic

/-- The last host operations before the region, from the `k`-th of their fifteenth stretch on, and those before them. -/
abbrev tailOps {F : FTy → Type} [FloatOps F] (k : ℕ) : List (List (HloOp τ sig (Elt F))) :=
  [(hostOps0_14 (F := F)).drop k, hostOps0_15, hostOps0_16, hostOps0_17, hostOps0_18]
abbrev headOps {F : FTy → Type} [FloatOps F] (k : ℕ) : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, (hostOps0_14 (F := F)).take k]
/-- A list of operations in two parts. -/
theorem after_app {Val : EltTy → Type} [∀ e, Nonempty (Val e)] (l₁ l₂ : List (HloOp τ sig Val)) (W : Valuation τ sig Val) :
    StableHlo.after (l₁ ++ l₂) W = StableHlo.after l₂ (StableHlo.after l₁ W) := by
  induction l₁ generalizing W with
  | nil => rfl
  | cons a l ih => exact ih _
/-- The buffers are what the last operations leave of some earlier contents. -/
theorem V0_tail {F : FTy → Type} [FloatOps F] (m : (ℓ : Loc nD τ sig) → Buf (Elt F) ℓ) (c : Dev nD) (k : ℕ)
    (h : (lines (F := F)).flatten = (headOps k).flatten ++ (tailOps k).flatten) :
    ∃ W, V0 m c = StableHlo.after (tailOps (F := F) k).flatten W := by
  unfold V0; rw [h]; exact ⟨_, after_app _ _ _⟩
/-- A table set up as one column. -/
theorem col_at {α : Type} (x : S512x49.Idx → α) (n : Fin 512) (r : Fin 49) :
    broadcastInDim S512x49x1 ![0, 1] bcast_S512x49_S512x49x1_0_1 x (ix3 n r 0) = x (ix2 n r) := by
  refine congrArg x (funext fun a => ?_)
  have h : a = (0 : Fin 2) ∨ a = (1 : Fin 2) := by revert a; decide
  rcases h with rfl | rfl <;> rfl
/-- The columns of the weights' array. -/
theorem v148_of {F : FTy → Type} [FloatOps F] (m : (ℓ : Loc nD τ sig) → Buf (Elt F) ℓ) (c : Dev nD) (n : Fin 512) (r : Fin 49) : (V0 m c (Proc.devRef .tc main_v148) : S512x49x1.Idx → F .f32) (ix3 n r 0)
    = (V0 m c (Proc.devRef .tc main_v103) : S512x49.Idx → F .f32) (ix2 n r) := by
  obtain ⟨W, h⟩ := V0_tail m c 62 rfl
  rw [h]
  after_reads_simp
  exact col_at _ n r
theorem v149_of {F : FTy → Type} [FloatOps F] (m : (ℓ : Loc nD τ sig) → Buf (Elt F) ℓ) (c : Dev nD) (n : Fin 512) (r : Fin 49) : (V0 m c (Proc.devRef .tc main_v149) : S512x49x1.Idx → F .f32) (ix3 n r 0)
    = (V0 m c (Proc.devRef .tc main_v105) : S512x49.Idx → F .f32) (ix2 n r) := by
  obtain ⟨W, h⟩ := V0_tail m c 62 rfl
  rw [h]
  after_reads_simp
  exact col_at _ n r
theorem v150_of {F : FTy → Type} [FloatOps F] (m : (ℓ : Loc nD τ sig) → Buf (Elt F) ℓ) (c : Dev nD) (n : Fin 512) (r : Fin 49) : (V0 m c (Proc.devRef .tc main_v150) : S512x49x1.Idx → F .f32) (ix3 n r 0)
    = (V0 m c (Proc.devRef .tc main_v112) : S512x49.Idx → F .f32) (ix2 n r) := by
  obtain ⟨W, h⟩ := V0_tail m c 62 rfl
  rw [h]
  after_reads_simp
  exact col_at _ n r
theorem v151_of {F : FTy → Type} [FloatOps F] (m : (ℓ : Loc nD τ sig) → Buf (Elt F) ℓ) (c : Dev nD) (n : Fin 512) (r : Fin 49) : (V0 m c (Proc.devRef .tc main_v151) : S512x49x1.Idx → F .f32) (ix3 n r 0)
    = (V0 m c (Proc.devRef .tc main_v119) : S512x49.Idx → F .f32) (ix2 n r) := by
  obtain ⟨W, h⟩ := V0_tail m c 62 rfl
  rw [h]
  after_reads_simp
  exact col_at _ n r
theorem v152_of {F : FTy → Type} [FloatOps F] (m : (ℓ : Loc nD τ sig) → Buf (Elt F) ℓ) (c : Dev nD) (n : Fin 512) (r : Fin 49) : (V0 m c (Proc.devRef .tc main_v152) : S512x49x1.Idx → F .f32) (ix3 n r 0)
    = (V0 m c (Proc.devRef .tc main_v126) : S512x49.Idx → F .f32) (ix2 n r) := by
  obtain ⟨W, h⟩ := V0_tail m c 62 rfl
  rw [h]
  after_reads_simp
  exact col_at _ n r
theorem v153_of {F : FTy → Type} [FloatOps F] (m : (ℓ : Loc nD τ sig) → Buf (Elt F) ℓ) (c : Dev nD) (n : Fin 512) (r : Fin 49) : (V0 m c (Proc.devRef .tc main_v153) : S512x49x1.Idx → F .f32) (ix3 n r 0)
    = (V0 m c (Proc.devRef .tc main_v133) : S512x49.Idx → F .f32) (ix2 n r) := by
  obtain ⟨W, h⟩ := V0_tail m c 62 rfl
  rw [h]
  after_reads_simp
  exact col_at _ n r
theorem v154_of {F : FTy → Type} [FloatOps F] (m : (ℓ : Loc nD τ sig) → Buf (Elt F) ℓ) (c : Dev nD) (n : Fin 512) (r : Fin 49) : (V0 m c (Proc.devRef .tc main_v154) : S512x49x1.Idx → F .f32) (ix3 n r 0)
    = (V0 m c (Proc.devRef .tc main_v140) : S512x49.Idx → F .f32) (ix2 n r) := by
  obtain ⟨W, h⟩ := V0_tail m c 62 rfl
  rw [h]
  after_reads_simp
  exact col_at _ n r
theorem v155_of {F : FTy → Type} [FloatOps F] (m : (ℓ : Loc nD τ sig) → Buf (Elt F) ℓ) (c : Dev nD) (n : Fin 512) (r : Fin 49) : (V0 m c (Proc.devRef .tc main_v155) : S512x49x1.Idx → F .f32) (ix3 n r 0)
    = (V0 m c (Proc.devRef .tc main_v147) : S512x49.Idx → F .f32) (ix2 n r) := by
  obtain ⟨W, h⟩ := V0_tail m c 62 rfl
  rw [h]
  after_reads_simp
  exact col_at _ n r
theorem v156_of {F : FTy → Type} [FloatOps F] (m : (ℓ : Loc nD τ sig) → Buf (Elt F) ℓ) (c : Dev nD) (j : S512x49x8.Idx) : (V0 m c (Proc.devRef .tc main_v156) : S512x49x8.Idx → F .f32) j
    = concatenate S512x49x8 2 [⟨S512x49x1, (V0 m c (Proc.devRef .tc main_v148) : S512x49x1.Idx → F .f32)⟩, ⟨S512x49x1, (V0 m c (Proc.devRef .tc main_v149) : S512x49x1.Idx → F .f32)⟩, ⟨S512x49x1, (V0 m c (Proc.devRef .tc main_v150) : S512x49x1.Idx → F .f32)⟩, ⟨S512x49x1, (V0 m c (Proc.devRef .tc main_v151) : S512x49x1.Idx → F .f32)⟩, ⟨S512x49x1, (V0 m c (Proc.devRef .tc main_v152) : S512x49x1.Idx → F .f32)⟩, ⟨S512x49x1, (V0 m c (Proc.devRef .tc main_v153) : S512x49x1.Idx → F .f32)⟩, ⟨S512x49x1, (V0 m c (Proc.devRef .tc main_v154) : S512x49x1.Idx → F .f32)⟩, ⟨S512x49x1, (V0 m c (Proc.devRef .tc main_v155) : S512x49x1.Idx → F .f32)⟩] concatenates_S512x49x1_S512x49x1_S512x49x1_S512x49x1_S512x49x1_S512x49x1_S512x49x1_S512x49x1_S512x49x8_d2 j := by
  obtain ⟨W, h⟩ := V0_tail m c 70 rfl
  rw [h]
  after_reads_simp
  rfl
theorem v158_of {F : FTy → Type} [FloatOps F] (m : (ℓ : Loc nD τ sig) → Buf (Elt F) ℓ) (c : Dev nD) (j : S512x56x8.Idx) : (V0 m c (Proc.devRef .tc main_v158) : S512x56x8.Idx → F .f32) j
    = concatenate S512x56x8 1 [⟨S512x49x8, (V0 m c (Proc.devRef .tc main_v156) : S512x49x8.Idx → F .f32)⟩, ⟨S512x7x8, (V0 m c (Proc.devRef .tc main_v157) : S512x7x8.Idx → F .f32)⟩] concatenates_S512x49x8_S512x7x8_S512x56x8_d1 j := by
  obtain ⟨W, h⟩ := V0_tail m c 70 rfl
  rw [h]
  after_reads_simp
/-- A result row's columns, above the rows of padding. -/
theorem v158_top {F : FTy → Type} [FloatOps F] (m : (ℓ : Loc nD τ sig) → Buf (Elt F) ℓ) (c : Dev nD) (n : Fin 512) (r : Fin 49) (q : Fin 8) : (V0 m c (Proc.devRef .tc main_v158) : S512x56x8.Idx → F .f32) (ix3 n ⟨r.val, by omega⟩ q)
    = (V0 m c (Proc.devRef .tc main_v156) : S512x49x8.Idx → F .f32) (ix3 n r q) := by
  rw [v158_of]
  pointwise
/-- The weights' array, column by column. -/
theorem wq0_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 0)
    = (V0 m c (Proc.devRef .tc main_v103) : S512x49.Idx → F .f32) (ix2 n r) := by
  rw [v158_top, v156_of]
  pointwise
  exact v148_of m c n r
theorem wq1_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 1)
    = (V0 m c (Proc.devRef .tc main_v105) : S512x49.Idx → F .f32) (ix2 n r) := by
  rw [v158_top, v156_of]
  pointwise
  exact v149_of m c n r
theorem wq2_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 2)
    = (V0 m c (Proc.devRef .tc main_v112) : S512x49.Idx → F .f32) (ix2 n r) := by
  rw [v158_top, v156_of]
  pointwise
  exact v150_of m c n r
theorem wq3_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 3)
    = (V0 m c (Proc.devRef .tc main_v119) : S512x49.Idx → F .f32) (ix2 n r) := by
  rw [v158_top, v156_of]
  pointwise
  exact v151_of m c n r
theorem wq4_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 4)
    = (V0 m c (Proc.devRef .tc main_v126) : S512x49.Idx → F .f32) (ix2 n r) := by
  rw [v158_top, v156_of]
  pointwise
  exact v152_of m c n r
theorem wq5_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 5)
    = (V0 m c (Proc.devRef .tc main_v133) : S512x49.Idx → F .f32) (ix2 n r) := by
  rw [v158_top, v156_of]
  pointwise
  exact v153_of m c n r
theorem wq6_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 6)
    = (V0 m c (Proc.devRef .tc main_v140) : S512x49.Idx → F .f32) (ix2 n r) := by
  rw [v158_top, v156_of]
  pointwise
  exact v154_of m c n r
theorem wq7_at {F : FTy → Type} [FloatOps F] (m : (ℓ : Loc nD τ sig) → Buf (Elt F) ℓ) (c : Dev nD) (n : Fin 512) (r : Fin 49) : (V0 m c (Proc.devRef .tc main_v158) : S512x56x8.Idx → F .f32) (ix3 n ⟨r.val, by omega⟩ 7)
    = (V0 m c (Proc.devRef .tc main_v147) : S512x49.Idx → F .f32) (ix2 n r) := by
  rw [v158_top, v156_of]
  pointwise
  exact v155_of m c n r

end Cert.KernelIdeal.Hand
-- ==== Proof.ScalReal.lean ====
/-
  Hand-written, untrusted. The samples' scalars as real numbers and small words.
-/
module

public import proofs.«01_k».proof.Proof.Scal
public import Idealize.ShloMosaic.Lib.WordArith
public import Mathlib.Tactic.Linarith
public import Mathlib.Data.EReal.Operations

@[expose] public section

noncomputable section

namespace Cert.Scal

open Idealize.ShloMosaic

theorem six : Ideal.ofBits .f32 1086324736#32 = ((6 : ℝ) : EReal) := by
  simp [Ideal.ofBits, Ideal.ieee]; norm_num [← EReal.coe_mul]
theorem onef : Ideal.ofBits .f32 0x3f800000#32 = ((1 : ℝ) : EReal) := by
  simp [Ideal.ofBits, Ideal.ieee]; norm_num [← EReal.coe_mul]

/-- A sample's position as a real number. -/
def rpos (p q : BitVec 32) (j : Fin 7) : ℝ := (p.toInt : ℝ) + (j.val : ℝ) * ((q.toInt : ℝ) - (p.toInt : ℝ)) * (1 / 6)

theorem ofNat_toInt (k : ℕ) (h : k < 2147483648) : (BitVec.ofNat 32 k).toInt = k := by
  rw [BitVec.toInt_eq_toNat_cond, BitVec.toNat_ofNat]; omega

/-- The position is real. -/
theorem pos_eq (p q : BitVec 32) (j : Fin 7) : pos p q j = ((rpos p q j : ℝ) : EReal) := by
  unfold pos rpos
  rw [six, Ideal.div_coe (by norm_num)]
  show ((p.toInt : ℝ) : EReal) + (((BitVec.ofNat 32 j.val).toInt : ℝ) : EReal) * (((q.toInt : ℝ) : EReal) - ((p.toInt : ℝ) : EReal)) * ((1 / 6 : ℝ) : EReal) = _
  rw [ofNat_toInt j.val (by omega), ← EReal.coe_sub, ← EReal.coe_mul, ← EReal.coe_mul, ← EReal.coe_add]
  push_cast
  rfl
/-- So is its floor. -/
theorem flo_eq (p q : BitVec 32) (j : Fin 7) : flo p q j = (((⌊rpos p q j⌋ : ℤ) : ℝ) : EReal) := by
  unfold flo; rw [pos_eq]; rfl
/-- So is its fraction. -/
theorem frac_eq (p q : BitVec 32) (j : Fin 7) : frac p q j = ((Int.fract (rpos p q j) : ℝ) : EReal) := by
  unfold frac; rw [pos_eq, flo_eq, ← EReal.coe_sub]; rfl

theorem minsi_toInt (a b : BitVec 32) : (IntOp.minsi a b).toInt = min a.toInt b.toInt := by
  unfold IntOp.minsi
  simp only [BitVec.slt, decide_eq_true_eq]
  split <;> omega

/-- A floor's word is the floor, as far as words reach. -/
theorem fptosi_toInt (z : ℤ) : (FloatOps.fptosi (F := Ideal) (φ := .f32) 32 ((((z : ℤ) : ℝ) : EReal))).toInt = max (-2147483648) (min 2147483647 z) := by
  show (BitVec.ofInt 32 (Ideal.toIntClamped _ _ _)).toInt = _
  rw [Ideal.toIntClamped_coe, Int.floor_intCast, Int.ceil_intCast, ite_self, BitVec.toInt_ofInt]
  norm_num
  rw [Int.bmod_def]
  omega

theorem lo_toInt (p q : BitVec 32) (j : Fin 7) : (lo p q j).toInt = min 199 (max 0 ⌊rpos p q j⌋) := by
  unfold lo
  rw [minsi_toInt, Idealize.ShloMosaic.WordArith.toInt_maxsi_zero, flo_eq, fptosi_toInt]
  have : (199#32).toInt = 199 := by decide
  omega
theorem lo_nat (p q : BitVec 32) (j : Fin 7) : ((lo p q j).toNat : ℤ) = min 199 (max 0 ⌊rpos p q j⌋) := by
  have h := lo_toInt p q j
  rw [BitVec.toInt_eq_toNat_cond] at h
  omega
/-- A sample's line is on the grid. -/
theorem lo_le (p q : BitVec 32) (j : Fin 7) : (lo p q j).toNat ≤ 199 := by have := lo_nat p q j; omega
/-- The next line is one further, but for the last. -/
theorem hi_nat (p q : BitVec 32) (j : Fin 7) : (hi p q j).toNat = min 199 ((lo p q j).toNat + 1) := by
  have h1 : (IntOp.addi (lo p q j) 1#32).toInt = (lo p q j).toNat + 1 := by
    have := lo_le p q j
    unfold IntOp.addi
    rw [BitVec.toInt_eq_toNat_cond, BitVec.toNat_add]
    simp only [BitVec.toNat_ofNat]
    omega
  have h : (hi p q j).toInt = min 199 (max 0 ((lo p q j).toNat + 1 : ℤ)) := by
    unfold hi
    rw [minsi_toInt, Idealize.ShloMosaic.WordArith.toInt_maxsi_zero, h1]
    have : (199#32).toInt = 199 := by decide
    omega
  rw [BitVec.toInt_eq_toNat_cond] at h
  omega
/-- Between two coordinates on the grid the samples stay between them. -/
theorem lo_between (p q : BitVec 32) (j : Fin 7) (hpq : p.toNat ≤ q.toNat) (hq : q.toNat ≤ 199) :
    p.toNat ≤ (lo p q j).toNat ∧ (lo p q j).toNat ≤ q.toNat := by
  have h := lo_nat p q j
  have ip : p.toInt = p.toNat := by rw [BitVec.toInt_eq_toNat_cond]; omega
  have iq : q.toInt = q.toNat := by rw [BitVec.toInt_eq_toNat_cond]; omega
  have hj : (j.val : ℝ) ≤ 6 := by exact_mod_cast (by omega : j.val ≤ 6)
  have hj0 : (0 : ℝ) ≤ (j.val : ℝ) := Nat.cast_nonneg _
  have hd : (0 : ℝ) ≤ (q.toNat : ℝ) - (p.toNat : ℝ) := by have : (p.toNat : ℝ) ≤ q.toNat := by exact_mod_cast hpq
                                                          linarith
  have e : rpos p q j = (p.toNat : ℝ) + (j.val : ℝ) * ((q.toNat : ℝ) - (p.toNat : ℝ)) * (1 / 6) := by
    unfold rpos; rw [ip, iq]; push_cast; rfl
  have m0 := mul_nonneg hj0 hd
  have m1 := mul_le_mul_of_nonneg_right hj hd
  have l : ((p.toNat : ℤ) : ℝ) ≤ rpos p q j := by rw [e]; push_cast; linarith
  have u : rpos p q j ≤ ((q.toNat : ℤ) : ℝ) := by rw [e]; push_cast; linarith
  have l' : (p.toNat : ℤ) ≤ ⌊rpos p q j⌋ := Int.le_floor.mpr l
  have u' : ⌊rpos p q j⌋ ≤ (q.toNat : ℤ) := by
    have := (Int.floor_le (rpos p q j)).trans u
    exact_mod_cast this
  omega

/-- Equality of floats made of words is equality of the words' numbers. -/
theorem sitofp_eq (a b : BitVec 32) : FloatOps.sitofp (F := Ideal) .f32 a = FloatOps.sitofp (F := Ideal) .f32 b ↔ a.toInt = b.toInt := by
  show ((a.toInt : ℝ) : EReal) = ((b.toInt : ℝ) : EReal) ↔ _
  rw [EReal.coe_eq_coe_iff]; exact Int.cast_inj
/-- The float of a word. -/
theorem sitofp_nat (a : BitVec 32) (k : ℕ) (h : a.toInt = k) : FloatOps.sitofp (F := Ideal) .f32 a = ((k : ℝ) : EReal) := by
  show ((a.toInt : ℝ) : EReal) = _
  rw [h]; push_cast; rfl
theorem coe_nat_eq (a b : ℕ) : (((a : ℝ) : EReal) = ((b : ℝ) : EReal)) ↔ a = b := by
  rw [EReal.coe_eq_coe_iff]; exact Nat.cast_inj

/-- The flag of an equality as a float. -/
theorem flag (x y : EReal) : FloatOps.uitofp (F := Ideal) .f32 (FloatOps.cmpf (F := Ideal) (φ := .f32) .oeq x y) = if x = y then ((1 : ℝ) : EReal) else ((0 : ℝ) : EReal) := by
  show (((BitVec.ofBool (decide (x = y))).toNat : ℝ) : EReal) = _
  by_cases h : x = y <;> simp [h]

/-- A fraction and what it leaves of one are nonnegative. -/
theorem fract_nonneg (r : ℝ) : 0 ≤ Int.fract r ∧ 0 ≤ 1 - Int.fract r :=
  ⟨Int.fract_nonneg r, by have := Int.fract_lt_one r; linarith⟩

/-- One window row's weight: the upper line's part where it is the upper line, and the lower line's part where it is the lower. -/
def rowWgt (w : Ideal .f32) (s t : BitVec 32) (z : Ideal .f32) : Ideal .f32 :=
  FloatOps.addf (F := Ideal) (FloatOps.mulf (F := Ideal) (FloatOps.subf (F := Ideal) (FloatOps.ofBits (F := Ideal) .f32 0x3f800000#32) w) (FloatOps.uitofp (F := Ideal) .f32 (FloatOps.cmpf (F := Ideal) .oeq (FloatOps.sitofp (F := Ideal) .f32 s) z)))
    (FloatOps.mulf (F := Ideal) w (FloatOps.uitofp (F := Ideal) .f32 (FloatOps.cmpf (F := Ideal) .oeq (FloatOps.sitofp (F := Ideal) .f32 t) z)))

theorem rowWgt_eq (f : ℝ) (s t : BitVec 32) (a b k : ℕ) (hs : s.toInt = a) (ht : t.toInt = b) :
    rowWgt ((f : ℝ) : EReal) s t ((k : ℝ) : EReal) = (((1 - f) * (if a = k then 1 else 0) + f * (if b = k then 1 else 0) : ℝ) : EReal) := by
  unfold rowWgt
  rw [flag, flag, sitofp_nat s a hs, sitofp_nat t b ht]
  simp only [coe_nat_eq]
  show (Ideal.ofBits .f32 0x3f800000#32 - (f : EReal)) * _ + (f : EReal) * _ = _
  rw [onef, ← EReal.coe_sub]
  push_cast
  split <;> split <;> norm_num

end Cert.Scal
-- ==== Proof.Out.lean ====
/-
  Hand-written, untrusted. The kernel's result, element by element: four image elements, weighted.
-/
module

public import proofs.«01_k».proof.Proof.Arr
public import proofs.«01_k».proof.Proof.Pay
public import proofs.«01_k».proof.Proof.Sum
public import proofs.«01_k».proof.Proof.Vals3
public import proofs.«01_k».proof.Proof.ScalReal

@[expose] public section

noncomputable section

namespace Cert.KernelIdeal.Hand

open Cert.KernelIdeal Cert.KernelIdeal.Gen Cert.Scal
open Idealize.ShloMosaic Idealize.ShloMosaic.TcCoe Idealize.ShloMosaic.Tactic

/-- The result row of a box's sample. -/
def rc (i j : Fin 7) : Fin 49 := ⟨i.val * 7 + j.val, by omega⟩
theorem row_rc (i j : Fin 7) : rowOf (rc i j) = i := Fin.ext (by show (i.val * 7 + j.val) / 7 = i.val; omega)
theorem col_rc (i j : Fin 7) : colOf (rc i j) = j := Fin.ext (by show (i.val * 7 + j.val) % 7 = j.val; omega)

/-- The result's layout. -/
theorem lay {α : Type} (x : S512x49x256.Idx → α) (n : Fin 512) (ch : Fin 256) (i j : Fin 7) :
    shapeCast S512x256x7x7 (transpose S512x256x49 [0, 2, 1] x transposes_S512x49x256_S512x256x49_0_2_1) shapeCasts_S512x256x49_S512x256x7x7 (ix4 n ch i j)
      = x (ix3 n (rc i j) ch) := by
  unfold rc
  pointwise

section
variable {F : FTy → Type} [FloatOps F] (m : (ℓ : Loc nD τ sig) → Buf (Elt F) ℓ)
/-- An element of the result is one of the array the blocks leave. -/
theorem v171_at (c : Dev nD) (n : Fin 512) (ch : Fin 256) (i j : Fin 7) : (Vend m c (Proc.devRef .tc main_v171) : S512x256x7x7.Idx → F .f32) (ix4 n ch i j)
    = ((dats m 0 c).arrAt (3 : Fin 4) grid0.N : S512x49x256.Idx → F .f32) (ix3 n (rc i j) ch) := by
  have e := Pipeline.withArrays_arr spec0 (by decide) c (V0 m c) (fun w => (dats m 0 c).arrAt w grid0.N) (3 : Fin 4)
  unfold Vend
  after_reads_simp
  refine (lay _ n ch i j).trans ?_
  exact congrFun e (ix3 n (rc i j) ch)

/-- The box's window at a place: the image element there. -/
theorem slab_at (c : Dev nD) (n : Fin 512) (A : Fin 14) (B : Fin 80) (ch : Fin 256) (b : Fin 4) (y x : Fin 200)
    (hb : ((tabsOf m c).tb (ix1 n)).toNat = b.val) (hy : ((tabsOf m c).ty (ix2 n ⟨A.val / 2, by omega⟩)).toNat + A.val % 2 = y.val)
    (hx : ((tabsOf m c).tc (ix1 n)).toNat + B.val = x.val) :
    slab (tabsOf m c) n.val (ix4 0 A B ch) = (m ((c.tc : Thread nD τ).loc main_arg0) : S4x256x200x200.Idx → F .f32) (ix4 b ch y x) := by
  rw [← V_arg0 m c, ← v166_at m c b y x ch]
  unfold slab
  refine Eq.symm (congrArg (tabsOf m c).feat (ixOf_eq feat_pos _ (ix4 b y x ch) ?_))
  have t1 : ∀ t : S512.Idx → BitVec 32, tab1 t n.val = t (ix1 n) := fun t =>
    congrArg t (ixOf_eq _ _ (ix1 n) fun a => by fin_cases a; rfl).symm
  have t2 : tab2 (tabsOf m c).ty n.val (A.val / 2) = (tabsOf m c).ty (ix2 n ⟨A.val / 2, by omega⟩) :=
    congrArg (tabsOf m c).ty (ixOf_eq _ _ (ix2 n ⟨A.val / 2, by omega⟩) fun a => by fin_cases a <;> rfl).symm
  rw [t1, t1]
  intro a
  have ha : a = (0 : Fin 4) ∨ a = (1 : Fin 4) ∨ a = (2 : Fin 4) ∨ a = (3 : Fin 4) := by fin_cases a <;> simp
  rcases ha with rfl | rfl | rfl | rfl
  · exact hb.symm
  · refine hy.symm.trans ?_
    show _ = (tab2 (tabsOf m c).ty n.val (A.val / 2)).toNat + A.val % 2
    rw [t2]
  · exact hx.symm
  · rfl
end

variable (m : (ℓ : Loc nD τ sig) → Buf (Elt Ideal) ℓ)

/-- The window rows' weights. -/
theorem v68_at (c : Dev nD) (j : S512x7.Idx) : (V0 m c (Proc.devRef .tc main_v68) : S512x7.Idx → Ideal .f32) j
    = rowWgt ((V0 m c (Proc.devRef .tc main_v40) : S512x7.Idx → Ideal .f32) j)
      (IntOp.subi ((V0 m c (Proc.devRef .tc main_v43) : S512x7.Idx → BitVec 32) j) ((V0 m c (Proc.devRef .tc main_v53) : S512x7.Idx → BitVec 32) j))
      (IntOp.subi ((V0 m c (Proc.devRef .tc main_v46) : S512x7.Idx → BitVec 32) j) ((V0 m c (Proc.devRef .tc main_v53) : S512x7.Idx → BitVec 32) j))
      (((0 : ℕ) : ℝ) : EReal) := by
  rw [v68_of, v55_of, v57_of]
  have z : FloatOps.ofBits (F := Ideal) .f32 0x00000000#32 = ((((0 : ℕ) : ℝ) : EReal) : Ideal .f32) := by
    show Ideal.ofBits .f32 0#32 = _
    rw [Ideal.ofBits_zero_f32]; simp
  rw [z]; rfl
theorem v79_at (c : Dev nD) (j : S512x7.Idx) : (V0 m c (Proc.devRef .tc main_v79) : S512x7.Idx → Ideal .f32) j
    = rowWgt ((V0 m c (Proc.devRef .tc main_v40) : S512x7.Idx → Ideal .f32) j)
      (IntOp.subi ((V0 m c (Proc.devRef .tc main_v43) : S512x7.Idx → BitVec 32) j) ((V0 m c (Proc.devRef .tc main_v53) : S512x7.Idx → BitVec 32) j))
      (IntOp.subi ((V0 m c (Proc.devRef .tc main_v46) : S512x7.Idx → BitVec 32) j) ((V0 m c (Proc.devRef .tc main_v53) : S512x7.Idx → BitVec 32) j))
      (((1 : ℕ) : ℝ) : EReal) := by
  rw [v79_of, v55_of, v57_of]
  unfold rowWgt
  have z : ((((1 : ℕ) : ℝ) : EReal) : Ideal .f32) = FloatOps.ofBits (F := Ideal) .f32 0x3f800000#32 := by
    show _ = Ideal.ofBits .f32 0x3f800000#32
    rw [onef]; simp
  rw [z]

/-- The weight matrix's element: the row's two parts times the column's two parts. -/
theorem wgt_at (c : Dev nD) (n : Fin 512) (i j : Fin 7) (k : Fin 1120) (B0 B1 : Fin 80) (p0 p1 q0 q1 : ℝ)
    (h0 : (IntOp.subi ((V0 m c (Proc.devRef .tc main_v48) : S512x7.Idx → BitVec 32) (ix2 n j)) ((V0 m c (Proc.devRef .tc main_v86) : S512.Idx → BitVec 32) (ix1 n))).toInt = B0.val)
    (h1 : (IntOp.subi ((V0 m c (Proc.devRef .tc main_v51) : S512x7.Idx → BitVec 32) (ix2 n j)) ((V0 m c (Proc.devRef .tc main_v86) : S512.Idx → BitVec 32) (ix1 n))).toInt = B1.val)
    (w0 : (V0 m c (Proc.devRef .tc main_v68) : S512x7.Idx → Ideal .f32) (ix2 n i) = ((p0 : ℝ) : EReal))
    (w1 : (V0 m c (Proc.devRef .tc main_v79) : S512x7.Idx → Ideal .f32) (ix2 n i) = ((p1 : ℝ) : EReal))
    (w2 : (V0 m c (Proc.devRef .tc main_v96) : S512x7.Idx → Ideal .f32) (ix2 n j) = ((q0 : ℝ) : EReal))
    (w3 : (V0 m c (Proc.devRef .tc main_v41) : S512x7.Idx → Ideal .f32) (ix2 n j) = ((q1 : ℝ) : EReal)) :
    k0_pay2 (F := Ideal) (wqBlk m c (pt n)) (skBlk m c (pt n)) (rkBlk m c (pt n)) (ix2 ⟨(rc i j).val, by omega⟩ k)
      = (((if (Sums.cell k).1 = ⟨2 * i.val, by omega⟩ then (p0 : EReal) else 0)
          + (if (Sums.cell k).1 = ⟨2 * i.val + 1, by omega⟩ then (p1 : EReal) else 0))
        * ((if (Sums.cell k).2 = B0 then (q0 : EReal) else 0)
          + (if (Sums.cell k).2 = B1 then (q1 : EReal) else 0)) : EReal) := by
  rw [pay2_at]
  unfold wgt
  rw [wq_at, wq_at, wq_at, wq_at, wq_at, wq_at, wq_at, wq_at, sk_at, rk_at, wq0_at, wq1_at, wq2_at, wq3_at, wq4_at, wq5_at, wq6_at, wq7_at,
    v162_at, v165_at, v103_at, v105_at, v112_at, v119_at, v126_at, v133_at, v140_at, v147_at, row_rc, col_rc, v90_of, v94_of, w0, w1, w2, w3]
  have hr : (rc i j).val / 7 = i.val := by show (i.val * 7 + j.val) / 7 = i.val; omega
  have e2 : (IntOp.muli 2#32 (BitVec.ofNat 32 ((rc i j).val / 7))).toInt = ((2 * i.val : ℕ) : ℤ) := by
    rw [hr]; exact (by decide : ∀ i : Fin 7, (IntOp.muli 2#32 (BitVec.ofNat 32 i.val)).toInt = ((2 * i.val : ℕ) : ℤ)) i
  have ek : (BitVec.ofNat 32 (k.val / 80)).toInt = ((k.val / 80 : ℕ) : ℤ) := ofNat_toInt _ (by omega)
  have er : (BitVec.ofNat 32 (k.val % 80)).toInt = ((k.val % 80 : ℕ) : ℤ) := ofNat_toInt _ (by omega)
  have s1 : FloatOps.addf (F := Ideal) (φ := .f32) ((((2 * i.val : ℕ) : ℝ) : EReal)) (FloatOps.ofBits (F := Ideal) .f32 0x3f800000#32) = (((2 * i.val + 1 : ℕ) : ℝ) : EReal) := by
    show (((2 * i.val : ℕ) : ℝ) : EReal) + Ideal.ofBits .f32 0x3f800000#32 = _
    rw [onef, ← EReal.coe_add]; push_cast; rfl
  rw [sitofp_nat _ _ e2, s1, sitofp_nat _ _ ek, sitofp_nat _ _ er, sitofp_nat _ _ h0, sitofp_nat _ _ h1]
  have c0 : (Sums.cell k).1.val = k.val / 80 := rfl
  have c1 : (Sums.cell k).2.val = k.val % 80 := rfl
  simp only [coe_nat_eq, Fin.ext_iff, c0, c1]

/-- An element of the result: the four image elements at the window's two rows and the sample's two columns, weighted. -/
theorem out_at (c : Dev nD) (n : Fin 512) (ch : Fin 256) (i j : Fin 7) (b : Fin 4) (y0 y1 x0 x1 : Fin 200) (B0 B1 : Fin 80) (p0 p1 q0 q1 : ℝ)
    (hp0 : 0 ≤ p0) (hp1 : 0 ≤ p1) (hq0 : 0 ≤ q0) (hq1 : 0 ≤ q1)
    (h0 : (IntOp.subi ((V0 m c (Proc.devRef .tc main_v48) : S512x7.Idx → BitVec 32) (ix2 n j)) ((V0 m c (Proc.devRef .tc main_v86) : S512.Idx → BitVec 32) (ix1 n))).toInt = B0.val)
    (h1 : (IntOp.subi ((V0 m c (Proc.devRef .tc main_v51) : S512x7.Idx → BitVec 32) (ix2 n j)) ((V0 m c (Proc.devRef .tc main_v86) : S512.Idx → BitVec 32) (ix1 n))).toInt = B1.val)
    (hb : ((tabsOf m c).tb (ix1 n)).toNat = b.val)
    (hy0 : ((V0 m c (Proc.devRef .tc main_v53) : S512x7.Idx → BitVec 32) (ix2 n i)).toNat = y0.val) (hy1 : y0.val + 1 = y1.val)
    (hx0 : ((tabsOf m c).tc (ix1 n)).toNat + B0.val = x0.val) (hx1 : ((tabsOf m c).tc (ix1 n)).toNat + B1.val = x1.val)
    (w0 : (V0 m c (Proc.devRef .tc main_v68) : S512x7.Idx → Ideal .f32) (ix2 n i) = ((p0 : ℝ) : EReal))
    (w1 : (V0 m c (Proc.devRef .tc main_v79) : S512x7.Idx → Ideal .f32) (ix2 n i) = ((p1 : ℝ) : EReal))
    (w2 : (V0 m c (Proc.devRef .tc main_v96) : S512x7.Idx → Ideal .f32) (ix2 n j) = ((q0 : ℝ) : EReal))
    (w3 : (V0 m c (Proc.devRef .tc main_v41) : S512x7.Idx → Ideal .f32) (ix2 n j) = ((q1 : ℝ) : EReal)) :
    (Vend m c (Proc.devRef .tc main_v171) : S512x256x7x7.Idx → Ideal .f32) (ix4 n ch i j)
      = (p0 : EReal) * ((q0 : EReal) * (m ((c.tc : Thread nD τ).loc main_arg0) : S4x256x200x200.Idx → EReal) (ix4 b ch y0 x0)
            + (q1 : EReal) * (m ((c.tc : Thread nD τ).loc main_arg0) : S4x256x200x200.Idx → EReal) (ix4 b ch y0 x1))
        + (p1 : EReal) * ((q0 : EReal) * (m ((c.tc : Thread nD τ).loc main_arg0) : S4x256x200x200.Idx → EReal) (ix4 b ch y1 x0)
            + (q1 : EReal) * (m ((c.tc : Thread nD τ).loc main_arg0) : S4x256x200x200.Idx → EReal) (ix4 b ch y1 x1)) := by
  rw [v171_at, arr_at]
  unfold outBlk
  rw [pay1_at]
  have ht : ∀ A : Fin 14, A.val / 2 = i.val → ((tabsOf m c).ty (ix2 n ⟨A.val / 2, by omega⟩)).toNat = y0.val := by
    intro A hA
    have e : (⟨A.val / 2, by omega⟩ : Fin 7) = i := Fin.ext hA
    have v : (tabsOf m c).ty (ix2 n ⟨A.val / 2, by omega⟩) = (V0 m c (Proc.devRef .tc main_v53) : S512x7.Idx → BitVec 32) (ix2 n ⟨A.val / 2, by omega⟩) :=
      v168_at m c n ⟨A.val / 2, by omega⟩ (by show A.val / 2 < 7; omega)
    rw [v, e, hy0]
  have a0 := ht ⟨2 * i.val, by omega⟩ (by show 2 * i.val / 2 = i.val; omega)
  have a1 := ht ⟨2 * i.val + 1, by omega⟩ (by show (2 * i.val + 1) / 2 = i.val; omega)
  have u0 : (⟨2 * i.val, by omega⟩ : Fin 14).val % 2 = 0 := by show 2 * i.val % 2 = 0; omega
  have u1 : (⟨2 * i.val + 1, by omega⟩ : Fin 14).val % 2 = 1 := by show (2 * i.val + 1) % 2 = 1; omega
  rw [← slab_at m c n ⟨2 * i.val, by omega⟩ B0 ch b y0 x0 hb (by rw [a0, u0, Nat.add_zero]) hx0,
    ← slab_at m c n ⟨2 * i.val, by omega⟩ B1 ch b y0 x1 hb (by rw [a0, u0, Nat.add_zero]) hx1,
    ← slab_at m c n ⟨2 * i.val + 1, by omega⟩ B0 ch b y1 x0 hb (by rw [a1, u1]; exact hy1) hx0,
    ← slab_at m c n ⟨2 * i.val + 1, by omega⟩ B1 ch b y1 x1 hb (by rw [a1, u1]; exact hy1) hx1]
  refine Eq.trans (Finset.sum_congr (M := EReal) rfl fun k _ => ?_)
    (Sums.four ⟨2 * i.val, by omega⟩ ⟨2 * i.val + 1, by omega⟩ B0 B1 p0 p1 q0 q1 hp0 hp1 hq0 hq1 (fun A B => slab (tabsOf m c) n.val (ix4 0 A B ch)))
  rw [wgt_at m c n i j k B0 B1 p0 p1 q0 q1 h0 h1 w0 w1 w2 w3]
  rfl

end Cert.KernelIdeal.Hand
-- ==== Proof.RefVals.lean ====
/-
  Hand-written, untrusted. What the reference's host operations leave, element by element, over the extended reals.
-/
module

public import proofs.«01_k».proof.Proof.Ref
public import proofs.«01_k».proof.Proof.Scal

@[expose] public section

noncomputable section

namespace Cert.ReferenceIdeal.Hand

open Cert.ReferenceIdeal Cert.ReferenceIdeal.Gen Cert.Scal
open Idealize.ShloMosaic Idealize.ShloMosaic.TcCoe Idealize.ShloMosaic.Tactic

variable (m : (ℓ : Loc nD τ sig) → Buf (Elt Ideal) ℓ)

/-- The boxes as the reference is given them. -/
def boxes (c : Dev nD) : S512x5.Idx → BitVec 32 := m ((c.tc : Thread nD τ).loc main_arg1)

/-- The samples' vertical and horizontal fractions. -/
theorem v40_at (c : Dev nD) (n : Fin 512) (j : Fin 7) : (V m c (Proc.devRef .tc main_v40) : S512x7.Idx → Ideal .f32) (ix2 n j)
    = frac (boxes m c (ix2 n 2)) (boxes m c (ix2 n 4)) j := by
  unfold V frac flo pos boxes
  after_reads_simp
  pointwise
theorem v41_at (c : Dev nD) (n : Fin 512) (j : Fin 7) : (V m c (Proc.devRef .tc main_v41) : S512x7.Idx → Ideal .f32) (ix2 n j)
    = frac (boxes m c (ix2 n 1)) (boxes m c (ix2 n 3)) j := by
  unfold V frac flo pos boxes
  after_reads_simp
  pointwise
/-- The floors as words. -/
theorem v42_at (c : Dev nD) (n : Fin 512) (j : Fin 7) : (V m c (Proc.devRef .tc main_v42) : S512x7.Idx → Elt Ideal .i32) (ix2 n j)
    = FloatOps.fptosi (F := Ideal) (φ := .f32) 32 (flo (boxes m c (ix2 n 2)) (boxes m c (ix2 n 4)) j) := by
  unfold V flo pos boxes
  after_reads_simp
  pointwise
theorem v47_at (c : Dev nD) (n : Fin 512) (j : Fin 7) : (V m c (Proc.devRef .tc main_v47) : S512x7.Idx → Elt Ideal .i32) (ix2 n j)
    = FloatOps.fptosi (F := Ideal) (φ := .f32) 32 (flo (boxes m c (ix2 n 1)) (boxes m c (ix2 n 3)) j) := by
  unfold V flo pos boxes
  after_reads_simp
  pointwise
/-- The four clamps. -/
theorem v43_of {F : FTy → Type} [FloatOps F] (m : (ℓ : Loc nD τ sig) → Buf (Elt F) ℓ) (c : Dev nD) (j : S512x7.Idx) : (V m c (Proc.devRef .tc main_v43) : S512x7.Idx → Elt F .i32) j
    = IntOp.minsi 199#32 (IntOp.maxsi 0#32 ((V m c (Proc.devRef .tc main_v42) : S512x7.Idx → Elt F .i32) j)) := by
  unfold V
  after_reads_simp
  simp only [StableHlo.TRef.ofBuf_toBuf]
  rfl
theorem v46_of {F : FTy → Type} [FloatOps F] (m : (ℓ : Loc nD τ sig) → Buf (Elt F) ℓ) (c : Dev nD) (j : S512x7.Idx) : (V m c (Proc.devRef .tc main_v46) : S512x7.Idx → Elt F .i32) j
    = IntOp.minsi 199#32 (IntOp.maxsi 0#32 ((V m c (Proc.devRef .tc main_v45) : S512x7.Idx → Elt F .i32) j)) := by
  unfold V
  after_reads_simp
  simp only [StableHlo.TRef.ofBuf_toBuf]
  generalize addi _ _ = y
  rfl
theorem v48_of {F : FTy → Type} [FloatOps F] (m : (ℓ : Loc nD τ sig) → Buf (Elt F) ℓ) (c : Dev nD) (j : S512x7.Idx) : (V m c (Proc.devRef .tc main_v48) : S512x7.Idx → Elt F .i32) j
    = IntOp.minsi 199#32 (IntOp.maxsi 0#32 ((V m c (Proc.devRef .tc main_v47) : S512x7.Idx → Elt F .i32) j)) := by
  unfold V
  after_reads_simp
  simp only [StableHlo.TRef.ofBuf_toBuf]
  rfl
theorem v51_of {F : FTy → Type} [FloatOps F] (m : (ℓ : Loc nD τ sig) → Buf (Elt F) ℓ) (c : Dev nD) (j : S512x7.Idx) : (V m c (Proc.devRef .tc main_v51) : S512x7.Idx → Elt F .i32) j
    = IntOp.minsi 199#32 (IntOp.maxsi 0#32 ((V m c (Proc.devRef .tc main_v50) : S512x7.Idx → Elt F .i32) j)) := by
  unfold V
  after_reads_simp
  simp only [StableHlo.TRef.ofBuf_toBuf]
  generalize addi _ _ = y
  rfl
/-- The next lines. -/
theorem v45_of {F : FTy → Type} [FloatOps F] (m : (ℓ : Loc nD τ sig) → Buf (Elt F) ℓ) (c : Dev nD) (j : S512x7.Idx) : (V m c (Proc.devRef .tc main_v45) : S512x7.Idx → Elt F .i32) j
    = IntOp.addi ((V m c (Proc.devRef .tc main_v43) : S512x7.Idx → Elt F .i32) j) 1#32 := by
  unfold V
  after_reads_simp
  rfl
theorem v50_of {F : FTy → Type} [FloatOps F] (m : (ℓ : Loc nD τ sig) → Buf (Elt F) ℓ) (c : Dev nD) (j : S512x7.Idx) : (V m c (Proc.devRef .tc main_v50) : S512x7.Idx → Elt F .i32) j
    = IntOp.addi ((V m c (Proc.devRef .tc main_v48) : S512x7.Idx → Elt F .i32) j) 1#32 := by
  unfold V
  after_reads_simp
  rfl
/-- The grid lines of a sample. -/
theorem y0_at (c : Dev nD) (n : Fin 512) (j : Fin 7) : (V m c (Proc.devRef .tc main_v43) : S512x7.Idx → Elt Ideal .i32) (ix2 n j)
    = lo (boxes m c (ix2 n 2)) (boxes m c (ix2 n 4)) j := by
  rw [v43_of, v42_at]; rfl
theorem y1_at (c : Dev nD) (n : Fin 512) (j : Fin 7) : (V m c (Proc.devRef .tc main_v46) : S512x7.Idx → Elt Ideal .i32) (ix2 n j)
    = hi (boxes m c (ix2 n 2)) (boxes m c (ix2 n 4)) j := by
  rw [v46_of, v45_of, y0_at]; rfl
theorem x0_at (c : Dev nD) (n : Fin 512) (j : Fin 7) : (V m c (Proc.devRef .tc main_v48) : S512x7.Idx → Elt Ideal .i32) (ix2 n j)
    = lo (boxes m c (ix2 n 1)) (boxes m c (ix2 n 3)) j := by
  rw [v48_of, v47_at]; rfl
theorem x1_at (c : Dev nD) (n : Fin 512) (j : Fin 7) : (V m c (Proc.devRef .tc main_v51) : S512x7.Idx → Elt Ideal .i32) (ix2 n j)
    = hi (boxes m c (ix2 n 1)) (boxes m c (ix2 n 3)) j := by
  rw [v51_of, v50_of, x0_at]; rfl

end Cert.ReferenceIdeal.Hand
-- ==== Proof.RefVals2.lean ====
/-
  Hand-written, untrusted. What the reference's gathers read and what its last sum is, element by element.
-/
module

public import proofs.«01_k».proof.Proof.RefVals
public import proofs.«01_k».proof.Proof.RefHost
public import proofs.«01_k».proof.Proof.Take

@[expose] public section

noncomputable section

namespace Cert.ReferenceIdeal.Hand

open Cert.ReferenceIdeal Cert.ReferenceIdeal.Gen Cert.Scal
open Idealize.ShloMosaic Idealize.ShloMosaic.TcCoe Idealize.ShloMosaic.Tactic

/-- A list of operations in two parts. -/
theorem after_app {Val : EltTy → Type} [∀ e, Nonempty (Val e)] (l₁ l₂ : List (HloOp τ sig Val)) (W : Valuation τ sig Val) :
    StableHlo.after (l₁ ++ l₂) W = StableHlo.after l₂ (StableHlo.after l₁ W) := by
  induction l₁ generalizing W with
  | nil => rfl
  | cons a l ih => exact ih _
variable {F : FTy → Type} [FloatOps F] (m : (ℓ : Loc nD τ sig) → Buf (Elt F) ℓ)
/-- The buffers are what the operations from the `k`-th on leave of some earlier contents. -/
theorem V_tail (c : Dev nD) (k : ℕ) : ∃ W, V m c = StableHlo.after (ops.drop k) W :=
  ⟨StableHlo.after (ops.take k) _, by rw [← after_app, List.take_append_drop]; rfl⟩

/-- A negative word counts from the end of an axis of `k`. -/
abbrev wrap (k w : BitVec 32) : BitVec 32 := Scalar.select (IntOp.cmpi .slt w 0#32) (IntOp.addi w k) w

/-- The images as the reference is given them, and the image word. -/
theorem v1_of (c : Dev nD) (n : Fin 512) : (V m c (Proc.devRef .tc main_v1) : S512.Idx → Elt F .i32) (ix1 n)
    = (m ((c.tc : Thread nD τ).loc main_arg1) : S512x5.Idx → BitVec 32) (ix2 n 0) := by
  unfold V
  after_reads_simp
  pointwise

/-- Where gather 77 reads: image, row and column words. -/
theorem v73_of (c : Dev nD) (n : Fin 512) (i j : Fin 7) : (V m c (Proc.devRef .tc main_v73) : S512x7x7x1.Idx → Elt F .i32) (ix4 n i j 0)
    = wrap 4#32 ((V m c (Proc.devRef .tc main_v1) : S512.Idx → BitVec 32) (ix1 n)) := by
  obtain ⟨W, h⟩ := V_tail m c 85
  rw [h]
  after_reads_simp
  pointwise
theorem v74_of (c : Dev nD) (n : Fin 512) (i j : Fin 7) : (V m c (Proc.devRef .tc main_v74) : S512x7x7x1.Idx → Elt F .i32) (ix4 n i j 0)
    = wrap 200#32 ((V m c (Proc.devRef .tc main_v43) : S512x7.Idx → BitVec 32) (ix2 n i)) := by
  obtain ⟨W, h⟩ := V_tail m c 85
  rw [h]
  after_reads_simp
  pointwise
theorem v75_of (c : Dev nD) (n : Fin 512) (i j : Fin 7) : (V m c (Proc.devRef .tc main_v75) : S512x7x7x1.Idx → Elt F .i32) (ix4 n i j 0)
    = wrap 200#32 ((V m c (Proc.devRef .tc main_v48) : S512x7.Idx → BitVec 32) (ix2 n j)) := by
  obtain ⟨W, h⟩ := V_tail m c 85
  rw [h]
  after_reads_simp
  pointwise
theorem v76_0 (c : Dev nD) (n : Fin 512) (i j : Fin 7) : (V m c (Proc.devRef .tc main_v76) : S512x7x7x3.Idx → Elt F .i32) (ix4 n i j 0)
    = (V m c (Proc.devRef .tc main_v73) : S512x7x7x1.Idx → BitVec 32) (ix4 n i j 0) := by
  obtain ⟨W, h⟩ := V_tail m c 115
  rw [h]
  after_reads_simp
  pointwise <;> rfl
theorem v76_1 (c : Dev nD) (n : Fin 512) (i j : Fin 7) : (V m c (Proc.devRef .tc main_v76) : S512x7x7x3.Idx → Elt F .i32) (ix4 n i j 1)
    = (V m c (Proc.devRef .tc main_v74) : S512x7x7x1.Idx → BitVec 32) (ix4 n i j 0) := by
  obtain ⟨W, h⟩ := V_tail m c 115
  rw [h]
  after_reads_simp
  pointwise <;> rfl
theorem v76_2 (c : Dev nD) (n : Fin 512) (i j : Fin 7) : (V m c (Proc.devRef .tc main_v76) : S512x7x7x3.Idx → Elt F .i32) (ix4 n i j 2)
    = (V m c (Proc.devRef .tc main_v75) : S512x7x7x1.Idx → BitVec 32) (ix4 n i j 0) := by
  obtain ⟨W, h⟩ := V_tail m c 115
  rw [h]
  after_reads_simp
  pointwise <;> rfl
theorem v77_of (c : Dev nD) : (V m c (Proc.devRef .tc main_v77) : S512x7x7x256.Idx → Elt F .f32)
    = Host.gather gr (m ((c.tc : Thread nD τ).loc main_arg0) : S4x256x200x200.Idx → Elt F .f32) (V m c (Proc.devRef .tc main_v76)) := by
  rw [← V_arg0 m c]
  obtain ⟨W, h⟩ := V_tail m c 116
  rw [h]
  after_reads_simp
/-- Where gather 102 reads: image, row and column words. -/
theorem v98_of (c : Dev nD) (n : Fin 512) (i j : Fin 7) : (V m c (Proc.devRef .tc main_v98) : S512x7x7x1.Idx → Elt F .i32) (ix4 n i j 0)
    = wrap 4#32 ((V m c (Proc.devRef .tc main_v1) : S512.Idx → BitVec 32) (ix1 n)) := by
  obtain ⟨W, h⟩ := V_tail m c 85
  rw [h]
  after_reads_simp
  pointwise
theorem v99_of (c : Dev nD) (n : Fin 512) (i j : Fin 7) : (V m c (Proc.devRef .tc main_v99) : S512x7x7x1.Idx → Elt F .i32) (ix4 n i j 0)
    = wrap 200#32 ((V m c (Proc.devRef .tc main_v43) : S512x7.Idx → BitVec 32) (ix2 n i)) := by
  obtain ⟨W, h⟩ := V_tail m c 85
  rw [h]
  after_reads_simp
  pointwise
theorem v100_of (c : Dev nD) (n : Fin 512) (i j : Fin 7) : (V m c (Proc.devRef .tc main_v100) : S512x7x7x1.Idx → Elt F .i32) (ix4 n i j 0)
    = wrap 200#32 ((V m c (Proc.devRef .tc main_v51) : S512x7.Idx → BitVec 32) (ix2 n j)) := by
  obtain ⟨W, h⟩ := V_tail m c 85
  rw [h]
  after_reads_simp
  pointwise
theorem v101_0 (c : Dev nD) (n : Fin 512) (i j : Fin 7) : (V m c (Proc.devRef .tc main_v101) : S512x7x7x3.Idx → Elt F .i32) (ix4 n i j 0)
    = (V m c (Proc.devRef .tc main_v98) : S512x7x7x1.Idx → BitVec 32) (ix4 n i j 0) := by
  obtain ⟨W, h⟩ := V_tail m c 146
  rw [h]
  after_reads_simp
  pointwise <;> rfl
theorem v101_1 (c : Dev nD) (n : Fin 512) (i j : Fin 7) : (V m c (Proc.devRef .tc main_v101) : S512x7x7x3.Idx → Elt F .i32) (ix4 n i j 1)
    = (V m c (Proc.devRef .tc main_v99) : S512x7x7x1.Idx → BitVec 32) (ix4 n i j 0) := by
  obtain ⟨W, h⟩ := V_tail m c 146
  rw [h]
  after_reads_simp
  pointwise <;> rfl
theorem v101_2 (c : Dev nD) (n : Fin 512) (i j : Fin 7) : (V m c (Proc.devRef .tc main_v101) : S512x7x7x3.Idx → Elt F .i32) (ix4 n i j 2)
    = (V m c (Proc.devRef .tc main_v100) : S512x7x7x1.Idx → BitVec 32) (ix4 n i j 0) := by
  obtain ⟨W, h⟩ := V_tail m c 146
  rw [h]
  after_reads_simp
  pointwise <;> rfl
theorem v102_of (c : Dev nD) : (V m c (Proc.devRef .tc main_v102) : S512x7x7x256.Idx → Elt F .f32)
    = Host.gather gr (m ((c.tc : Thread nD τ).loc main_arg0) : S4x256x200x200.Idx → Elt F .f32) (V m c (Proc.devRef .tc main_v101)) := by
  rw [← V_arg0 m c]
  obtain ⟨W, h⟩ := V_tail m c 147
  rw [h]
  after_reads_simp
/-- Where gather 127 reads: image, row and column words. -/
theorem v123_of (c : Dev nD) (n : Fin 512) (i j : Fin 7) : (V m c (Proc.devRef .tc main_v123) : S512x7x7x1.Idx → Elt F .i32) (ix4 n i j 0)
    = wrap 4#32 ((V m c (Proc.devRef .tc main_v1) : S512.Idx → BitVec 32) (ix1 n)) := by
  obtain ⟨W, h⟩ := V_tail m c 85
  rw [h]
  after_reads_simp
  pointwise
theorem v124_of (c : Dev nD) (n : Fin 512) (i j : Fin 7) : (V m c (Proc.devRef .tc main_v124) : S512x7x7x1.Idx → Elt F .i32) (ix4 n i j 0)
    = wrap 200#32 ((V m c (Proc.devRef .tc main_v46) : S512x7.Idx → BitVec 32) (ix2 n i)) := by
  obtain ⟨W, h⟩ := V_tail m c 85
  rw [h]
  after_reads_simp
  pointwise
theorem v125_of (c : Dev nD) (n : Fin 512) (i j : Fin 7) : (V m c (Proc.devRef .tc main_v125) : S512x7x7x1.Idx → Elt F .i32) (ix4 n i j 0)
    = wrap 200#32 ((V m c (Proc.devRef .tc main_v48) : S512x7.Idx → BitVec 32) (ix2 n j)) := by
  obtain ⟨W, h⟩ := V_tail m c 85
  rw [h]
  after_reads_simp
  pointwise
theorem v126_0 (c : Dev nD) (n : Fin 512) (i j : Fin 7) : (V m c (Proc.devRef .tc main_v126) : S512x7x7x3.Idx → Elt F .i32) (ix4 n i j 0)
    = (V m c (Proc.devRef .tc main_v123) : S512x7x7x1.Idx → BitVec 32) (ix4 n i j 0) := by
  obtain ⟨W, h⟩ := V_tail m c 177
  rw [h]
  after_reads_simp
  pointwise <;> rfl
theorem v126_1 (c : Dev nD) (n : Fin 512) (i j : Fin 7) : (V m c (Proc.devRef .tc main_v126) : S512x7x7x3.Idx → Elt F .i32) (ix4 n i j 1)
    = (V m c (Proc.devRef .tc main_v124) : S512x7x7x1.Idx → BitVec 32) (ix4 n i j 0) := by
  obtain ⟨W, h⟩ := V_tail m c 177
  rw [h]
  after_reads_simp
  pointwise <;> rfl
theorem v126_2 (c : Dev nD) (n : Fin 512) (i j : Fin 7) : (V m c (Proc.devRef .tc main_v126) : S512x7x7x3.Idx → Elt F .i32) (ix4 n i j 2)
    = (V m c (Proc.devRef .tc main_v125) : S512x7x7x1.Idx → BitVec 32) (ix4 n i j 0) := by
  obtain ⟨W, h⟩ := V_tail m c 177
  rw [h]
  after_reads_simp
  pointwise <;> rfl
theorem v127_of (c : Dev nD) : (V m c (Proc.devRef .tc main_v127) : S512x7x7x256.Idx → Elt F .f32)
    = Host.gather gr (m ((c.tc : Thread nD τ).loc main_arg0) : S4x256x200x200.Idx → Elt F .f32) (V m c (Proc.devRef .tc main_v126)) := by
  rw [← V_arg0 m c]
  obtain ⟨W, h⟩ := V_tail m c 178
  rw [h]
  after_reads_simp
/-- Where gather 152 reads: image, row and column words. -/
theorem v148_of (c : Dev nD) (n : Fin 512) (i j : Fin 7) : (V m c (Proc.devRef .tc main_v148) : S512x7x7x1.Idx → Elt F .i32) (ix4 n i j 0)
    = wrap 4#32 ((V m c (Proc.devRef .tc main_v1) : S512.Idx → BitVec 32) (ix1 n)) := by
  obtain ⟨W, h⟩ := V_tail m c 85
  rw [h]
  after_reads_simp
  pointwise
theorem v149_of (c : Dev nD) (n : Fin 512) (i j : Fin 7) : (V m c (Proc.devRef .tc main_v149) : S512x7x7x1.Idx → Elt F .i32) (ix4 n i j 0)
    = wrap 200#32 ((V m c (Proc.devRef .tc main_v46) : S512x7.Idx → BitVec 32) (ix2 n i)) := by
  obtain ⟨W, h⟩ := V_tail m c 85
  rw [h]
  after_reads_simp
  pointwise
theorem v150_of (c : Dev nD) (n : Fin 512) (i j : Fin 7) : (V m c (Proc.devRef .tc main_v150) : S512x7x7x1.Idx → Elt F .i32) (ix4 n i j 0)
    = wrap 200#32 ((V m c (Proc.devRef .tc main_v51) : S512x7.Idx → BitVec 32) (ix2 n j)) := by
  obtain ⟨W, h⟩ := V_tail m c 85
  rw [h]
  after_reads_simp
  pointwise
theorem v151_0 (c : Dev nD) (n : Fin 512) (i j : Fin 7) : (V m c (Proc.devRef .tc main_v151) : S512x7x7x3.Idx → Elt F .i32) (ix4 n i j 0)
    = (V m c (Proc.devRef .tc main_v148) : S512x7x7x1.Idx → BitVec 32) (ix4 n i j 0) := by
  obtain ⟨W, h⟩ := V_tail m c 208
  rw [h]
  after_reads_simp
  pointwise <;> rfl
theorem v151_1 (c : Dev nD) (n : Fin 512) (i j : Fin 7) : (V m c (Proc.devRef .tc main_v151) : S512x7x7x3.Idx → Elt F .i32) (ix4 n i j 1)
    = (V m c (Proc.devRef .tc main_v149) : S512x7x7x1.Idx → BitVec 32) (ix4 n i j 0) := by
  obtain ⟨W, h⟩ := V_tail m c 208
  rw [h]
  after_reads_simp
  pointwise <;> rfl
theorem v151_2 (c : Dev nD) (n : Fin 512) (i j : Fin 7) : (V m c (Proc.devRef .tc main_v151) : S512x7x7x3.Idx → Elt F .i32) (ix4 n i j 2)
    = (V m c (Proc.devRef .tc main_v150) : S512x7x7x1.Idx → BitVec 32) (ix4 n i j 0) := by
  obtain ⟨W, h⟩ := V_tail m c 208
  rw [h]
  after_reads_simp
  pointwise <;> rfl
theorem v152_of (c : Dev nD) : (V m c (Proc.devRef .tc main_v152) : S512x7x7x256.Idx → Elt F .f32)
    = Host.gather gr (m ((c.tc : Thread nD τ).loc main_arg0) : S4x256x200x200.Idx → Elt F .f32) (V m c (Proc.devRef .tc main_v151)) := by
  rw [← V_arg0 m c]
  obtain ⟨W, h⟩ := V_tail m c 209
  rw [h]
  after_reads_simp
/-- The reference's result. -/
theorem v182_of (c : Dev nD) (n : Fin 512) (ch : Fin 256) (i j : Fin 7) : (V m c (Proc.devRef .tc main_v182) : S512x256x7x7.Idx → Elt F .f32) (ix4 n ch i j)
    = FloatOps.addf (FloatOps.addf (FloatOps.addf
        (FloatOps.mulf (FloatOps.mulf ((V m c (Proc.devRef .tc main_v77) : S512x7x7x256.Idx → F .f32) (ix4 n i j ch)) (FloatOps.subf (FloatOps.ofBits .f32 0x3F800000#32) ((V m c (Proc.devRef .tc main_v40) : S512x7.Idx → F .f32) (ix2 n i)))) (FloatOps.subf (FloatOps.ofBits .f32 0x3F800000#32) ((V m c (Proc.devRef .tc main_v41) : S512x7.Idx → F .f32) (ix2 n j))))
        (FloatOps.mulf (FloatOps.mulf ((V m c (Proc.devRef .tc main_v102) : S512x7x7x256.Idx → F .f32) (ix4 n i j ch)) (FloatOps.subf (FloatOps.ofBits .f32 0x3F800000#32) ((V m c (Proc.devRef .tc main_v40) : S512x7.Idx → F .f32) (ix2 n i)))) ((V m c (Proc.devRef .tc main_v41) : S512x7.Idx → F .f32) (ix2 n j))))
        (FloatOps.mulf (FloatOps.mulf ((V m c (Proc.devRef .tc main_v127) : S512x7x7x256.Idx → F .f32) (ix4 n i j ch)) ((V m c (Proc.devRef .tc main_v40) : S512x7.Idx → F .f32) (ix2 n i))) (FloatOps.subf (FloatOps.ofBits .f32 0x3F800000#32) ((V m c (Proc.devRef .tc main_v41) : S512x7.Idx → F .f32) (ix2 n j)))))
        (FloatOps.mulf (FloatOps.mulf ((V m c (Proc.devRef .tc main_v152) : S512x7x7x256.Idx → F .f32) (ix4 n i j ch)) ((V m c (Proc.devRef .tc main_v40) : S512x7.Idx → F .f32) (ix2 n i))) ((V m c (Proc.devRef .tc main_v41) : S512x7.Idx → F .f32) (ix2 n j))) := by
  obtain ⟨W, h⟩ := V_tail m c 210
  rw [h]
  after_reads_simp
  pointwise

end Cert.ReferenceIdeal.Hand
-- ==== Proof.RefOut.lean ====
/-
  Hand-written, untrusted. The reference's result, element by element: four image elements, weighted.
-/
module

public import proofs.«01_k».proof.Proof.RefVals2
public import proofs.«01_k».proof.Proof.ScalReal

@[expose] public section

noncomputable section

namespace Cert.ReferenceIdeal.Hand

open Cert.ReferenceIdeal Cert.ReferenceIdeal.Gen Cert.Scal
open Idealize.ShloMosaic Idealize.ShloMosaic.TcCoe Idealize.ShloMosaic.Tactic

/-- A word that is not negative is kept. -/
theorem wrap_pos (k w : BitVec 32) (h : w.toNat ≤ 199) : wrap k w = w := by
  have e : w.slt 0#32 = false := by
    have i := BitVec.toInt_eq_toNat_cond w
    simp only [BitVec.slt, decide_eq_false_iff_not]
    have : (0#32).toInt = 0 := by decide
    omega
  show Scalar.select (BitVec.ofBool (w.slt 0#32)) _ w = w
  rw [e]; rfl

theorem toInt_small (w : BitVec 32) (k : ℕ) (h : w.toNat = k) (hk : k ≤ 199) : w.toInt = k := by
  rw [BitVec.toInt_eq_toNat_cond]; omega

variable (m : (ℓ : Loc nD τ sig) → Buf (Elt Ideal) ℓ)

theorem v1_at (c : Dev nD) (n : Fin 512) : (V m c (Proc.devRef .tc main_v1) : S512.Idx → BitVec 32) (ix1 n) = boxes m c (ix2 n 0) := v1_of m c n

/-- What gather 77 reads. -/
theorem v77_at (c : Dev nD) (n : Fin 512) (i j : Fin 7) (ch : Fin 256) (b : Fin 4) (y x : Fin 200)
    (hb : (boxes m c (ix2 n 0)).toNat = b.val) (hy : (lo (boxes m c (ix2 n 2)) (boxes m c (ix2 n 4)) i).toNat = y.val) (hx : (lo (boxes m c (ix2 n 1)) (boxes m c (ix2 n 3)) j).toNat = x.val) :
    (V m c (Proc.devRef .tc main_v77) : S512x7x7x256.Idx → Ideal .f32) (ix4 n i j ch)
      = (m ((c.tc : Thread nD τ).loc main_arg0) : S4x256x200x200.Idx → Ideal .f32) (ix4 b ch y x) := by
  rw [v77_of]
  refine take3 _ _ n i j ch b y x ?_ ?_ ?_
  · rw [v76_0, v73_of, v1_at, wrap_pos _ _ (by omega)]; exact toInt_small _ _ hb (by omega)
  · rw [v76_1, v74_of, y0_at, wrap_pos _ _ (by omega)]; exact toInt_small _ _ hy (by omega)
  · rw [v76_2, v75_of, x0_at, wrap_pos _ _ (by omega)]; exact toInt_small _ _ hx (by omega)
/-- What gather 102 reads. -/
theorem v102_at (c : Dev nD) (n : Fin 512) (i j : Fin 7) (ch : Fin 256) (b : Fin 4) (y x : Fin 200)
    (hb : (boxes m c (ix2 n 0)).toNat = b.val) (hy : (lo (boxes m c (ix2 n 2)) (boxes m c (ix2 n 4)) i).toNat = y.val) (hx : (hi (boxes m c (ix2 n 1)) (boxes m c (ix2 n 3)) j).toNat = x.val) :
    (V m c (Proc.devRef .tc main_v102) : S512x7x7x256.Idx → Ideal .f32) (ix4 n i j ch)
      = (m ((c.tc : Thread nD τ).loc main_arg0) : S4x256x200x200.Idx → Ideal .f32) (ix4 b ch y x) := by
  rw [v102_of]
  refine take3 _ _ n i j ch b y x ?_ ?_ ?_
  · rw [v101_0, v98_of, v1_at, wrap_pos _ _ (by omega)]; exact toInt_small _ _ hb (by omega)
  · rw [v101_1, v99_of, y0_at, wrap_pos _ _ (by omega)]; exact toInt_small _ _ hy (by omega)
  · rw [v101_2, v100_of, x1_at, wrap_pos _ _ (by omega)]; exact toInt_small _ _ hx (by omega)
/-- What gather 127 reads. -/
theorem v127_at (c : Dev nD) (n : Fin 512) (i j : Fin 7) (ch : Fin 256) (b : Fin 4) (y x : Fin 200)
    (hb : (boxes m c (ix2 n 0)).toNat = b.val) (hy : (hi (boxes m c (ix2 n 2)) (boxes m c (ix2 n 4)) i).toNat = y.val) (hx : (lo (boxes m c (ix2 n 1)) (boxes m c (ix2 n 3)) j).toNat = x.val) :
    (V m c (Proc.devRef .tc main_v127) : S512x7x7x256.Idx → Ideal .f32) (ix4 n i j ch)
      = (m ((c.tc : Thread nD τ).loc main_arg0) : S4x256x200x200.Idx → Ideal .f32) (ix4 b ch y x) := by
  rw [v127_of]
  refine take3 _ _ n i j ch b y x ?_ ?_ ?_
  · rw [v126_0, v123_of, v1_at, wrap_pos _ _ (by omega)]; exact toInt_small _ _ hb (by omega)
  · rw [v126_1, v124_of, y1_at, wrap_pos _ _ (by omega)]; exact toInt_small _ _ hy (by omega)
  · rw [v126_2, v125_of, x0_at, wrap_pos _ _ (by omega)]; exact toInt_small _ _ hx (by omega)
/-- What gather 152 reads. -/
theorem v152_at (c : Dev nD) (n : Fin 512) (i j : Fin 7) (ch : Fin 256) (b : Fin 4) (y x : Fin 200)
    (hb : (boxes m c (ix2 n 0)).toNat = b.val) (hy : (hi (boxes m c (ix2 n 2)) (boxes m c (ix2 n 4)) i).toNat = y.val) (hx : (hi (boxes m c (ix2 n 1)) (boxes m c (ix2 n 3)) j).toNat = x.val) :
    (V m c (Proc.devRef .tc main_v152) : S512x7x7x256.Idx → Ideal .f32) (ix4 n i j ch)
      = (m ((c.tc : Thread nD τ).loc main_arg0) : S4x256x200x200.Idx → Ideal .f32) (ix4 b ch y x) := by
  rw [v152_of]
  refine take3 _ _ n i j ch b y x ?_ ?_ ?_
  · rw [v151_0, v148_of, v1_at, wrap_pos _ _ (by omega)]; exact toInt_small _ _ hb (by omega)
  · rw [v151_1, v149_of, y1_at, wrap_pos _ _ (by omega)]; exact toInt_small _ _ hy (by omega)
  · rw [v151_2, v150_of, x1_at, wrap_pos _ _ (by omega)]; exact toInt_small _ _ hx (by omega)
/-- An element of the result: the four image elements around the sample, weighted by the sample's fractions. -/
theorem out_at (c : Dev nD) (n : Fin 512) (ch : Fin 256) (i j : Fin 7) (b : Fin 4) (y0 y1 x0 x1 : Fin 200)
    (X : S4x256x200x200.Idx → EReal) (hX : ∀ z, (m ((c.tc : Thread nD τ).loc main_arg0) : S4x256x200x200.Idx → Ideal .f32) z = X z)
    (hb : (boxes m c (ix2 n 0)).toNat = b.val)
    (hy0 : (lo (boxes m c (ix2 n 2)) (boxes m c (ix2 n 4)) i).toNat = y0.val) (hy1 : (hi (boxes m c (ix2 n 2)) (boxes m c (ix2 n 4)) i).toNat = y1.val)
    (hx0 : (lo (boxes m c (ix2 n 1)) (boxes m c (ix2 n 3)) j).toNat = x0.val) (hx1 : (hi (boxes m c (ix2 n 1)) (boxes m c (ix2 n 3)) j).toNat = x1.val)
    (f g : ℝ) (hf : Int.fract (rpos (boxes m c (ix2 n 2)) (boxes m c (ix2 n 4)) i) = f) (hg : Int.fract (rpos (boxes m c (ix2 n 1)) (boxes m c (ix2 n 3)) j) = g) :
    (V m c (Proc.devRef .tc main_v182) : S512x256x7x7.Idx → Ideal .f32) (ix4 n ch i j)
      = ((X (ix4 b ch y0 x0) * ((1 - f : ℝ) : EReal) * ((1 - g : ℝ) : EReal)
          + X (ix4 b ch y0 x1) * ((1 - f : ℝ) : EReal) * (g : EReal))
          + X (ix4 b ch y1 x0) * (f : EReal) * ((1 - g : ℝ) : EReal))
          + X (ix4 b ch y1 x1) * (f : EReal) * (g : EReal) := by
  rw [v182_of, v77_at m c n i j ch b y0 x0 hb hy0 hx0, v102_at m c n i j ch b y0 x1 hb hy0 hx1, v127_at m c n i j ch b y1 x0 hb hy1 hx0,
    v152_at m c n i j ch b y1 x1 hb hy1 hx1, v40_at, v41_at, frac_eq, frac_eq, hf, hg, hX, hX, hX, hX]
  have s : ∀ r : ℝ, FloatOps.subf (F := Ideal) (φ := .f32) (FloatOps.ofBits (F := Ideal) .f32 0x3F800000#32) ((r : ℝ) : EReal) = ((1 - r : ℝ) : EReal) := by
    intro r
    show Ideal.ofBits .f32 0x3F800000#32 - (r : EReal) = _
    rw [onef, ← EReal.coe_sub]
  rw [s, s]
  rfl

end Cert.ReferenceIdeal.Hand
-- ==== Proof.Value.lean ====
/-
  Hand-written, untrusted. The kernel's result is the reference's, over the extended reals.
-/
module

public import proofs.«01_k».proof.Defs
public import proofs.«01_k».proof.Proof.Out
public import proofs.«01_k».proof.Proof.RefOut
public import proofs.«01_k».proof.Proof.Frame

@[expose] public section

noncomputable section

namespace Cert.Value

open Cert.Scal
open Idealize.ShloMosaic Idealize.ShloMosaic.TcCoe Idealize.SL.Sem

/-- Two factors of a value, the other way round. -/
theorem swap (a x y : EReal) : a * x * y = x * (y * a) := by
  rw [mul_comm a x, mul_assoc, mul_comm a y]

/-- Inside the grid: mixing along the columns, then along the rows, is the sum of the four weighted values. -/
theorem mix (a b c d : EReal) (f g : ℝ) (hf : 0 ≤ f) (hf' : 0 ≤ 1 - f) :
    ((1 - f : ℝ) : EReal) * (((1 - g : ℝ) : EReal) * a + (g : EReal) * b) + (f : EReal) * (((1 - g : ℝ) : EReal) * c + (g : EReal) * d)
      = ((a * ((1 - f : ℝ) : EReal) * ((1 - g : ℝ) : EReal) + b * ((1 - f : ℝ) : EReal) * (g : EReal)) + c * (f : EReal) * ((1 - g : ℝ) : EReal))
          + d * (f : EReal) * (g : EReal) := by
  rw [EReal.left_distrib_of_nonneg_of_ne_top (EReal.coe_nonneg.mpr hf') (EReal.coe_ne_top _),
    EReal.left_distrib_of_nonneg_of_ne_top (EReal.coe_nonneg.mpr hf) (EReal.coe_ne_top _), swap a, swap b, swap c, swap d, add_assoc, add_assoc]
  rw [add_assoc]

/-- On the last grid line both rows are one: the two parts of each value make the whole. -/
theorem mix_last (a b : EReal) (f g : ℝ) (hf : 0 ≤ f) (hf' : 0 ≤ 1 - f) :
    ((0 : ℝ) : EReal) * (((1 - g : ℝ) : EReal) * a + (g : EReal) * b) + ((1 : ℝ) : EReal) * (((1 - g : ℝ) : EReal) * a + (g : EReal) * b)
      = ((a * ((1 - f : ℝ) : EReal) * ((1 - g : ℝ) : EReal) + b * ((1 - f : ℝ) : EReal) * (g : EReal)) + a * (f : EReal) * ((1 - g : ℝ) : EReal))
          + b * (f : EReal) * (g : EReal) := by
  have w : ∀ x : EReal, ((1 - f : ℝ) : EReal) * x + (f : EReal) * x = x := by
    intro x
    rw [← Sums.dist _ _ x (EReal.coe_nonneg.mpr hf') (EReal.coe_nonneg.mpr hf), ← EReal.coe_add, sub_add_cancel, EReal.coe_one, one_mul]
  rw [EReal.coe_zero, zero_mul, zero_add, EReal.coe_one, one_mul, swap a, swap b, swap a, swap b, add_assoc, add_add_add_comm, w, w]

theorem subi_small (a b : BitVec 32) (x y : ℕ) (ha : a.toNat = x) (hb : b.toNat = y) (h : y ≤ x) (hx : x ≤ 199) : (IntOp.subi a b).toInt = ((x - y : ℕ) : ℤ) := by
  have e : (a - b).toNat = x - y := by rw [BitVec.toNat_sub]; omega
  show (a - b).toInt = _
  rw [BitVec.toInt_eq_toNat_cond, e]; omega

theorem minsi_nat (a : BitVec 32) (x : ℕ) (ha : a.toNat = x) (hx : x ≤ 199) : (IntOp.minsi a 198#32).toNat = min x 198 := by
  have h := minsi_toInt a 198#32
  have : (198#32).toInt = 198 := by decide
  rw [BitVec.toInt_eq_toNat_cond, BitVec.toInt_eq_toNat_cond a] at h
  omega

section
open Cert.KernelIdeal Cert.KernelIdeal.Gen Cert.KernelIdeal.Hand

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The two results agree at every element. -/
theorem elem (c : Dev nD) (c' : Dev Cert.ReferenceIdeal.nD)
    (e0 : (m' ((c'.tc : Thread Cert.ReferenceIdeal.nD Cert.ReferenceIdeal.τ).loc Cert.ReferenceIdeal.main_arg0) : S4x256x200x200.Idx → EReal) = (m ((c.tc : Thread nD τ).loc main_arg0) : S4x256x200x200.Idx → EReal))
    (e1 : Cert.ReferenceIdeal.Hand.boxes m' c' = boxes m c)
    (n : Fin 512) (ch : Fin 256) (i j : Fin 7) (hG : Boxes.Good (boxes m c) n) :
    (Vend m c (Proc.devRef .tc main_v171) : S512x256x7x7.Idx → Ideal .f32) (ix4 n ch i j)
      = (Cert.ReferenceIdeal.Hand.V m' c' (Proc.devRef .tc Cert.ReferenceIdeal.main_v182) : S512x256x7x7.Idx → Ideal .f32) (ix4 n ch i j) := by
  obtain ⟨gi, go, gl, gn⟩ := hG
  -- the words and fractions of the sample
  obtain ⟨f, hf⟩ : ∃ f, Int.fract (rpos (boxes m c (ix2 n 2)) (boxes m c (ix2 n 4)) i) = f := ⟨_, rfl⟩
  obtain ⟨g, hg⟩ : ∃ g, Int.fract (rpos (boxes m c (ix2 n 1)) (boxes m c (ix2 n 3)) j) = g := ⟨_, rfl⟩
  have nf := fract_nonneg (rpos (boxes m c (ix2 n 2)) (boxes m c (ix2 n 4)) i)
  have ng := fract_nonneg (rpos (boxes m c (ix2 n 1)) (boxes m c (ix2 n 3)) j)
  rw [hf] at nf
  rw [hg] at ng
  obtain ⟨y, hy⟩ : ∃ y, (lo (boxes m c (ix2 n 2)) (boxes m c (ix2 n 4)) i).toNat = y := ⟨_, rfl⟩
  obtain ⟨x, hx⟩ : ∃ x, (lo (boxes m c (ix2 n 1)) (boxes m c (ix2 n 3)) j).toNat = x := ⟨_, rfl⟩
  have ly := lo_le (boxes m c (ix2 n 2)) (boxes m c (ix2 n 4)) i
  have bx := lo_between (boxes m c (ix2 n 1)) (boxes m c (ix2 n 3)) j go gl
  have hy' := hi_nat (boxes m c (ix2 n 2)) (boxes m c (ix2 n 4)) i
  have hx' := hi_nat (boxes m c (ix2 n 1)) (boxes m c (ix2 n 3)) j
  rw [hy] at ly hy'
  rw [hx] at bx hx'
  obtain ⟨b, hb⟩ : ∃ b : Fin 4, (boxes m c (ix2 n 0)).toNat = b.val := ⟨⟨_, Nat.lt_succ_of_le gi⟩, rfl⟩
  have lx : x ≤ 199 := bx.2.trans gl
  -- the window's first column
  obtain ⟨k, hk⟩ : ∃ k, min ((boxes m c (ix2 n 1)).toNat / 8 * 8) 120 = k := ⟨_, rfl⟩
  have hcx : ((tabsOf m c).tc (ix1 n)).toNat = k := by
    rw [v86_at m c n (by exact go.trans gl)]
    show (BitVec.ofNat 32 (min ((boxes m c (ix2 n 1)).toNat / 8 * 8) 120)).toNat = k
    rw [hk, BitVec.toNat_ofNat]; omega
  have gn' : (boxes m c (ix2 n 3)).toNat ≤ (boxes m c (ix2 n 1)).toNat + 63 := gn
  have gl' : (boxes m c (ix2 n 3)).toNat ≤ 199 := gl
  have kx : k ≤ x ∧ min 199 (x + 1) - k < 80 := by omega
  have hb' : ((tabsOf m c).tb (ix1 n)).toNat = b.val := by rw [v1_at]; exact hb
  have h0 : (IntOp.subi ((V0 m c (Proc.devRef .tc main_v48) : S512x7.Idx → BitVec 32) (ix2 n j)) ((V0 m c (Proc.devRef .tc main_v86) : S512.Idx → BitVec 32) (ix1 n))).toInt
      = ((x - k : ℕ) : ℤ) := by
    rw [x0_at]; exact subi_small _ _ x k hx hcx kx.1 lx
  have h1 : (IntOp.subi ((V0 m c (Proc.devRef .tc main_v51) : S512x7.Idx → BitVec 32) (ix2 n j)) ((V0 m c (Proc.devRef .tc main_v86) : S512.Idx → BitVec 32) (ix1 n))).toInt
      = ((min 199 (x + 1) - k : ℕ) : ℤ) := by
    rw [x1_at]; exact subi_small _ _ (min 199 (x + 1)) k hx' hcx (by omega) (by omega)
  have w2 : (V0 m c (Proc.devRef .tc main_v96) : S512x7.Idx → Ideal .f32) (ix2 n j) = ((1 - g : ℝ) : EReal) := by
    rw [v96_of, v41_at, frac_eq, hg]
    show Ideal.ofBits .f32 0x3f800000#32 - (g : EReal) = _
    rw [onef, ← EReal.coe_sub]
  have w3 : (V0 m c (Proc.devRef .tc main_v41) : S512x7.Idx → Ideal .f32) (ix2 n j) = (g : EReal) := by
    rw [v41_at, frac_eq, hg]
  have hys : ((V0 m c (Proc.devRef .tc main_v53) : S512x7.Idx → BitVec 32) (ix2 n i)).toNat = min y 198 := by
    rw [v53_at, y0_at]; exact minsi_nat _ y hy ly
  have s0 : (IntOp.subi ((V0 m c (Proc.devRef .tc main_v43) : S512x7.Idx → BitVec 32) (ix2 n i)) ((V0 m c (Proc.devRef .tc main_v53) : S512x7.Idx → BitVec 32) (ix2 n i))).toInt
      = ((y - min y 198 : ℕ) : ℤ) := subi_small _ _ y _ (by rw [y0_at]; exact hy) hys (by omega) ly
  have s1 : (IntOp.subi ((V0 m c (Proc.devRef .tc main_v46) : S512x7.Idx → BitVec 32) (ix2 n i)) ((V0 m c (Proc.devRef .tc main_v53) : S512x7.Idx → BitVec 32) (ix2 n i))).toInt
      = ((min 199 (y + 1) - min y 198 : ℕ) : ℤ) := subi_small _ _ _ _ (by rw [y1_at]; exact hy') hys (by omega) (by omega)
  have w0 := v68_at m c (ix2 n i)
  have w1 := v79_at m c (ix2 n i)
  rw [v40_at, frac_eq, hf, rowWgt_eq f _ _ _ _ _ s0 s1] at w0 w1
  -- the reference's element
  have R := Cert.ReferenceIdeal.Hand.out_at m' c' n ch i j b ⟨y, by omega⟩ ⟨min 199 (y + 1), by omega⟩ ⟨x, by omega⟩ ⟨min 199 (x + 1), by omega⟩
    (m ((c.tc : Thread nD τ).loc main_arg0) : S4x256x200x200.Idx → EReal) (fun z => congrFun e0 z)
    (by rw [e1]; exact hb) (by rw [e1]; exact hy) (by rw [e1]; exact hy') (by rw [e1]; exact hx) (by rw [e1]; exact hx') f g (by rw [e1]; exact hf) (by rw [e1]; exact hg)
  refine Eq.trans ?_ R.symm
  by_cases hl : y ≤ 198
  · have m0 : min y 198 = y := by omega
    have m1 : min 199 (y + 1) = y + 1 := by omega
    have K := out_at m c n ch i j b ⟨y, by omega⟩ ⟨min 199 (y + 1), by omega⟩ ⟨x, by omega⟩ ⟨min 199 (x + 1), by omega⟩
      ⟨x - k, by omega⟩ ⟨min 199 (x + 1) - k, by omega⟩ (1 - f) f (1 - g) g nf.2 nf.1 ng.2 ng.1 h0 h1 hb' (hys.trans m0) m1.symm
      (by rw [hcx]; show k + (x - k) = x; omega) (by rw [hcx]; show k + (min 199 (x + 1) - k) = min 199 (x + 1); omega)
      (by rw [w0, m0, m1]; simp) (by rw [w1, m0, m1]; simp) w2 w3
    exact K.trans (mix _ _ _ _ f g nf.1 nf.2)
  · have hy9 : y = 199 := by omega
    subst hy9
    have K := out_at m c n ch i j b ⟨198, by omega⟩ ⟨199, by omega⟩ ⟨x, by omega⟩ ⟨min 199 (x + 1), by omega⟩
      ⟨x - k, by omega⟩ ⟨min 199 (x + 1) - k, by omega⟩ 0 1 (1 - g) g le_rfl zero_le_one ng.2 ng.1 h0 h1 hb' hys rfl
      (by rw [hcx]; show k + (x - k) = x; omega) (by rw [hcx]; show k + (min 199 (x + 1) - k) = min 199 (x + 1); omega)
      (by rw [w0]; simp) (by rw [w1]; simp) w2 w3
    rw [EReal.coe_zero, zero_mul] at K
    have M := mix_last ((m ((c.tc : Thread nD τ).loc main_arg0) : S4x256x200x200.Idx → EReal) (ix4 b ch ⟨199, by omega⟩ ⟨x, by omega⟩))
      ((m ((c.tc : Thread nD τ).loc main_arg0) : S4x256x200x200.Idx → EReal) (ix4 b ch ⟨199, by omega⟩ ⟨min 199 (x + 1), by omega⟩)) f g nf.1 nf.2
    rw [EReal.coe_zero, zero_mul] at M
    exact K.trans M

end

/-- From memories that agree on the arguments, both programs run and their results are equal. -/
theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hgood : ∀ c n, Boxes.Good (Cert.KernelIdeal.Hand.boxes m c) n)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine ⟨fun c => Cert.KernelIdeal.Hand.Vend m c (Proc.devRef .tc Cert.KernelIdeal.main_v171), ?_, ?_⟩
  · exact (θ_run _ _ _).mono (fun r hr c =>
      ⟨hr.1 c _ Cert.KernelIdeal.Hand.v171_rest, (hr.1 c _ Cert.KernelIdeal.Hand.arg0_rest).trans (Cert.KernelIdeal.Hand.end_arg0 m c),
        (hr.1 c _ Cert.KernelIdeal.Hand.arg1_rest).trans (Cert.KernelIdeal.Hand.end_arg1 m c)⟩)
      (Cert.KernelIdeal.Hand.run_main m g fun c => Cert.KernelIdeal.Hand.tables_ok m c (hgood c))
  · refine (θ_run _ _ _).mono (fun r hr c =>
      ⟨(hr c _).trans ?_, (hr c _).trans (Cert.ReferenceIdeal.Hand.V_arg0 m' c), (hr c _).trans (Cert.ReferenceIdeal.Hand.V_arg1 m' c)⟩)
      (Cert.ReferenceIdeal.Hand.run m' g')
    refine funext fun z => ?_
    have e := elem m m' c c (hagree c).1 (hagree c).2 (z 0) (z 1) (z 2) (z 3) (hgood c (z 0))
    have hz : z = ix4 (z 0) (z 1) (z 2) (z 3) := funext fun a => by fin_cases a <;> rfl
    rw [hz]
    exact e.symm

end Cert.Value
-- ==== Proof.lean ====
/- Hand-written, untrusted. The certificate's claim, from the modules under Proof/: the kernel's run with its ring of
   copies in flight (Ring, Parts, Body, Data, Run), what the host operations leave (Host, Frame), the reference's run
   (Ref, RefHost), and the two results' equality (Value and what it imports). -/
module

public import proofs.«01_k».proof.Defs
public import proofs.«01_k».proof.Proof.Same
public import proofs.«01_k».proof.Proof.RefHost
public import proofs.«01_k».proof.Proof.Value

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_boxes_on_grid.Facts := Cert.Boxes.facts

/-- The kernel as printed runs, its arguments stay, every counter ends at zero. -/
theorem frame_p : Cert.quiescent_Kernel := fun m g h =>
  Cert.Same.frame_printed m g fun c n => Cert.Boxes.good_of_pre _ _ (h c) n

/-- So does its idealization. -/
theorem frame_pi : Cert.quiescent_KernelIdeal := fun m g h =>
  Cert.KernelIdeal.Hand.frame m g fun c n => Cert.Boxes.good_of_pre _ _ (h c) n

/-- So does the reference. -/
theorem frame_ri : Cert.quiescent_ReferenceIdeal := fun m g _ => Cert.ReferenceIdeal.Hand.frame m g

/-- And under the precondition. -/
theorem frame_ri_pre : Cert.quiescent_ReferenceIdeal_pre_boxes_on_grid := fun m g _ => Cert.ReferenceIdeal.Hand.frame m g

/-- The two results are equal. -/
theorem algebraic : Cert.algebraic_KernelIdeal_ReferenceIdeal := fun m g m' g' h hagree =>
  Cert.Value.algebraic m g m' g' (fun c n => Cert.Boxes.good_of_pre _ _ (h c) n) hagree

/-- The certificate's claim. -/
theorem claim : Cert.Claim :=
  ⟨Cert.Kernel.Gen.facts, Cert.KernelIdeal.Gen.facts, Cert.ReferenceIdeal.Gen.facts, Cert.Boxes.facts,
    frame_p, frame_pi, frame_ri, frame_ri_pre, trivial, algebraic⟩

end Cert.Proof

end
